-- ==== Defs.lean ====
def Pre_Kernel [hPre_inputs_ok : Cert.Pre_inputs_ok.Facts] (m : (ℓ : Loc Cert.Kernel.nD Cert.Kernel.τ Cert.Kernel.sig) → Buf (Elt Bits) ℓ) : Prop :=
  ∀ c : Dev Cert.Kernel.nD,
    (Cert.Pre_inputs_ok.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def quiescent_Kernel [hKernel : Cert.Kernel.Facts] [hPre_inputs_ok : Cert.Pre_inputs_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  IdealRules.named_const.Statement Cert.KernelIdeal.κ "smooth" .f32 0x36CCD333#32 ((1 / 163820 : ℝ) : EReal)
  ∧ IdealRules.named_const.Statement Cert.KernelIdeal.κ "conf_less_smooth" .f32 0x3F666600#32 ((147437 / 163820 : ℝ) : EReal)
  ∧ IdealRules.named_const.Statement Cert.KernelIdeal.κ "row_const" .f32 0xBFA5D22F#32 (((1 / 10) * (Real.log (387420489 / 163820000000000)) : ℝ) : EReal)

def preserves_Reference_ReferenceIdeal : Prop :=
  True

def algebraic_KernelIdeal_ReferenceIdeal [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_inputs_ok : Cert.Pre_inputs_ok.Facts),
    quiescent_Kernel (hKernel := hKernel) (hPre_inputs_ok := hPre_inputs_ok)
    ∧ quiescent_KernelIdeal (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal) (hPre_inputs_ok := hPre_inputs_ok)
-- ==== Pre_inputs_ok.lean ====
abbrev S4096x16384 : Shape := ⟨2, ![4096, 16384]⟩
abbrev S4096 : Shape := ⟨1, ![4096]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x16384 .f32) (main_arg1 : IVec S4096 32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 16384#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x16384 : Shape := ⟨2, ![4096, 16384]⟩
abbrev S4096 : Shape := ⟨1, ![4096]⟩
abbrev S16x1x256 : Shape := ⟨3, ![16, 1, 256]⟩
abbrev S1x1 : Shape := ⟨2, ![1, 1]⟩
abbrev S1x1x256 : Shape := ⟨3, ![1, 1, 256]⟩
abbrev S256x16384 : Shape := ⟨2, ![256, 16384]⟩
abbrev S256 : Shape := ⟨1, ![256]⟩
abbrev S1x256 : Shape := ⟨2, ![1, 256]⟩
abbrev S256x1 : Shape := ⟨2, ![256, 1]⟩
abbrev S1 : Shape := ⟨1, ![1]⟩
abbrev S32x2x16 : Shape := ⟨3, ![32, 2, 16]⟩
abbrev S128 : Shape := ⟨1, ![128]⟩
abbrev S16x8x128 : Shape := ⟨3, ![16, 8, 128]⟩
abbrev S2x16 : Shape := ⟨2, ![2, 16]⟩
abbrev S_ : Shape := ⟨0, ![]⟩
abbrev S16 : Shape := ⟨1, ![16]⟩
abbrev S1x8x128 : Shape := ⟨3, ![1, 8, 128]⟩
abbrev S8x128 : Shape := ⟨2, ![8, 128]⟩
abbrev S1x1x16 : Shape := ⟨3, ![1, 1, 16]⟩
abbrev S1x16 : Shape := ⟨2, ![1, 16]⟩
abbrev S1x2x16 : Shape := ⟨3, ![1, 2, 16]⟩
abbrev S32x1x16 : Shape := ⟨3, ![32, 1, 16]⟩
abbrev S32x16 : Shape := ⟨2, ![32, 16]⟩

abbrev nBuf : Table → Nat
  | .hbm => 16
  | .local .tc .vmem => 4
  | .local .tc .smem => 1
  | .local .scVector .vmem => 3
  | _ => 0

abbrev bufTy : (tb : Table) → Fin (nBuf tb) → BufTy
  | .hbm, ⟨0, _⟩ => ⟨S4096x16384, .f32⟩
  | .hbm, ⟨1, _⟩ => ⟨S4096, .i32⟩
  | .hbm, ⟨2, _⟩ => ⟨S16x1x256, .i32⟩
  | .hbm, ⟨3, _⟩ => ⟨S1x1, .f32⟩
  | .hbm, ⟨4, _⟩ => ⟨S32x2x16, .f32⟩
  | .hbm, ⟨5, _⟩ => ⟨S32x1x16, .f32⟩
  | .hbm, ⟨6, _⟩ => ⟨S32x16, .f32⟩
  | .hbm, ⟨7, _⟩ => ⟨S_, .f32⟩
  | .hbm, ⟨8, _⟩ => ⟨S_, .f32⟩
  | .hbm, ⟨9, _⟩ => ⟨S32x1x16, .f32⟩
  | .hbm, ⟨10, _⟩ => ⟨S32x16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local .tc .vmem, ⟨0, _⟩ => ⟨S1x1x256, .i32⟩
  | .local .tc .vmem, ⟨1, _⟩ => ⟨S1x1x256, .i32⟩
  | .local .tc .vmem, ⟨2, _⟩ => ⟨S256x16384, .f32⟩
  | .local .tc .vmem, ⟨3, _⟩ => ⟨S256x16384, .f32⟩
  | .local .tc .smem, ⟨0, _⟩ => ⟨S1x1, .f32⟩
  | .local .scVector .vmem, ⟨0, _⟩ => ⟨S128, .i32⟩
  | .local .scVector .vmem, ⟨1, _⟩ => ⟨S16x8x128, .f32⟩
  | .local .scVector .vmem, ⟨2, _⟩ => ⟨S2x16, .f32⟩
  | _, _ => ⟨S4096x16384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_arg0_scv : Ref sig .scVector := ⟨.hbm, 0, rfl⟩
abbrev main_arg1_scv : Ref sig .scVector := ⟨.hbm, 1, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_mult1 (v9 : BitVec 32) : BitVec 32 :=
  let c_m128_i32 : BitVec 32 := 4294967168#32
  let v10 : BitVec 32 := Scalar.andi v9 c_m128_i32
  v10

def k1_mult2 (v15 : BitVec 32) : BitVec 32 :=
  let c_m128_i32_2 : BitVec 32 := 4294967168#32
  let v16 : BitVec 32 := Scalar.andi v15 c_m128_i32_2
  v16

def k1_mult3 (v21 : BitVec 32) : BitVec 32 :=
  let c_m128_i32_5 : BitVec 32 := 4294967168#32
  let v22 : BitVec 32 := Scalar.andi v21 c_m128_i32_5
  v22

def k1_mult4 (v27 : BitVec 32) : BitVec 32 :=
  let c_m128_i32_8 : BitVec 32 := 4294967168#32
  let v28 : BitVec 32 := Scalar.andi v27 c_m128_i32_8
  v28

def k1_off2 (i : grid1.Coords) (v9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v12 : BitVec 32 := Scalar.addi v2 c0_i32
  let c0_i32_1 : BitVec 32 := 0#32
  let v13 : BitVec 32 := Scalar.addi v12 c0_i32_1
  let c_m128_i32 : BitVec 32 := 4294967168#32
  let v10 : BitVec 32 := Scalar.andi v9 c_m128_i32
  let v11 : BitVec 32 := v10
  ![v13.toNat, v11.toNat]

def k1_chk1 (i : grid1.Coords) (v9 : BitVec 32) : Prop :=
  (128 ∣ (k1_mult1 v9).toNat) ∧
  (∀ a, (k1_off2 i v9) a + S8x128.size a ≤ S4096x16384.size a)
theorem k1_mult1_dvd : ∀ (i : grid1.Coords) (v9 : BitVec 32) (k1_hw1 : k1_chk1 i v9), 128 ∣ (k1_mult1 v9).toNat := fun i v9 k1_hw1 => k1_hw1.1
theorem k1_off2_inb : ∀ (i : grid1.Coords) (v9 : BitVec 32) (k1_hw1 : k1_chk1 i v9), ∀ a, (k1_off2 i v9) a + S8x128.size a ≤ S4096x16384.size a := fun i v9 k1_hw1 => k1_hw1.2

def k1_off3 (i : grid1.Coords) (v15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3 : BitVec 32 := 0#32
  let v18 : BitVec 32 := Scalar.addi v2 c0_i32_3
  let c0_i32_4 : BitVec 32 := 0#32
  let v19 : BitVec 32 := Scalar.addi v18 c0_i32_4
  let c_m128_i32_2 : BitVec 32 := 4294967168#32
  let v16 : BitVec 32 := Scalar.andi v15 c_m128_i32_2
  let v17 : BitVec 32 := v16
  ![v19.toNat, v17.toNat]

def k1_chk2 (i : grid1.Coords) (v15 : BitVec 32) : Prop :=
  (128 ∣ (k1_mult2 v15).toNat) ∧
  (∀ a, (k1_off3 i v15) a + S8x128.size a ≤ S4096x16384.size a)
theorem k1_mult2_dvd : ∀ (i : grid1.Coords) (v15 : BitVec 32) (k1_hw2 : k1_chk2 i v15), 128 ∣ (k1_mult2 v15).toNat := fun i v15 k1_hw2 => k1_hw2.1
theorem k1_off3_inb : ∀ (i : grid1.Coords) (v15 : BitVec 32) (k1_hw2 : k1_chk2 i v15), ∀ a, (k1_off3 i v15) a + S8x128.size a ≤ S4096x16384.size a := fun i v15 k1_hw2 => k1_hw2.2

def k1_off4 (i : grid1.Coords) (v21 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_6 : BitVec 32 := 0#32
  let v24 : BitVec 32 := Scalar.addi v2 c0_i32_6
  let c0_i32_7 : BitVec 32 := 0#32
  let v25 : BitVec 32 := Scalar.addi v24 c0_i32_7
  let c_m128_i32_5 : BitVec 32 := 4294967168#32
  let v22 : BitVec 32 := Scalar.andi v21 c_m128_i32_5
  let v23 : BitVec 32 := v22
  ![v25.toNat, v23.toNat]

def k1_chk3 (i : grid1.Coords) (v21 : BitVec 32) : Prop :=
  (128 ∣ (k1_mult3 v21).toNat) ∧
  (∀ a, (k1_off4 i v21) a + S8x128.size a ≤ S4096x16384.size a)
theorem k1_mult3_dvd : ∀ (i : grid1.Coords) (v21 : BitVec 32) (k1_hw3 : k1_chk3 i v21), 128 ∣ (k1_mult3 v21).toNat := fun i v21 k1_hw3 => k1_hw3.1
theorem k1_off4_inb : ∀ (i : grid1.Coords) (v21 : BitVec 32) (k1_hw3 : k1_chk3 i v21), ∀ a, (k1_off4 i v21) a + S8x128.size a ≤ S4096x16384.size a := fun i v21 k1_hw3 => k1_hw3.2

def k1_off5 (i : grid1.Coords) (v27 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_9 : BitVec 32 := 0#32
  let v30 : BitVec 32 := Scalar.addi v2 c0_i32_9
  let c0_i32_10 : BitVec 32 := 0#32
  let v31 : BitVec 32 := Scalar.addi v30 c0_i32_10
  let c_m128_i32_8 : BitVec 32 := 4294967168#32
  let v28 : BitVec 32 := Scalar.andi v27 c_m128_i32_8
  let v29 : BitVec 32 := v28
  ![v31.toNat, v29.toNat]

def k1_chk4 (i : grid1.Coords) (v27 : BitVec 32) : Prop :=
  (128 ∣ (k1_mult4 v27).toNat) ∧
  (∀ a, (k1_off5 i v27) a + S8x128.size a ≤ S4096x16384.size a)
theorem k1_mult4_dvd : ∀ (i : grid1.Coords) (v27 : BitVec 32) (k1_hw4 : k1_chk4 i v27), 128 ∣ (k1_mult4 v27).toNat := fun i v27 k1_hw4 => k1_hw4.1
theorem k1_off5_inb : ∀ (i : grid1.Coords) (v27 : BitVec 32) (k1_hw4 : k1_chk4 i v27), ∀ a, (k1_off5 i v27) a + S8x128.size a ≤ S4096x16384.size a := fun i v27 k1_hw4 => k1_hw4.2

def k1_mult5 (v81 : BitVec 32) : BitVec 32 :=
  let c_m128_i32_49 : BitVec 32 := 4294967168#32
  let v82 : BitVec 32 := Scalar.andi v81 c_m128_i32_49
  v82

def k1_mult6 (v87 : BitVec 32) : BitVec 32 :=
  let c_m128_i32_52 : BitVec 32 := 4294967168#32
  let v88 : BitVec 32 := Scalar.andi v87 c_m128_i32_52
  v88

def k1_mult7 (v93 : BitVec 32) : BitVec 32 :=
  let c_m128_i32_55 : BitVec 32 := 4294967168#32
  let v94 : BitVec 32 := Scalar.andi v93 c_m128_i32_55
  v94

def k1_mult8 (v99 : BitVec 32) : BitVec 32 :=
  let c_m128_i32_58 : BitVec 32 := 4294967168#32
  let v100 : BitVec 32 := Scalar.andi v99 c_m128_i32_58
  v100

def k1_off6 (i : grid1.Coords) (v81 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_50 : BitVec 32 := 0#32
  let v84 : BitVec 32 := Scalar.addi v2 c0_i32_50
  let c0_i32_51 : BitVec 32 := 0#32
  let v85 : BitVec 32 := Scalar.addi v84 c0_i32_51
  let c_m128_i32_49 : BitVec 32 := 4294967168#32
  let v82 : BitVec 32 := Scalar.andi v81 c_m128_i32_49
  let v83 : BitVec 32 := v82
  ![v85.toNat, v83.toNat]

def k1_chk5 (i : grid1.Coords) (v81 : BitVec 32) : Prop :=
  (128 ∣ (k1_mult5 v81).toNat) ∧
  (∀ a, (k1_off6 i v81) a + S8x128.size a ≤ S4096x16384.size a)
theorem k1_mult5_dvd : ∀ (i : grid1.Coords) (v81 : BitVec 32) (k1_hw5 : k1_chk5 i v81), 128 ∣ (k1_mult5 v81).toNat := fun i v81 k1_hw5 => k1_hw5.1
theorem k1_off6_inb : ∀ (i : grid1.Coords) (v81 : BitVec 32) (k1_hw5 : k1_chk5 i v81), ∀ a, (k1_off6 i v81) a + S8x128.size a ≤ S4096x16384.size a := fun i v81 k1_hw5 => k1_hw5.2

def k1_off7 (i : grid1.Coords) (v87 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_53 : BitVec 32 := 0#32
  let v90 : BitVec 32 := Scalar.addi v2 c0_i32_53
  let c0_i32_54 : BitVec 32 := 0#32
  let v91 : BitVec 32 := Scalar.addi v90 c0_i32_54
  let c_m128_i32_52 : BitVec 32 := 4294967168#32
  let v88 : BitVec 32 := Scalar.andi v87 c_m128_i32_52
  let v89 : BitVec 32 := v88
  ![v91.toNat, v89.toNat]

def k1_chk6 (i : grid1.Coords) (v87 : BitVec 32) : Prop :=
  (128 ∣ (k1_mult6 v87).toNat) ∧
  (∀ a, (k1_off7 i v87) a + S8x128.size a ≤ S4096x16384.size a)
theorem k1_mult6_dvd : ∀ (i : grid1.Coords) (v87 : BitVec 32) (k1_hw6 : k1_chk6 i v87), 128 ∣ (k1_mult6 v87).toNat := fun i v87 k1_hw6 => k1_hw6.1
theorem k1_off7_inb : ∀ (i : grid1.Coords) (v87 : BitVec 32) (k1_hw6 : k1_chk6 i v87), ∀ a, (k1_off7 i v87) a + S8x128.size a ≤ S4096x16384.size a := fun i v87 k1_hw6 => k1_hw6.2

def k1_off8 (i : grid1.Coords) (v93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_56 : BitVec 32 := 0#32
  let v96 : BitVec 32 := Scalar.addi v2 c0_i32_56
  let c0_i32_57 : BitVec 32 := 0#32
  let v97 : BitVec 32 := Scalar.addi v96 c0_i32_57
  let c_m128_i32_55 : BitVec 32 := 4294967168#32
  let v94 : BitVec 32 := Scalar.andi v93 c_m128_i32_55
  let v95 : BitVec 32 := v94
  ![v97.toNat, v95.toNat]

def k1_chk7 (i : grid1.Coords) (v93 : BitVec 32) : Prop :=
  (128 ∣ (k1_mult7 v93).toNat) ∧
  (∀ a, (k1_off8 i v93) a + S8x128.size a ≤ S4096x16384.size a)
theorem k1_mult7_dvd : ∀ (i : grid1.Coords) (v93 : BitVec 32) (k1_hw7 : k1_chk7 i v93), 128 ∣ (k1_mult7 v93).toNat := fun i v93 k1_hw7 => k1_hw7.1
theorem k1_off8_inb : ∀ (i : grid1.Coords) (v93 : BitVec 32) (k1_hw7 : k1_chk7 i v93), ∀ a, (k1_off8 i v93) a + S8x128.size a ≤ S4096x16384.size a := fun i v93 k1_hw7 => k1_hw7.2

def k1_off9 (i : grid1.Coords) (v99 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_59 : BitVec 32 := 0#32
  let v102 : BitVec 32 := Scalar.addi v2 c0_i32_59
  let c0_i32_60 : BitVec 32 := 0#32
  let v103 : BitVec 32 := Scalar.addi v102 c0_i32_60
  let c_m128_i32_58 : BitVec 32 := 4294967168#32
  let v100 : BitVec 32 := Scalar.andi v99 c_m128_i32_58
  let v101 : BitVec 32 := v100
  ![v103.toNat, v101.toNat]

def k1_chk8 (i : grid1.Coords) (v99 : BitVec 32) : Prop :=
  (128 ∣ (k1_mult8 v99).toNat) ∧
  (∀ a, (k1_off9 i v99) a + S8x128.size a ≤ S4096x16384.size a)
theorem k1_mult8_dvd : ∀ (i : grid1.Coords) (v99 : BitVec 32) (k1_hw8 : k1_chk8 i v99), 128 ∣ (k1_mult8 v99).toNat := fun i v99 k1_hw8 => k1_hw8.1
theorem k1_off9_inb : ∀ (i : grid1.Coords) (v99 : BitVec 32) (k1_hw8 : k1_chk8 i v99), ∀ a, (k1_off9 i v99) a + S8x128.size a ≤ S4096x16384.size a := fun i v99 k1_hw8 => k1_hw8.2

def k1_mult9 (v153 : BitVec 32) : BitVec 32 :=
  let c_m128_i32_97 : BitVec 32 := 4294967168#32
  let v154 : BitVec 32 := Scalar.andi v153 c_m128_i32_97
  v154

def k1_mult10 (v159 : BitVec 32) : BitVec 32 :=
  let c_m128_i32_99 : BitVec 32 := 4294967168#32
  let v160 : BitVec 32 := Scalar.andi v159 c_m128_i32_99
  v160

def k1_mult11 (v165 : BitVec 32) : BitVec 32 :=
  let c_m128_i32_102 : BitVec 32 := 4294967168#32
  let v166 : BitVec 32 := Scalar.andi v165 c_m128_i32_102
  v166

def k1_mult12 (v171 : BitVec 32) : BitVec 32 :=
  let c_m128_i32_105 : BitVec 32 := 4294967168#32
  let v172 : BitVec 32 := Scalar.andi v171 c_m128_i32_105
  v172

def k1_off10 (i : grid1.Coords) (v153 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_98 : BitVec 32 := 0#32
  let v156 : BitVec 32 := Scalar.addi v2 c0_i32_98
  let c8_i32 : BitVec 32 := 8#32
  let v157 : BitVec 32 := Scalar.addi v156 c8_i32
  let c_m128_i32_97 : BitVec 32 := 4294967168#32
  let v154 : BitVec 32 := Scalar.andi v153 c_m128_i32_97
  let v155 : BitVec 32 := v154
  ![v157.toNat, v155.toNat]

def k1_chk9 (i : grid1.Coords) (v153 : BitVec 32) : Prop :=
  (128 ∣ (k1_mult9 v153).toNat) ∧
  (∀ a, (k1_off10 i v153) a + S8x128.size a ≤ S4096x16384.size a)
theorem k1_mult9_dvd : ∀ (i : grid1.Coords) (v153 : BitVec 32) (k1_hw9 : k1_chk9 i v153), 128 ∣ (k1_mult9 v153).toNat := fun i v153 k1_hw9 => k1_hw9.1
theorem k1_off10_inb : ∀ (i : grid1.Coords) (v153 : BitVec 32) (k1_hw9 : k1_chk9 i v153), ∀ a, (k1_off10 i v153) a + S8x128.size a ≤ S4096x16384.size a := fun i v153 k1_hw9 => k1_hw9.2

def k1_off11 (i : grid1.Coords) (v159 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_100 : BitVec 32 := 0#32
  let v162 : BitVec 32 := Scalar.addi v2 c0_i32_100
  let c8_i32_101 : BitVec 32 := 8#32
  let v163 : BitVec 32 := Scalar.addi v162 c8_i32_101
  let c_m128_i32_99 : BitVec 32 := 4294967168#32
  let v160 : BitVec 32 := Scalar.andi v159 c_m128_i32_99
  let v161 : BitVec 32 := v160
  ![v163.toNat, v161.toNat]

def k1_chk10 (i : grid1.Coords) (v159 : BitVec 32) : Prop :=
  (128 ∣ (k1_mult10 v159).toNat) ∧
  (∀ a, (k1_off11 i v159) a + S8x128.size a ≤ S4096x16384.size a)
theorem k1_mult10_dvd : ∀ (i : grid1.Coords) (v159 : BitVec 32) (k1_hw10 : k1_chk10 i v159), 128 ∣ (k1_mult10 v159).toNat := fun i v159 k1_hw10 => k1_hw10.1
theorem k1_off11_inb : ∀ (i : grid1.Coords) (v159 : BitVec 32) (k1_hw10 : k1_chk10 i v159), ∀ a, (k1_off11 i v159) a + S8x128.size a ≤ S4096x16384.size a := fun i v159 k1_hw10 => k1_hw10.2

def k1_off12 (i : grid1.Coords) (v165 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_103 : BitVec 32 := 0#32
  let v168 : BitVec 32 := Scalar.addi v2 c0_i32_103
  let c8_i32_104 : BitVec 32 := 8#32
  let v169 : BitVec 32 := Scalar.addi v168 c8_i32_104
  let c_m128_i32_102 : BitVec 32 := 4294967168#32
  let v166 : BitVec 32 := Scalar.andi v165 c_m128_i32_102
  let v167 : BitVec 32 := v166
  ![v169.toNat, v167.toNat]

def k1_chk11 (i : grid1.Coords) (v165 : BitVec 32) : Prop :=
  (128 ∣ (k1_mult11 v165).toNat) ∧
  (∀ a, (k1_off12 i v165) a + S8x128.size a ≤ S4096x16384.size a)
theorem k1_mult11_dvd : ∀ (i : grid1.Coords) (v165 : BitVec 32) (k1_hw11 : k1_chk11 i v165), 128 ∣ (k1_mult11 v165).toNat := fun i v165 k1_hw11 => k1_hw11.1
theorem k1_off12_inb : ∀ (i : grid1.Coords) (v165 : BitVec 32) (k1_hw11 : k1_chk11 i v165), ∀ a, (k1_off12 i v165) a + S8x128.size a ≤ S4096x16384.size a := fun i v165 k1_hw11 => k1_hw11.2

def k1_off13 (i : grid1.Coords) (v171 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let v174 : BitVec 32 := Scalar.addi v2 c0_i32_106
  let c8_i32_107 : BitVec 32 := 8#32
  let v175 : BitVec 32 := Scalar.addi v174 c8_i32_107
  let c_m128_i32_105 : BitVec 32 := 4294967168#32
  let v172 : BitVec 32 := Scalar.andi v171 c_m128_i32_105
  let v173 : BitVec 32 := v172
  ![v175.toNat, v173.toNat]

def k1_chk12 (i : grid1.Coords) (v171 : BitVec 32) : Prop :=
  (128 ∣ (k1_mult12 v171).toNat) ∧
  (∀ a, (k1_off13 i v171) a + S8x128.size a ≤ S4096x16384.size a)
theorem k1_mult12_dvd : ∀ (i : grid1.Coords) (v171 : BitVec 32) (k1_hw12 : k1_chk12 i v171), 128 ∣ (k1_mult12 v171).toNat := fun i v171 k1_hw12 => k1_hw12.1
theorem k1_off13_inb : ∀ (i : grid1.Coords) (v171 : BitVec 32) (k1_hw12 : k1_chk12 i v171), ∀ a, (k1_off13 i v171) a + S8x128.size a ≤ S4096x16384.size a := fun i v171 k1_hw12 => k1_hw12.2

def k1_mult13 (v225 : BitVec 32) : BitVec 32 :=
  let c_m128_i32_145 : BitVec 32 := 4294967168#32
  let v226 : BitVec 32 := Scalar.andi v225 c_m128_i32_145
  v226

def k1_mult14 (v231 : BitVec 32) : BitVec 32 :=
  let c_m128_i32_148 : BitVec 32 := 4294967168#32
  let v232 : BitVec 32 := Scalar.andi v231 c_m128_i32_148
  v232

def k1_mult15 (v237 : BitVec 32) : BitVec 32 :=
  let c_m128_i32_151 : BitVec 32 := 4294967168#32
  let v238 : BitVec 32 := Scalar.andi v237 c_m128_i32_151
  v238

def k1_mult16 (v243 : BitVec 32) : BitVec 32 :=
  let c_m128_i32_154 : BitVec 32 := 4294967168#32
  let v244 : BitVec 32 := Scalar.andi v243 c_m128_i32_154
  v244

def k1_off14 (i : grid1.Coords) (v225 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_146 : BitVec 32 := 0#32
  let v228 : BitVec 32 := Scalar.addi v2 c0_i32_146
  let c8_i32_147 : BitVec 32 := 8#32
  let v229 : BitVec 32 := Scalar.addi v228 c8_i32_147
  let c_m128_i32_145 : BitVec 32 := 4294967168#32
  let v226 : BitVec 32 := Scalar.andi v225 c_m128_i32_145
  let v227 : BitVec 32 := v226
  ![v229.toNat, v227.toNat]

def k1_chk13 (i : grid1.Coords) (v225 : BitVec 32) : Prop :=
  (128 ∣ (k1_mult13 v225).toNat) ∧
  (∀ a, (k1_off14 i v225) a + S8x128.size a ≤ S4096x16384.size a)
theorem k1_mult13_dvd : ∀ (i : grid1.Coords) (v225 : BitVec 32) (k1_hw13 : k1_chk13 i v225), 128 ∣ (k1_mult13 v225).toNat := fun i v225 k1_hw13 => k1_hw13.1
theorem k1_off14_inb : ∀ (i : grid1.Coords) (v225 : BitVec 32) (k1_hw13 : k1_chk13 i v225), ∀ a, (k1_off14 i v225) a + S8x128.size a ≤ S4096x16384.size a := fun i v225 k1_hw13 => k1_hw13.2

def k1_off15 (i : grid1.Coords) (v231 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_149 : BitVec 32 := 0#32
  let v234 : BitVec 32 := Scalar.addi v2 c0_i32_149
  let c8_i32_150 : BitVec 32 := 8#32
  let v235 : BitVec 32 := Scalar.addi v234 c8_i32_150
  let c_m128_i32_148 : BitVec 32 := 4294967168#32
  let v232 : BitVec 32 := Scalar.andi v231 c_m128_i32_148
  let v233 : BitVec 32 := v232
  ![v235.toNat, v233.toNat]

def k1_chk14 (i : grid1.Coords) (v231 : BitVec 32) : Prop :=
  (128 ∣ (k1_mult14 v231).toNat) ∧
  (∀ a, (k1_off15 i v231) a + S8x128.size a ≤ S4096x16384.size a)
theorem k1_mult14_dvd : ∀ (i : grid1.Coords) (v231 : BitVec 32) (k1_hw14 : k1_chk14 i v231), 128 ∣ (k1_mult14 v231).toNat := fun i v231 k1_hw14 => k1_hw14.1
theorem k1_off15_inb : ∀ (i : grid1.Coords) (v231 : BitVec 32) (k1_hw14 : k1_chk14 i v231), ∀ a, (k1_off15 i v231) a + S8x128.size a ≤ S4096x16384.size a := fun i v231 k1_hw14 => k1_hw14.2

def k1_off16 (i : grid1.Coords) (v237 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_152 : BitVec 32 := 0#32
  let v240 : BitVec 32 := Scalar.addi v2 c0_i32_152
  let c8_i32_153 : BitVec 32 := 8#32
  let v241 : BitVec 32 := Scalar.addi v240 c8_i32_153
  let c_m128_i32_151 : BitVec 32 := 4294967168#32
  let v238 : BitVec 32 := Scalar.andi v237 c_m128_i32_151
  let v239 : BitVec 32 := v238
  ![v241.toNat, v239.toNat]

def k1_chk15 (i : grid1.Coords) (v237 : BitVec 32) : Prop :=
  (128 ∣ (k1_mult15 v237).toNat) ∧
  (∀ a, (k1_off16 i v237) a + S8x128.size a ≤ S4096x16384.size a)
theorem k1_mult15_dvd : ∀ (i : grid1.Coords) (v237 : BitVec 32) (k1_hw15 : k1_chk15 i v237), 128 ∣ (k1_mult15 v237).toNat := fun i v237 k1_hw15 => k1_hw15.1
theorem k1_off16_inb : ∀ (i : grid1.Coords) (v237 : BitVec 32) (k1_hw15 : k1_chk15 i v237), ∀ a, (k1_off16 i v237) a + S8x128.size a ≤ S4096x16384.size a := fun i v237 k1_hw15 => k1_hw15.2

def k1_off17 (i : grid1.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_155 : BitVec 32 := 0#32
  let v246 : BitVec 32 := Scalar.addi v2 c0_i32_155
  let c8_i32_156 : BitVec 32 := 8#32
  let v247 : BitVec 32 := Scalar.addi v246 c8_i32_156
  let c_m128_i32_154 : BitVec 32 := 4294967168#32
  let v244 : BitVec 32 := Scalar.andi v243 c_m128_i32_154
  let v245 : BitVec 32 := v244
  ![v247.toNat, v245.toNat]

def k1_chk16 (i : grid1.Coords) (v243 : BitVec 32) : Prop :=
  (128 ∣ (k1_mult16 v243).toNat) ∧
  (∀ a, (k1_off17 i v243) a + S8x128.size a ≤ S4096x16384.size a)
theorem k1_mult16_dvd : ∀ (i : grid1.Coords) (v243 : BitVec 32) (k1_hw16 : k1_chk16 i v243), 128 ∣ (k1_mult16 v243).toNat := fun i v243 k1_hw16 => k1_hw16.1
theorem k1_off17_inb : ∀ (i : grid1.Coords) (v243 : BitVec 32) (k1_hw16 : k1_chk16 i v243), ∀ a, (k1_off17 i v243) a + S8x128.size a ≤ S4096x16384.size a := fun i v243 k1_hw16 => k1_hw16.2

def k1_mult17 (v1665 : BitVec 32) : BitVec 32 :=
  let c_m128_i32_869 : BitVec 32 := 4294967168#32
  let v1666 : BitVec 32 := Scalar.andi v1665 c_m128_i32_869
  v1666

def k1_mult18 (v1671 : BitVec 32) : BitVec 32 :=
  let c_m128_i32_872 : BitVec 32 := 4294967168#32
  let v1672 : BitVec 32 := Scalar.andi v1671 c_m128_i32_872
  v1672

def k1_mult19 (v1677 : BitVec 32) : BitVec 32 :=
  let c_m128_i32_875 : BitVec 32 := 4294967168#32
  let v1678 : BitVec 32 := Scalar.andi v1677 c_m128_i32_875
  v1678

def k1_mult20 (v1683 : BitVec 32) : BitVec 32 :=
  let c_m128_i32_878 : BitVec 32 := 4294967168#32
  let v1684 : BitVec 32 := Scalar.andi v1683 c_m128_i32_878
  v1684

def k1_off18 (i : grid1.Coords) (v1665 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_870 : BitVec 32 := 16#32
  let v1668 : BitVec 32 := Scalar.addi v2 c16_i32_870
  let c0_i32_871 : BitVec 32 := 0#32
  let v1669 : BitVec 32 := Scalar.addi v1668 c0_i32_871
  let c_m128_i32_869 : BitVec 32 := 4294967168#32
  let v1666 : BitVec 32 := Scalar.andi v1665 c_m128_i32_869
  let v1667 : BitVec 32 := v1666
  ![v1669.toNat, v1667.toNat]

def k1_chk17 (i : grid1.Coords) (v1665 : BitVec 32) : Prop :=
  (128 ∣ (k1_mult17 v1665).toNat) ∧
  (∀ a, (k1_off18 i v1665) a + S8x128.size a ≤ S4096x16384.size a)
theorem k1_mult17_dvd : ∀ (i : grid1.Coords) (v1665 : BitVec 32) (k1_hw17 : k1_chk17 i v1665), 128 ∣ (k1_mult17 v1665).toNat := fun i v1665 k1_hw17 => k1_hw17.1
theorem k1_off18_inb : ∀ (i : grid1.Coords) (v1665 : BitVec 32) (k1_hw17 : k1_chk17 i v1665), ∀ a, (k1_off18 i v1665) a + S8x128.size a ≤ S4096x16384.size a := fun i v1665 k1_hw17 => k1_hw17.2

def k1_off19 (i : grid1.Coords) (v1671 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_873 : BitVec 32 := 16#32
  let v1674 : BitVec 32 := Scalar.addi v2 c16_i32_873
  let c0_i32_874 : BitVec 32 := 0#32
  let v1675 : BitVec 32 := Scalar.addi v1674 c0_i32_874
  let c_m128_i32_872 : BitVec 32 := 4294967168#32
  let v1672 : BitVec 32 := Scalar.andi v1671 c_m128_i32_872
  let v1673 : BitVec 32 := v1672
  ![v1675.toNat, v1673.toNat]

def k1_chk18 (i : grid1.Coords) (v1671 : BitVec 32) : Prop :=
  (128 ∣ (k1_mult18 v1671).toNat) ∧
  (∀ a, (k1_off19 i v1671) a + S8x128.size a ≤ S4096x16384.size a)
theorem k1_mult18_dvd : ∀ (i : grid1.Coords) (v1671 : BitVec 32) (k1_hw18 : k1_chk18 i v1671), 128 ∣ (k1_mult18 v1671).toNat := fun i v1671 k1_hw18 => k1_hw18.1
theorem k1_off19_inb : ∀ (i : grid1.Coords) (v1671 : BitVec 32) (k1_hw18 : k1_chk18 i v1671), ∀ a, (k1_off19 i v1671) a + S8x128.size a ≤ S4096x16384.size a := fun i v1671 k1_hw18 => k1_hw18.2

def k1_off20 (i : grid1.Coords) (v1677 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_876 : BitVec 32 := 16#32
  let v1680 : BitVec 32 := Scalar.addi v2 c16_i32_876
  let c0_i32_877 : BitVec 32 := 0#32
  let v1681 : BitVec 32 := Scalar.addi v1680 c0_i32_877
  let c_m128_i32_875 : BitVec 32 := 4294967168#32
  let v1678 : BitVec 32 := Scalar.andi v1677 c_m128_i32_875
  let v1679 : BitVec 32 := v1678
  ![v1681.toNat, v1679.toNat]

def k1_chk19 (i : grid1.Coords) (v1677 : BitVec 32) : Prop :=
  (128 ∣ (k1_mult19 v1677).toNat) ∧
  (∀ a, (k1_off20 i v1677) a + S8x128.size a ≤ S4096x16384.size a)
theorem k1_mult19_dvd : ∀ (i : grid1.Coords) (v1677 : BitVec 32) (k1_hw19 : k1_chk19 i v1677), 128 ∣ (k1_mult19 v1677).toNat := fun i v1677 k1_hw19 => k1_hw19.1
theorem k1_off20_inb : ∀ (i : grid1.Coords) (v1677 : BitVec 32) (k1_hw19 : k1_chk19 i v1677), ∀ a, (k1_off20 i v1677) a + S8x128.size a ≤ S4096x16384.size a := fun i v1677 k1_hw19 => k1_hw19.2

def k1_off21 (i : grid1.Coords) (v1683 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_879 : BitVec 32 := 16#32
  let v1686 : BitVec 32 := Scalar.addi v2 c16_i32_879
  let c0_i32_880 : BitVec 32 := 0#32
  let v1687 : BitVec 32 := Scalar.addi v1686 c0_i32_880
  let c_m128_i32_878 : BitVec 32 := 4294967168#32
  let v1684 : BitVec 32 := Scalar.andi v1683 c_m128_i32_878
  let v1685 : BitVec 32 := v1684
  ![v1687.toNat, v1685.toNat]

def k1_chk20 (i : grid1.Coords) (v1683 : BitVec 32) : Prop :=
  (128 ∣ (k1_mult20 v1683).toNat) ∧
  (∀ a, (k1_off21 i v1683) a + S8x128.size a ≤ S4096x16384.size a)
theorem k1_mult20_dvd : ∀ (i : grid1.Coords) (v1683 : BitVec 32) (k1_hw20 : k1_chk20 i v1683), 128 ∣ (k1_mult20 v1683).toNat := fun i v1683 k1_hw20 => k1_hw20.1
theorem k1_off21_inb : ∀ (i : grid1.Coords) (v1683 : BitVec 32) (k1_hw20 : k1_chk20 i v1683), ∀ a, (k1_off21 i v1683) a + S8x128.size a ≤ S4096x16384.size a := fun i v1683 k1_hw20 => k1_hw20.2

def k1_mult21 (v1737 : BitVec 32) : BitVec 32 :=
  let c_m128_i32_921 : BitVec 32 := 4294967168#32
  let v1738 : BitVec 32 := Scalar.andi v1737 c_m128_i32_921
  v1738

def k1_mult22 (v1743 : BitVec 32) : BitVec 32 :=
  let c_m128_i32_924 : BitVec 32 := 4294967168#32
  let v1744 : BitVec 32 := Scalar.andi v1743 c_m128_i32_924
  v1744

def k1_mult23 (v1749 : BitVec 32) : BitVec 32 :=
  let c_m128_i32_927 : BitVec 32 := 4294967168#32
  let v1750 : BitVec 32 := Scalar.andi v1749 c_m128_i32_927
  v1750

def k1_mult24 (v1755 : BitVec 32) : BitVec 32 :=
  let c_m128_i32_930 : BitVec 32 := 4294967168#32
  let v1756 : BitVec 32 := Scalar.andi v1755 c_m128_i32_930
  v1756

def k1_off22 (i : grid1.Coords) (v1737 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_922 : BitVec 32 := 16#32
  let v1740 : BitVec 32 := Scalar.addi v2 c16_i32_922
  let c0_i32_923 : BitVec 32 := 0#32
  let v1741 : BitVec 32 := Scalar.addi v1740 c0_i32_923
  let c_m128_i32_921 : BitVec 32 := 4294967168#32
  let v1738 : BitVec 32 := Scalar.andi v1737 c_m128_i32_921
  let v1739 : BitVec 32 := v1738
  ![v1741.toNat, v1739.toNat]

def k1_chk21 (i : grid1.Coords) (v1737 : BitVec 32) : Prop :=
  (128 ∣ (k1_mult21 v1737).toNat) ∧
  (∀ a, (k1_off22 i v1737) a + S8x128.size a ≤ S4096x16384.size a)
theorem k1_mult21_dvd : ∀ (i : grid1.Coords) (v1737 : BitVec 32) (k1_hw21 : k1_chk21 i v1737), 128 ∣ (k1_mult21 v1737).toNat := fun i v1737 k1_hw21 => k1_hw21.1
theorem k1_off22_inb : ∀ (i : grid1.Coords) (v1737 : BitVec 32) (k1_hw21 : k1_chk21 i v1737), ∀ a, (k1_off22 i v1737) a + S8x128.size a ≤ S4096x16384.size a := fun i v1737 k1_hw21 => k1_hw21.2

def k1_off23 (i : grid1.Coords) (v1743 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_925 : BitVec 32 := 16#32
  let v1746 : BitVec 32 := Scalar.addi v2 c16_i32_925
  let c0_i32_926 : BitVec 32 := 0#32
  let v1747 : BitVec 32 := Scalar.addi v1746 c0_i32_926
  let c_m128_i32_924 : BitVec 32 := 4294967168#32
  let v1744 : BitVec 32 := Scalar.andi v1743 c_m128_i32_924
  let v1745 : BitVec 32 := v1744
  ![v1747.toNat, v1745.toNat]

def k1_chk22 (i : grid1.Coords) (v1743 : BitVec 32) : Prop :=
  (128 ∣ (k1_mult22 v1743).toNat) ∧
  (∀ a, (k1_off23 i v1743) a + S8x128.size a ≤ S4096x16384.size a)
theorem k1_mult22_dvd : ∀ (i : grid1.Coords) (v1743 : BitVec 32) (k1_hw22 : k1_chk22 i v1743), 128 ∣ (k1_mult22 v1743).toNat := fun i v1743 k1_hw22 => k1_hw22.1
theorem k1_off23_inb : ∀ (i : grid1.Coords) (v1743 : BitVec 32) (k1_hw22 : k1_chk22 i v1743), ∀ a, (k1_off23 i v1743) a + S8x128.size a ≤ S4096x16384.size a := fun i v1743 k1_hw22 => k1_hw22.2

def k1_off24 (i : grid1.Coords) (v1749 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_928 : BitVec 32 := 16#32
  let v1752 : BitVec 32 := Scalar.addi v2 c16_i32_928
  let c0_i32_929 : BitVec 32 := 0#32
  let v1753 : BitVec 32 := Scalar.addi v1752 c0_i32_929
  let c_m128_i32_927 : BitVec 32 := 4294967168#32
  let v1750 : BitVec 32 := Scalar.andi v1749 c_m128_i32_927
  let v1751 : BitVec 32 := v1750
  ![v1753.toNat, v1751.toNat]

def k1_chk23 (i : grid1.Coords) (v1749 : BitVec 32) : Prop :=
  (128 ∣ (k1_mult23 v1749).toNat) ∧
  (∀ a, (k1_off24 i v1749) a + S8x128.size a ≤ S4096x16384.size a)
theorem k1_mult23_dvd : ∀ (i : grid1.Coords) (v1749 : BitVec 32) (k1_hw23 : k1_chk23 i v1749), 128 ∣ (k1_mult23 v1749).toNat := fun i v1749 k1_hw23 => k1_hw23.1
theorem k1_off24_inb : ∀ (i : grid1.Coords) (v1749 : BitVec 32) (k1_hw23 : k1_chk23 i v1749), ∀ a, (k1_off24 i v1749) a + S8x128.size a ≤ S4096x16384.size a := fun i v1749 k1_hw23 => k1_hw23.2

def k1_off25 (i : grid1.Coords) (v1755 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_931 : BitVec 32 := 16#32
  let v1758 : BitVec 32 := Scalar.addi v2 c16_i32_931
  let c0_i32_932 : BitVec 32 := 0#32
  let v1759 : BitVec 32 := Scalar.addi v1758 c0_i32_932
  let c_m128_i32_930 : BitVec 32 := 4294967168#32
  let v1756 : BitVec 32 := Scalar.andi v1755 c_m128_i32_930
  let v1757 : BitVec 32 := v1756
  ![v1759.toNat, v1757.toNat]

def k1_chk24 (i : grid1.Coords) (v1755 : BitVec 32) : Prop :=
  (128 ∣ (k1_mult24 v1755).toNat) ∧
  (∀ a, (k1_off25 i v1755) a + S8x128.size a ≤ S4096x16384.size a)
theorem k1_mult24_dvd : ∀ (i : grid1.Coords) (v1755 : BitVec 32) (k1_hw24 : k1_chk24 i v1755), 128 ∣ (k1_mult24 v1755).toNat := fun i v1755 k1_hw24 => k1_hw24.1
theorem k1_off25_inb : ∀ (i : grid1.Coords) (v1755 : BitVec 32) (k1_hw24 : k1_chk24 i v1755), ∀ a, (k1_off25 i v1755) a + S8x128.size a ≤ S4096x16384.size a := fun i v1755 k1_hw24 => k1_hw24.2

def k1_mult25 (v1809 : BitVec 32) : BitVec 32 :=
  let c_m128_i32_973 : BitVec 32 := 4294967168#32
  let v1810 : BitVec 32 := Scalar.andi v1809 c_m128_i32_973
  v1810

def k1_mult26 (v1815 : BitVec 32) : BitVec 32 :=
  let c_m128_i32_976 : BitVec 32 := 4294967168#32
  let v1816 : BitVec 32 := Scalar.andi v1815 c_m128_i32_976
  v1816

def k1_mult27 (v1821 : BitVec 32) : BitVec 32 :=
  let c_m128_i32_979 : BitVec 32 := 4294967168#32
  let v1822 : BitVec 32 := Scalar.andi v1821 c_m128_i32_979
  v1822

def k1_mult28 (v1827 : BitVec 32) : BitVec 32 :=
  let c_m128_i32_982 : BitVec 32 := 4294967168#32
  let v1828 : BitVec 32 := Scalar.andi v1827 c_m128_i32_982
  v1828

def k1_off26 (i : grid1.Coords) (v1809 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_974 : BitVec 32 := 16#32
  let v1812 : BitVec 32 := Scalar.addi v2 c16_i32_974
  let c8_i32_975 : BitVec 32 := 8#32
  let v1813 : BitVec 32 := Scalar.addi v1812 c8_i32_975
  let c_m128_i32_973 : BitVec 32 := 4294967168#32
  let v1810 : BitVec 32 := Scalar.andi v1809 c_m128_i32_973
  let v1811 : BitVec 32 := v1810
  ![v1813.toNat, v1811.toNat]

def k1_chk25 (i : grid1.Coords) (v1809 : BitVec 32) : Prop :=
  (128 ∣ (k1_mult25 v1809).toNat) ∧
  (∀ a, (k1_off26 i v1809) a + S8x128.size a ≤ S4096x16384.size a)
theorem k1_mult25_dvd : ∀ (i : grid1.Coords) (v1809 : BitVec 32) (k1_hw25 : k1_chk25 i v1809), 128 ∣ (k1_mult25 v1809).toNat := fun i v1809 k1_hw25 => k1_hw25.1
theorem k1_off26_inb : ∀ (i : grid1.Coords) (v1809 : BitVec 32) (k1_hw25 : k1_chk25 i v1809), ∀ a, (k1_off26 i v1809) a + S8x128.size a ≤ S4096x16384.size a := fun i v1809 k1_hw25 => k1_hw25.2

def k1_off27 (i : grid1.Coords) (v1815 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_977 : BitVec 32 := 16#32
  let v1818 : BitVec 32 := Scalar.addi v2 c16_i32_977
  let c8_i32_978 : BitVec 32 := 8#32
  let v1819 : BitVec 32 := Scalar.addi v1818 c8_i32_978
  let c_m128_i32_976 : BitVec 32 := 4294967168#32
  let v1816 : BitVec 32 := Scalar.andi v1815 c_m128_i32_976
  let v1817 : BitVec 32 := v1816
  ![v1819.toNat, v1817.toNat]

def k1_chk26 (i : grid1.Coords) (v1815 : BitVec 32) : Prop :=
  (128 ∣ (k1_mult26 v1815).toNat) ∧
  (∀ a, (k1_off27 i v1815) a + S8x128.size a ≤ S4096x16384.size a)
theorem k1_mult26_dvd : ∀ (i : grid1.Coords) (v1815 : BitVec 32) (k1_hw26 : k1_chk26 i v1815), 128 ∣ (k1_mult26 v1815).toNat := fun i v1815 k1_hw26 => k1_hw26.1
theorem k1_off27_inb : ∀ (i : grid1.Coords) (v1815 : BitVec 32) (k1_hw26 : k1_chk26 i v1815), ∀ a, (k1_off27 i v1815) a + S8x128.size a ≤ S4096x16384.size a := fun i v1815 k1_hw26 => k1_hw26.2

def k1_off28 (i : grid1.Coords) (v1821 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_980 : BitVec 32 := 16#32
  let v1824 : BitVec 32 := Scalar.addi v2 c16_i32_980
  let c8_i32_981 : BitVec 32 := 8#32
  let v1825 : BitVec 32 := Scalar.addi v1824 c8_i32_981
  let c_m128_i32_979 : BitVec 32 := 4294967168#32
  let v1822 : BitVec 32 := Scalar.andi v1821 c_m128_i32_979
  let v1823 : BitVec 32 := v1822
  ![v1825.toNat, v1823.toNat]

def k1_chk27 (i : grid1.Coords) (v1821 : BitVec 32) : Prop :=
  (128 ∣ (k1_mult27 v1821).toNat) ∧
  (∀ a, (k1_off28 i v1821) a + S8x128.size a ≤ S4096x16384.size a)
theorem k1_mult27_dvd : ∀ (i : grid1.Coords) (v1821 : BitVec 32) (k1_hw27 : k1_chk27 i v1821), 128 ∣ (k1_mult27 v1821).toNat := fun i v1821 k1_hw27 => k1_hw27.1
theorem k1_off28_inb : ∀ (i : grid1.Coords) (v1821 : BitVec 32) (k1_hw27 : k1_chk27 i v1821), ∀ a, (k1_off28 i v1821) a + S8x128.size a ≤ S4096x16384.size a := fun i v1821 k1_hw27 => k1_hw27.2

def k1_off29 (i : grid1.Coords) (v1827 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_983 : BitVec 32 := 16#32
  let v1830 : BitVec 32 := Scalar.addi v2 c16_i32_983
  let c8_i32_984 : BitVec 32 := 8#32
  let v1831 : BitVec 32 := Scalar.addi v1830 c8_i32_984
  let c_m128_i32_982 : BitVec 32 := 4294967168#32
  let v1828 : BitVec 32 := Scalar.andi v1827 c_m128_i32_982
  let v1829 : BitVec 32 := v1828
  ![v1831.toNat, v1829.toNat]

def k1_chk28 (i : grid1.Coords) (v1827 : BitVec 32) : Prop :=
  (128 ∣ (k1_mult28 v1827).toNat) ∧
  (∀ a, (k1_off29 i v1827) a + S8x128.size a ≤ S4096x16384.size a)
theorem k1_mult28_dvd : ∀ (i : grid1.Coords) (v1827 : BitVec 32) (k1_hw28 : k1_chk28 i v1827), 128 ∣ (k1_mult28 v1827).toNat := fun i v1827 k1_hw28 => k1_hw28.1
theorem k1_off29_inb : ∀ (i : grid1.Coords) (v1827 : BitVec 32) (k1_hw28 : k1_chk28 i v1827), ∀ a, (k1_off29 i v1827) a + S8x128.size a ≤ S4096x16384.size a := fun i v1827 k1_hw28 => k1_hw28.2

def k1_mult29 (v1881 : BitVec 32) : BitVec 32 :=
  let c_m128_i32_1025 : BitVec 32 := 4294967168#32
  let v1882 : BitVec 32 := Scalar.andi v1881 c_m128_i32_1025
  v1882

def k1_mult30 (v1887 : BitVec 32) : BitVec 32 :=
  let c_m128_i32_1028 : BitVec 32 := 4294967168#32
  let v1888 : BitVec 32 := Scalar.andi v1887 c_m128_i32_1028
  v1888

def k1_mult31 (v1893 : BitVec 32) : BitVec 32 :=
  let c_m128_i32_1031 : BitVec 32 := 4294967168#32
  let v1894 : BitVec 32 := Scalar.andi v1893 c_m128_i32_1031
  v1894

def k1_mult32 (v1899 : BitVec 32) : BitVec 32 :=
  let c_m128_i32_1034 : BitVec 32 := 4294967168#32
  let v1900 : BitVec 32 := Scalar.andi v1899 c_m128_i32_1034
  v1900

def k1_off30 (i : grid1.Coords) (v1881 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_1026 : BitVec 32 := 16#32
  let v1884 : BitVec 32 := Scalar.addi v2 c16_i32_1026
  let c8_i32_1027 : BitVec 32 := 8#32
  let v1885 : BitVec 32 := Scalar.addi v1884 c8_i32_1027
  let c_m128_i32_1025 : BitVec 32 := 4294967168#32
  let v1882 : BitVec 32 := Scalar.andi v1881 c_m128_i32_1025
  let v1883 : BitVec 32 := v1882
  ![v1885.toNat, v1883.toNat]

def k1_chk29 (i : grid1.Coords) (v1881 : BitVec 32) : Prop :=
  (128 ∣ (k1_mult29 v1881).toNat) ∧
  (∀ a, (k1_off30 i v1881) a + S8x128.size a ≤ S4096x16384.size a)
theorem k1_mult29_dvd : ∀ (i : grid1.Coords) (v1881 : BitVec 32) (k1_hw29 : k1_chk29 i v1881), 128 ∣ (k1_mult29 v1881).toNat := fun i v1881 k1_hw29 => k1_hw29.1
theorem k1_off30_inb : ∀ (i : grid1.Coords) (v1881 : BitVec 32) (k1_hw29 : k1_chk29 i v1881), ∀ a, (k1_off30 i v1881) a + S8x128.size a ≤ S4096x16384.size a := fun i v1881 k1_hw29 => k1_hw29.2

def k1_off31 (i : grid1.Coords) (v1887 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_1029 : BitVec 32 := 16#32
  let v1890 : BitVec 32 := Scalar.addi v2 c16_i32_1029
  let c8_i32_1030 : BitVec 32 := 8#32
  let v1891 : BitVec 32 := Scalar.addi v1890 c8_i32_1030
  let c_m128_i32_1028 : BitVec 32 := 4294967168#32
  let v1888 : BitVec 32 := Scalar.andi v1887 c_m128_i32_1028
  let v1889 : BitVec 32 := v1888
  ![v1891.toNat, v1889.toNat]

def k1_chk30 (i : grid1.Coords) (v1887 : BitVec 32) : Prop :=
  (128 ∣ (k1_mult30 v1887).toNat) ∧
  (∀ a, (k1_off31 i v1887) a + S8x128.size a ≤ S4096x16384.size a)
theorem k1_mult30_dvd : ∀ (i : grid1.Coords) (v1887 : BitVec 32) (k1_hw30 : k1_chk30 i v1887), 128 ∣ (k1_mult30 v1887).toNat := fun i v1887 k1_hw30 => k1_hw30.1
theorem k1_off31_inb : ∀ (i : grid1.Coords) (v1887 : BitVec 32) (k1_hw30 : k1_chk30 i v1887), ∀ a, (k1_off31 i v1887) a + S8x128.size a ≤ S4096x16384.size a := fun i v1887 k1_hw30 => k1_hw30.2

def k1_off32 (i : grid1.Coords) (v1893 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_1032 : BitVec 32 := 16#32
  let v1896 : BitVec 32 := Scalar.addi v2 c16_i32_1032
  let c8_i32_1033 : BitVec 32 := 8#32
  let v1897 : BitVec 32 := Scalar.addi v1896 c8_i32_1033
  let c_m128_i32_1031 : BitVec 32 := 4294967168#32
  let v1894 : BitVec 32 := Scalar.andi v1893 c_m128_i32_1031
  let v1895 : BitVec 32 := v1894
  ![v1897.toNat, v1895.toNat]

def k1_chk31 (i : grid1.Coords) (v1893 : BitVec 32) : Prop :=
  (128 ∣ (k1_mult31 v1893).toNat) ∧
  (∀ a, (k1_off32 i v1893) a + S8x128.size a ≤ S4096x16384.size a)
theorem k1_mult31_dvd : ∀ (i : grid1.Coords) (v1893 : BitVec 32) (k1_hw31 : k1_chk31 i v1893), 128 ∣ (k1_mult31 v1893).toNat := fun i v1893 k1_hw31 => k1_hw31.1
theorem k1_off32_inb : ∀ (i : grid1.Coords) (v1893 : BitVec 32) (k1_hw31 : k1_chk31 i v1893), ∀ a, (k1_off32 i v1893) a + S8x128.size a ≤ S4096x16384.size a := fun i v1893 k1_hw31 => k1_hw31.2

def k1_off33 (i : grid1.Coords) (v1899 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_1035 : BitVec 32 := 16#32
  let v1902 : BitVec 32 := Scalar.addi v2 c16_i32_1035
  let c8_i32_1036 : BitVec 32 := 8#32
  let v1903 : BitVec 32 := Scalar.addi v1902 c8_i32_1036
  let c_m128_i32_1034 : BitVec 32 := 4294967168#32
  let v1900 : BitVec 32 := Scalar.andi v1899 c_m128_i32_1034
  let v1901 : BitVec 32 := v1900
  ![v1903.toNat, v1901.toNat]

def k1_chk32 (i : grid1.Coords) (v1899 : BitVec 32) : Prop :=
  (128 ∣ (k1_mult32 v1899).toNat) ∧
  (∀ a, (k1_off33 i v1899) a + S8x128.size a ≤ S4096x16384.size a)
theorem k1_mult32_dvd : ∀ (i : grid1.Coords) (v1899 : BitVec 32) (k1_hw32 : k1_chk32 i v1899), 128 ∣ (k1_mult32 v1899).toNat := fun i v1899 k1_hw32 => k1_hw32.1
theorem k1_off33_inb : ∀ (i : grid1.Coords) (v1899 : BitVec 32) (k1_hw32 : k1_chk32 i v1899), ∀ a, (k1_off33 i v1899) a + S8x128.size a ≤ S4096x16384.size a := fun i v1899 k1_hw32 => k1_hw32.2

def k1_mult33 (v3321 : BitVec 32) : BitVec 32 :=
  let c_m128_i32_1769 : BitVec 32 := 4294967168#32
  let v3322 : BitVec 32 := Scalar.andi v3321 c_m128_i32_1769
  v3322

def k1_mult34 (v3327 : BitVec 32) : BitVec 32 :=
  let c_m128_i32_1772 : BitVec 32 := 4294967168#32
  let v3328 : BitVec 32 := Scalar.andi v3327 c_m128_i32_1772
  v3328

def k1_mult35 (v3333 : BitVec 32) : BitVec 32 :=
  let c_m128_i32_1775 : BitVec 32 := 4294967168#32
  let v3334 : BitVec 32 := Scalar.andi v3333 c_m128_i32_1775
  v3334

def k1_mult36 (v3339 : BitVec 32) : BitVec 32 :=
  let c_m128_i32_1778 : BitVec 32 := 4294967168#32
  let v3340 : BitVec 32 := Scalar.andi v3339 c_m128_i32_1778
  v3340

def k1_off34 (i : grid1.Coords) (v3321 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1770 : BitVec 32 := 32#32
  let v3324 : BitVec 32 := Scalar.addi v2 c32_i32_1770
  let c0_i32_1771 : BitVec 32 := 0#32
  let v3325 : BitVec 32 := Scalar.addi v3324 c0_i32_1771
  let c_m128_i32_1769 : BitVec 32 := 4294967168#32
  let v3322 : BitVec 32 := Scalar.andi v3321 c_m128_i32_1769
  let v3323 : BitVec 32 := v3322
  ![v3325.toNat, v3323.toNat]

def k1_chk33 (i : grid1.Coords) (v3321 : BitVec 32) : Prop :=
  (128 ∣ (k1_mult33 v3321).toNat) ∧
  (∀ a, (k1_off34 i v3321) a + S8x128.size a ≤ S4096x16384.size a)
theorem k1_mult33_dvd : ∀ (i : grid1.Coords) (v3321 : BitVec 32) (k1_hw33 : k1_chk33 i v3321), 128 ∣ (k1_mult33 v3321).toNat := fun i v3321 k1_hw33 => k1_hw33.1
theorem k1_off34_inb : ∀ (i : grid1.Coords) (v3321 : BitVec 32) (k1_hw33 : k1_chk33 i v3321), ∀ a, (k1_off34 i v3321) a + S8x128.size a ≤ S4096x16384.size a := fun i v3321 k1_hw33 => k1_hw33.2

def k1_off35 (i : grid1.Coords) (v3327 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1773 : BitVec 32 := 32#32
  let v3330 : BitVec 32 := Scalar.addi v2 c32_i32_1773
  let c0_i32_1774 : BitVec 32 := 0#32
  let v3331 : BitVec 32 := Scalar.addi v3330 c0_i32_1774
  let c_m128_i32_1772 : BitVec 32 := 4294967168#32
  let v3328 : BitVec 32 := Scalar.andi v3327 c_m128_i32_1772
  let v3329 : BitVec 32 := v3328
  ![v3331.toNat, v3329.toNat]

def k1_chk34 (i : grid1.Coords) (v3327 : BitVec 32) : Prop :=
  (128 ∣ (k1_mult34 v3327).toNat) ∧
  (∀ a, (k1_off35 i v3327) a + S8x128.size a ≤ S4096x16384.size a)
theorem k1_mult34_dvd : ∀ (i : grid1.Coords) (v3327 : BitVec 32) (k1_hw34 : k1_chk34 i v3327), 128 ∣ (k1_mult34 v3327).toNat := fun i v3327 k1_hw34 => k1_hw34.1
theorem k1_off35_inb : ∀ (i : grid1.Coords) (v3327 : BitVec 32) (k1_hw34 : k1_chk34 i v3327), ∀ a, (k1_off35 i v3327) a + S8x128.size a ≤ S4096x16384.size a := fun i v3327 k1_hw34 => k1_hw34.2

def k1_off36 (i : grid1.Coords) (v3333 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1776 : BitVec 32 := 32#32
  let v3336 : BitVec 32 := Scalar.addi v2 c32_i32_1776
  let c0_i32_1777 : BitVec 32 := 0#32
  let v3337 : BitVec 32 := Scalar.addi v3336 c0_i32_1777
  let c_m128_i32_1775 : BitVec 32 := 4294967168#32
  let v3334 : BitVec 32 := Scalar.andi v3333 c_m128_i32_1775
  let v3335 : BitVec 32 := v3334
  ![v3337.toNat, v3335.toNat]

def k1_chk35 (i : grid1.Coords) (v3333 : BitVec 32) : Prop :=
  (128 ∣ (k1_mult35 v3333).toNat) ∧
  (∀ a, (k1_off36 i v3333) a + S8x128.size a ≤ S4096x16384.size a)
theorem k1_mult35_dvd : ∀ (i : grid1.Coords) (v3333 : BitVec 32) (k1_hw35 : k1_chk35 i v3333), 128 ∣ (k1_mult35 v3333).toNat := fun i v3333 k1_hw35 => k1_hw35.1
theorem k1_off36_inb : ∀ (i : grid1.Coords) (v3333 : BitVec 32) (k1_hw35 : k1_chk35 i v3333), ∀ a, (k1_off36 i v3333) a + S8x128.size a ≤ S4096x16384.size a := fun i v3333 k1_hw35 => k1_hw35.2

def k1_off37 (i : grid1.Coords) (v3339 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1779 : BitVec 32 := 32#32
  let v3342 : BitVec 32 := Scalar.addi v2 c32_i32_1779
  let c0_i32_1780 : BitVec 32 := 0#32
  let v3343 : BitVec 32 := Scalar.addi v3342 c0_i32_1780
  let c_m128_i32_1778 : BitVec 32 := 4294967168#32
  let v3340 : BitVec 32 := Scalar.andi v3339 c_m128_i32_1778
  let v3341 : BitVec 32 := v3340
  ![v3343.toNat, v3341.toNat]

def k1_chk36 (i : grid1.Coords) (v3339 : BitVec 32) : Prop :=
  (128 ∣ (k1_mult36 v3339).toNat) ∧
  (∀ a, (k1_off37 i v3339) a + S8x128.size a ≤ S4096x16384.size a)
theorem k1_mult36_dvd : ∀ (i : grid1.Coords) (v3339 : BitVec 32) (k1_hw36 : k1_chk36 i v3339), 128 ∣ (k1_mult36 v3339).toNat := fun i v3339 k1_hw36 => k1_hw36.1
theorem k1_off37_inb : ∀ (i : grid1.Coords) (v3339 : BitVec 32) (k1_hw36 : k1_chk36 i v3339), ∀ a, (k1_off37 i v3339) a + S8x128.size a ≤ S4096x16384.size a := fun i v3339 k1_hw36 => k1_hw36.2

def k1_mult37 (v3393 : BitVec 32) : BitVec 32 :=
  let c_m128_i32_1821 : BitVec 32 := 4294967168#32
  let v3394 : BitVec 32 := Scalar.andi v3393 c_m128_i32_1821
  v3394

def k1_mult38 (v3399 : BitVec 32) : BitVec 32 :=
  let c_m128_i32_1824 : BitVec 32 := 4294967168#32
  let v3400 : BitVec 32 := Scalar.andi v3399 c_m128_i32_1824
  v3400

def k1_mult39 (v3405 : BitVec 32) : BitVec 32 :=
  let c_m128_i32_1827 : BitVec 32 := 4294967168#32
  let v3406 : BitVec 32 := Scalar.andi v3405 c_m128_i32_1827
  v3406

def k1_mult40 (v3411 : BitVec 32) : BitVec 32 :=
  let c_m128_i32_1830 : BitVec 32 := 4294967168#32
  let v3412 : BitVec 32 := Scalar.andi v3411 c_m128_i32_1830
  v3412

def k1_off38 (i : grid1.Coords) (v3393 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1822 : BitVec 32 := 32#32
  let v3396 : BitVec 32 := Scalar.addi v2 c32_i32_1822
  let c0_i32_1823 : BitVec 32 := 0#32
  let v3397 : BitVec 32 := Scalar.addi v3396 c0_i32_1823
  let c_m128_i32_1821 : BitVec 32 := 4294967168#32
  let v3394 : BitVec 32 := Scalar.andi v3393 c_m128_i32_1821
  let v3395 : BitVec 32 := v3394
  ![v3397.toNat, v3395.toNat]

def k1_chk37 (i : grid1.Coords) (v3393 : BitVec 32) : Prop :=
  (128 ∣ (k1_mult37 v3393).toNat) ∧
  (∀ a, (k1_off38 i v3393) a + S8x128.size a ≤ S4096x16384.size a)
theorem k1_mult37_dvd : ∀ (i : grid1.Coords) (v3393 : BitVec 32) (k1_hw37 : k1_chk37 i v3393), 128 ∣ (k1_mult37 v3393).toNat := fun i v3393 k1_hw37 => k1_hw37.1
theorem k1_off38_inb : ∀ (i : grid1.Coords) (v3393 : BitVec 32) (k1_hw37 : k1_chk37 i v3393), ∀ a, (k1_off38 i v3393) a + S8x128.size a ≤ S4096x16384.size a := fun i v3393 k1_hw37 => k1_hw37.2

def k1_off39 (i : grid1.Coords) (v3399 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1825 : BitVec 32 := 32#32
  let v3402 : BitVec 32 := Scalar.addi v2 c32_i32_1825
  let c0_i32_1826 : BitVec 32 := 0#32
  let v3403 : BitVec 32 := Scalar.addi v3402 c0_i32_1826
  let c_m128_i32_1824 : BitVec 32 := 4294967168#32
  let v3400 : BitVec 32 := Scalar.andi v3399 c_m128_i32_1824
  let v3401 : BitVec 32 := v3400
  ![v3403.toNat, v3401.toNat]

def k1_chk38 (i : grid1.Coords) (v3399 : BitVec 32) : Prop :=
  (128 ∣ (k1_mult38 v3399).toNat) ∧
  (∀ a, (k1_off39 i v3399) a + S8x128.size a ≤ S4096x16384.size a)
theorem k1_mult38_dvd : ∀ (i : grid1.Coords) (v3399 : BitVec 32) (k1_hw38 : k1_chk38 i v3399), 128 ∣ (k1_mult38 v3399).toNat := fun i v3399 k1_hw38 => k1_hw38.1
theorem k1_off39_inb : ∀ (i : grid1.Coords) (v3399 : BitVec 32) (k1_hw38 : k1_chk38 i v3399), ∀ a, (k1_off39 i v3399) a + S8x128.size a ≤ S4096x16384.size a := fun i v3399 k1_hw38 => k1_hw38.2

def k1_off40 (i : grid1.Coords) (v3405 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1828 : BitVec 32 := 32#32
  let v3408 : BitVec 32 := Scalar.addi v2 c32_i32_1828
  let c0_i32_1829 : BitVec 32 := 0#32
  let v3409 : BitVec 32 := Scalar.addi v3408 c0_i32_1829
  let c_m128_i32_1827 : BitVec 32 := 4294967168#32
  let v3406 : BitVec 32 := Scalar.andi v3405 c_m128_i32_1827
  let v3407 : BitVec 32 := v3406
  ![v3409.toNat, v3407.toNat]

def k1_chk39 (i : grid1.Coords) (v3405 : BitVec 32) : Prop :=
  (128 ∣ (k1_mult39 v3405).toNat) ∧
  (∀ a, (k1_off40 i v3405) a + S8x128.size a ≤ S4096x16384.size a)
theorem k1_mult39_dvd : ∀ (i : grid1.Coords) (v3405 : BitVec 32) (k1_hw39 : k1_chk39 i v3405), 128 ∣ (k1_mult39 v3405).toNat := fun i v3405 k1_hw39 => k1_hw39.1
theorem k1_off40_inb : ∀ (i : grid1.Coords) (v3405 : BitVec 32) (k1_hw39 : k1_chk39 i v3405), ∀ a, (k1_off40 i v3405) a + S8x128.size a ≤ S4096x16384.size a := fun i v3405 k1_hw39 => k1_hw39.2

def k1_off41 (i : grid1.Coords) (v3411 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1831 : BitVec 32 := 32#32
  let v3414 : BitVec 32 := Scalar.addi v2 c32_i32_1831
  let c0_i32_1832 : BitVec 32 := 0#32
  let v3415 : BitVec 32 := Scalar.addi v3414 c0_i32_1832
  let c_m128_i32_1830 : BitVec 32 := 4294967168#32
  let v3412 : BitVec 32 := Scalar.andi v3411 c_m128_i32_1830
  let v3413 : BitVec 32 := v3412
  ![v3415.toNat, v3413.toNat]

def k1_chk40 (i : grid1.Coords) (v3411 : BitVec 32) : Prop :=
  (128 ∣ (k1_mult40 v3411).toNat) ∧
  (∀ a, (k1_off41 i v3411) a + S8x128.size a ≤ S4096x16384.size a)
theorem k1_mult40_dvd : ∀ (i : grid1.Coords) (v3411 : BitVec 32) (k1_hw40 : k1_chk40 i v3411), 128 ∣ (k1_mult40 v3411).toNat := fun i v3411 k1_hw40 => k1_hw40.1
theorem k1_off41_inb : ∀ (i : grid1.Coords) (v3411 : BitVec 32) (k1_hw40 : k1_chk40 i v3411), ∀ a, (k1_off41 i v3411) a + S8x128.size a ≤ S4096x16384.size a := fun i v3411 k1_hw40 => k1_hw40.2

def k1_mult41 (v3465 : BitVec 32) : BitVec 32 :=
  let c_m128_i32_1873 : BitVec 32 := 4294967168#32
  let v3466 : BitVec 32 := Scalar.andi v3465 c_m128_i32_1873
  v3466

def k1_mult42 (v3471 : BitVec 32) : BitVec 32 :=
  let c_m128_i32_1876 : BitVec 32 := 4294967168#32
  let v3472 : BitVec 32 := Scalar.andi v3471 c_m128_i32_1876
  v3472

def k1_mult43 (v3477 : BitVec 32) : BitVec 32 :=
  let c_m128_i32_1879 : BitVec 32 := 4294967168#32
  let v3478 : BitVec 32 := Scalar.andi v3477 c_m128_i32_1879
  v3478

def k1_mult44 (v3483 : BitVec 32) : BitVec 32 :=
  let c_m128_i32_1882 : BitVec 32 := 4294967168#32
  let v3484 : BitVec 32 := Scalar.andi v3483 c_m128_i32_1882
  v3484

def k1_off42 (i : grid1.Coords) (v3465 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1874 : BitVec 32 := 32#32
  let v3468 : BitVec 32 := Scalar.addi v2 c32_i32_1874
  let c8_i32_1875 : BitVec 32 := 8#32
  let v3469 : BitVec 32 := Scalar.addi v3468 c8_i32_1875
  let c_m128_i32_1873 : BitVec 32 := 4294967168#32
  let v3466 : BitVec 32 := Scalar.andi v3465 c_m128_i32_1873
  let v3467 : BitVec 32 := v3466
  ![v3469.toNat, v3467.toNat]

def k1_chk41 (i : grid1.Coords) (v3465 : BitVec 32) : Prop :=
  (128 ∣ (k1_mult41 v3465).toNat) ∧
  (∀ a, (k1_off42 i v3465) a + S8x128.size a ≤ S4096x16384.size a)
theorem k1_mult41_dvd : ∀ (i : grid1.Coords) (v3465 : BitVec 32) (k1_hw41 : k1_chk41 i v3465), 128 ∣ (k1_mult41 v3465).toNat := fun i v3465 k1_hw41 => k1_hw41.1
theorem k1_off42_inb : ∀ (i : grid1.Coords) (v3465 : BitVec 32) (k1_hw41 : k1_chk41 i v3465), ∀ a, (k1_off42 i v3465) a + S8x128.size a ≤ S4096x16384.size a := fun i v3465 k1_hw41 => k1_hw41.2

def k1_off43 (i : grid1.Coords) (v3471 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1877 : BitVec 32 := 32#32
  let v3474 : BitVec 32 := Scalar.addi v2 c32_i32_1877
  let c8_i32_1878 : BitVec 32 := 8#32
  let v3475 : BitVec 32 := Scalar.addi v3474 c8_i32_1878
  let c_m128_i32_1876 : BitVec 32 := 4294967168#32
  let v3472 : BitVec 32 := Scalar.andi v3471 c_m128_i32_1876
  let v3473 : BitVec 32 := v3472
  ![v3475.toNat, v3473.toNat]

def k1_chk42 (i : grid1.Coords) (v3471 : BitVec 32) : Prop :=
  (128 ∣ (k1_mult42 v3471).toNat) ∧
  (∀ a, (k1_off43 i v3471) a + S8x128.size a ≤ S4096x16384.size a)
theorem k1_mult42_dvd : ∀ (i : grid1.Coords) (v3471 : BitVec 32) (k1_hw42 : k1_chk42 i v3471), 128 ∣ (k1_mult42 v3471).toNat := fun i v3471 k1_hw42 => k1_hw42.1
theorem k1_off43_inb : ∀ (i : grid1.Coords) (v3471 : BitVec 32) (k1_hw42 : k1_chk42 i v3471), ∀ a, (k1_off43 i v3471) a + S8x128.size a ≤ S4096x16384.size a := fun i v3471 k1_hw42 => k1_hw42.2

def k1_off44 (i : grid1.Coords) (v3477 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1880 : BitVec 32 := 32#32
  let v3480 : BitVec 32 := Scalar.addi v2 c32_i32_1880
  let c8_i32_1881 : BitVec 32 := 8#32
  let v3481 : BitVec 32 := Scalar.addi v3480 c8_i32_1881
  let c_m128_i32_1879 : BitVec 32 := 4294967168#32
  let v3478 : BitVec 32 := Scalar.andi v3477 c_m128_i32_1879
  let v3479 : BitVec 32 := v3478
  ![v3481.toNat, v3479.toNat]

def k1_chk43 (i : grid1.Coords) (v3477 : BitVec 32) : Prop :=
  (128 ∣ (k1_mult43 v3477).toNat) ∧
  (∀ a, (k1_off44 i v3477) a + S8x128.size a ≤ S4096x16384.size a)
theorem k1_mult43_dvd : ∀ (i : grid1.Coords) (v3477 : BitVec 32) (k1_hw43 : k1_chk43 i v3477), 128 ∣ (k1_mult43 v3477).toNat := fun i v3477 k1_hw43 => k1_hw43.1
theorem k1_off44_inb : ∀ (i : grid1.Coords) (v3477 : BitVec 32) (k1_hw43 : k1_chk43 i v3477), ∀ a, (k1_off44 i v3477) a + S8x128.size a ≤ S4096x16384.size a := fun i v3477 k1_hw43 => k1_hw43.2

def k1_off45 (i : grid1.Coords) (v3483 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1883 : BitVec 32 := 32#32
  let v3486 : BitVec 32 := Scalar.addi v2 c32_i32_1883
  let c8_i32_1884 : BitVec 32 := 8#32
  let v3487 : BitVec 32 := Scalar.addi v3486 c8_i32_1884
  let c_m128_i32_1882 : BitVec 32 := 4294967168#32
  let v3484 : BitVec 32 := Scalar.andi v3483 c_m128_i32_1882
  let v3485 : BitVec 32 := v3484
  ![v3487.toNat, v3485.toNat]

def k1_chk44 (i : grid1.Coords) (v3483 : BitVec 32) : Prop :=
  (128 ∣ (k1_mult44 v3483).toNat) ∧
  (∀ a, (k1_off45 i v3483) a + S8x128.size a ≤ S4096x16384.size a)
theorem k1_mult44_dvd : ∀ (i : grid1.Coords) (v3483 : BitVec 32) (k1_hw44 : k1_chk44 i v3483), 128 ∣ (k1_mult44 v3483).toNat := fun i v3483 k1_hw44 => k1_hw44.1
theorem k1_off45_inb : ∀ (i : grid1.Coords) (v3483 : BitVec 32) (k1_hw44 : k1_chk44 i v3483), ∀ a, (k1_off45 i v3483) a + S8x128.size a ≤ S4096x16384.size a := fun i v3483 k1_hw44 => k1_hw44.2

def k1_mult45 (v3537 : BitVec 32) : BitVec 32 :=
  let c_m128_i32_1925 : BitVec 32 := 4294967168#32
  let v3538 : BitVec 32 := Scalar.andi v3537 c_m128_i32_1925
  v3538

def k1_mult46 (v3543 : BitVec 32) : BitVec 32 :=
  let c_m128_i32_1928 : BitVec 32 := 4294967168#32
  let v3544 : BitVec 32 := Scalar.andi v3543 c_m128_i32_1928
  v3544

def k1_mult47 (v3549 : BitVec 32) : BitVec 32 :=
  let c_m128_i32_1931 : BitVec 32 := 4294967168#32
  let v3550 : BitVec 32 := Scalar.andi v3549 c_m128_i32_1931
  v3550

def k1_mult48 (v3555 : BitVec 32) : BitVec 32 :=
  let c_m128_i32_1934 : BitVec 32 := 4294967168#32
  let v3556 : BitVec 32 := Scalar.andi v3555 c_m128_i32_1934
  v3556

def k1_off46 (i : grid1.Coords) (v3537 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1926 : BitVec 32 := 32#32
  let v3540 : BitVec 32 := Scalar.addi v2 c32_i32_1926
  let c8_i32_1927 : BitVec 32 := 8#32
  let v3541 : BitVec 32 := Scalar.addi v3540 c8_i32_1927
  let c_m128_i32_1925 : BitVec 32 := 4294967168#32
  let v3538 : BitVec 32 := Scalar.andi v3537 c_m128_i32_1925
  let v3539 : BitVec 32 := v3538
  ![v3541.toNat, v3539.toNat]

def k1_chk45 (i : grid1.Coords) (v3537 : BitVec 32) : Prop :=
  (128 ∣ (k1_mult45 v3537).toNat) ∧
  (∀ a, (k1_off46 i v3537) a + S8x128.size a ≤ S4096x16384.size a)
theorem k1_mult45_dvd : ∀ (i : grid1.Coords) (v3537 : BitVec 32) (k1_hw45 : k1_chk45 i v3537), 128 ∣ (k1_mult45 v3537).toNat := fun i v3537 k1_hw45 => k1_hw45.1
theorem k1_off46_inb : ∀ (i : grid1.Coords) (v3537 : BitVec 32) (k1_hw45 : k1_chk45 i v3537), ∀ a, (k1_off46 i v3537) a + S8x128.size a ≤ S4096x16384.size a := fun i v3537 k1_hw45 => k1_hw45.2

def k1_off47 (i : grid1.Coords) (v3543 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1929 : BitVec 32 := 32#32
  let v3546 : BitVec 32 := Scalar.addi v2 c32_i32_1929
  let c8_i32_1930 : BitVec 32 := 8#32
  let v3547 : BitVec 32 := Scalar.addi v3546 c8_i32_1930
  let c_m128_i32_1928 : BitVec 32 := 4294967168#32
  let v3544 : BitVec 32 := Scalar.andi v3543 c_m128_i32_1928
  let v3545 : BitVec 32 := v3544
  ![v3547.toNat, v3545.toNat]

def k1_chk46 (i : grid1.Coords) (v3543 : BitVec 32) : Prop :=
  (128 ∣ (k1_mult46 v3543).toNat) ∧
  (∀ a, (k1_off47 i v3543) a + S8x128.size a ≤ S4096x16384.size a)
theorem k1_mult46_dvd : ∀ (i : grid1.Coords) (v3543 : BitVec 32) (k1_hw46 : k1_chk46 i v3543), 128 ∣ (k1_mult46 v3543).toNat := fun i v3543 k1_hw46 => k1_hw46.1
theorem k1_off47_inb : ∀ (i : grid1.Coords) (v3543 : BitVec 32) (k1_hw46 : k1_chk46 i v3543), ∀ a, (k1_off47 i v3543) a + S8x128.size a ≤ S4096x16384.size a := fun i v3543 k1_hw46 => k1_hw46.2

def k1_off48 (i : grid1.Coords) (v3549 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1932 : BitVec 32 := 32#32
  let v3552 : BitVec 32 := Scalar.addi v2 c32_i32_1932
  let c8_i32_1933 : BitVec 32 := 8#32
  let v3553 : BitVec 32 := Scalar.addi v3552 c8_i32_1933
  let c_m128_i32_1931 : BitVec 32 := 4294967168#32
  let v3550 : BitVec 32 := Scalar.andi v3549 c_m128_i32_1931
  let v3551 : BitVec 32 := v3550
  ![v3553.toNat, v3551.toNat]

def k1_chk47 (i : grid1.Coords) (v3549 : BitVec 32) : Prop :=
  (128 ∣ (k1_mult47 v3549).toNat) ∧
  (∀ a, (k1_off48 i v3549) a + S8x128.size a ≤ S4096x16384.size a)
theorem k1_mult47_dvd : ∀ (i : grid1.Coords) (v3549 : BitVec 32) (k1_hw47 : k1_chk47 i v3549), 128 ∣ (k1_mult47 v3549).toNat := fun i v3549 k1_hw47 => k1_hw47.1
theorem k1_off48_inb : ∀ (i : grid1.Coords) (v3549 : BitVec 32) (k1_hw47 : k1_chk47 i v3549), ∀ a, (k1_off48 i v3549) a + S8x128.size a ≤ S4096x16384.size a := fun i v3549 k1_hw47 => k1_hw47.2

def k1_off49 (i : grid1.Coords) (v3555 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32_1935 : BitVec 32 := 32#32
  let v3558 : BitVec 32 := Scalar.addi v2 c32_i32_1935
  let c8_i32_1936 : BitVec 32 := 8#32
  let v3559 : BitVec 32 := Scalar.addi v3558 c8_i32_1936
  let c_m128_i32_1934 : BitVec 32 := 4294967168#32
  let v3556 : BitVec 32 := Scalar.andi v3555 c_m128_i32_1934
  let v3557 : BitVec 32 := v3556
  ![v3559.toNat, v3557.toNat]

def k1_chk48 (i : grid1.Coords) (v3555 : BitVec 32) : Prop :=
  (128 ∣ (k1_mult48 v3555).toNat) ∧
  (∀ a, (k1_off49 i v3555) a + S8x128.size a ≤ S4096x16384.size a)
theorem k1_mult48_dvd : ∀ (i : grid1.Coords) (v3555 : BitVec 32) (k1_hw48 : k1_chk48 i v3555), 128 ∣ (k1_mult48 v3555).toNat := fun i v3555 k1_hw48 => k1_hw48.1
theorem k1_off49_inb : ∀ (i : grid1.Coords) (v3555 : BitVec 32) (k1_hw48 : k1_chk48 i v3555), ∀ a, (k1_off49 i v3555) a + S8x128.size a ≤ S4096x16384.size a := fun i v3555 k1_hw48 => k1_hw48.2

def k1_mult49 (v4977 : BitVec 32) : BitVec 32 :=
  let c_m128_i32_2669 : BitVec 32 := 4294967168#32
  let v4978 : BitVec 32 := Scalar.andi v4977 c_m128_i32_2669
  v4978

def k1_mult50 (v4983 : BitVec 32) : BitVec 32 :=
  let c_m128_i32_2672 : BitVec 32 := 4294967168#32
  let v4984 : BitVec 32 := Scalar.andi v4983 c_m128_i32_2672
  v4984

def k1_mult51 (v4989 : BitVec 32) : BitVec 32 :=
  let c_m128_i32_2675 : BitVec 32 := 4294967168#32
  let v4990 : BitVec 32 := Scalar.andi v4989 c_m128_i32_2675
  v4990

def k1_mult52 (v4995 : BitVec 32) : BitVec 32 :=
  let c_m128_i32_2678 : BitVec 32 := 4294967168#32
  let v4996 : BitVec 32 := Scalar.andi v4995 c_m128_i32_2678
  v4996

def k1_off50 (i : grid1.Coords) (v4977 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2670 : BitVec 32 := 48#32
  let v4980 : BitVec 32 := Scalar.addi v2 c48_i32_2670
  let c0_i32_2671 : BitVec 32 := 0#32
  let v4981 : BitVec 32 := Scalar.addi v4980 c0_i32_2671
  let c_m128_i32_2669 : BitVec 32 := 4294967168#32
  let v4978 : BitVec 32 := Scalar.andi v4977 c_m128_i32_2669
  let v4979 : BitVec 32 := v4978
  ![v4981.toNat, v4979.toNat]

def k1_chk49 (i : grid1.Coords) (v4977 : BitVec 32) : Prop :=
  (128 ∣ (k1_mult49 v4977).toNat) ∧
  (∀ a, (k1_off50 i v4977) a + S8x128.size a ≤ S4096x16384.size a)
theorem k1_mult49_dvd : ∀ (i : grid1.Coords) (v4977 : BitVec 32) (k1_hw49 : k1_chk49 i v4977), 128 ∣ (k1_mult49 v4977).toNat := fun i v4977 k1_hw49 => k1_hw49.1
theorem k1_off50_inb : ∀ (i : grid1.Coords) (v4977 : BitVec 32) (k1_hw49 : k1_chk49 i v4977), ∀ a, (k1_off50 i v4977) a + S8x128.size a ≤ S4096x16384.size a := fun i v4977 k1_hw49 => k1_hw49.2

def k1_off51 (i : grid1.Coords) (v4983 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2673 : BitVec 32 := 48#32
  let v4986 : BitVec 32 := Scalar.addi v2 c48_i32_2673
  let c0_i32_2674 : BitVec 32 := 0#32
  let v4987 : BitVec 32 := Scalar.addi v4986 c0_i32_2674
  let c_m128_i32_2672 : BitVec 32 := 4294967168#32
  let v4984 : BitVec 32 := Scalar.andi v4983 c_m128_i32_2672
  let v4985 : BitVec 32 := v4984
  ![v4987.toNat, v4985.toNat]

def k1_chk50 (i : grid1.Coords) (v4983 : BitVec 32) : Prop :=
  (128 ∣ (k1_mult50 v4983).toNat) ∧
  (∀ a, (k1_off51 i v4983) a + S8x128.size a ≤ S4096x16384.size a)
theorem k1_mult50_dvd : ∀ (i : grid1.Coords) (v4983 : BitVec 32) (k1_hw50 : k1_chk50 i v4983), 128 ∣ (k1_mult50 v4983).toNat := fun i v4983 k1_hw50 => k1_hw50.1
theorem k1_off51_inb : ∀ (i : grid1.Coords) (v4983 : BitVec 32) (k1_hw50 : k1_chk50 i v4983), ∀ a, (k1_off51 i v4983) a + S8x128.size a ≤ S4096x16384.size a := fun i v4983 k1_hw50 => k1_hw50.2

def k1_off52 (i : grid1.Coords) (v4989 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2676 : BitVec 32 := 48#32
  let v4992 : BitVec 32 := Scalar.addi v2 c48_i32_2676
  let c0_i32_2677 : BitVec 32 := 0#32
  let v4993 : BitVec 32 := Scalar.addi v4992 c0_i32_2677
  let c_m128_i32_2675 : BitVec 32 := 4294967168#32
  let v4990 : BitVec 32 := Scalar.andi v4989 c_m128_i32_2675
  let v4991 : BitVec 32 := v4990
  ![v4993.toNat, v4991.toNat]

def k1_chk51 (i : grid1.Coords) (v4989 : BitVec 32) : Prop :=
  (128 ∣ (k1_mult51 v4989).toNat) ∧
  (∀ a, (k1_off52 i v4989) a + S8x128.size a ≤ S4096x16384.size a)
theorem k1_mult51_dvd : ∀ (i : grid1.Coords) (v4989 : BitVec 32) (k1_hw51 : k1_chk51 i v4989), 128 ∣ (k1_mult51 v4989).toNat := fun i v4989 k1_hw51 => k1_hw51.1
theorem k1_off52_inb : ∀ (i : grid1.Coords) (v4989 : BitVec 32) (k1_hw51 : k1_chk51 i v4989), ∀ a, (k1_off52 i v4989) a + S8x128.size a ≤ S4096x16384.size a := fun i v4989 k1_hw51 => k1_hw51.2

def k1_off53 (i : grid1.Coords) (v4995 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2679 : BitVec 32 := 48#32
  let v4998 : BitVec 32 := Scalar.addi v2 c48_i32_2679
  let c0_i32_2680 : BitVec 32 := 0#32
  let v4999 : BitVec 32 := Scalar.addi v4998 c0_i32_2680
  let c_m128_i32_2678 : BitVec 32 := 4294967168#32
  let v4996 : BitVec 32 := Scalar.andi v4995 c_m128_i32_2678
  let v4997 : BitVec 32 := v4996
  ![v4999.toNat, v4997.toNat]

def k1_chk52 (i : grid1.Coords) (v4995 : BitVec 32) : Prop :=
  (128 ∣ (k1_mult52 v4995).toNat) ∧
  (∀ a, (k1_off53 i v4995) a + S8x128.size a ≤ S4096x16384.size a)
theorem k1_mult52_dvd : ∀ (i : grid1.Coords) (v4995 : BitVec 32) (k1_hw52 : k1_chk52 i v4995), 128 ∣ (k1_mult52 v4995).toNat := fun i v4995 k1_hw52 => k1_hw52.1
theorem k1_off53_inb : ∀ (i : grid1.Coords) (v4995 : BitVec 32) (k1_hw52 : k1_chk52 i v4995), ∀ a, (k1_off53 i v4995) a + S8x128.size a ≤ S4096x16384.size a := fun i v4995 k1_hw52 => k1_hw52.2

def k1_mult53 (v5049 : BitVec 32) : BitVec 32 :=
  let c_m128_i32_2721 : BitVec 32 := 4294967168#32
  let v5050 : BitVec 32 := Scalar.andi v5049 c_m128_i32_2721
  v5050

def k1_mult54 (v5055 : BitVec 32) : BitVec 32 :=
  let c_m128_i32_2724 : BitVec 32 := 4294967168#32
  let v5056 : BitVec 32 := Scalar.andi v5055 c_m128_i32_2724
  v5056

def k1_mult55 (v5061 : BitVec 32) : BitVec 32 :=
  let c_m128_i32_2727 : BitVec 32 := 4294967168#32
  let v5062 : BitVec 32 := Scalar.andi v5061 c_m128_i32_2727
  v5062

def k1_mult56 (v5067 : BitVec 32) : BitVec 32 :=
  let c_m128_i32_2730 : BitVec 32 := 4294967168#32
  let v5068 : BitVec 32 := Scalar.andi v5067 c_m128_i32_2730
  v5068

def k1_off54 (i : grid1.Coords) (v5049 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2722 : BitVec 32 := 48#32
  let v5052 : BitVec 32 := Scalar.addi v2 c48_i32_2722
  let c0_i32_2723 : BitVec 32 := 0#32
  let v5053 : BitVec 32 := Scalar.addi v5052 c0_i32_2723
  let c_m128_i32_2721 : BitVec 32 := 4294967168#32
  let v5050 : BitVec 32 := Scalar.andi v5049 c_m128_i32_2721
  let v5051 : BitVec 32 := v5050
  ![v5053.toNat, v5051.toNat]

def k1_chk53 (i : grid1.Coords) (v5049 : BitVec 32) : Prop :=
  (128 ∣ (k1_mult53 v5049).toNat) ∧
  (∀ a, (k1_off54 i v5049) a + S8x128.size a ≤ S4096x16384.size a)
theorem k1_mult53_dvd : ∀ (i : grid1.Coords) (v5049 : BitVec 32) (k1_hw53 : k1_chk53 i v5049), 128 ∣ (k1_mult53 v5049).toNat := fun i v5049 k1_hw53 => k1_hw53.1
theorem k1_off54_inb : ∀ (i : grid1.Coords) (v5049 : BitVec 32) (k1_hw53 : k1_chk53 i v5049), ∀ a, (k1_off54 i v5049) a + S8x128.size a ≤ S4096x16384.size a := fun i v5049 k1_hw53 => k1_hw53.2

def k1_off55 (i : grid1.Coords) (v5055 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2725 : BitVec 32 := 48#32
  let v5058 : BitVec 32 := Scalar.addi v2 c48_i32_2725
  let c0_i32_2726 : BitVec 32 := 0#32
  let v5059 : BitVec 32 := Scalar.addi v5058 c0_i32_2726
  let c_m128_i32_2724 : BitVec 32 := 4294967168#32
  let v5056 : BitVec 32 := Scalar.andi v5055 c_m128_i32_2724
  let v5057 : BitVec 32 := v5056
  ![v5059.toNat, v5057.toNat]

def k1_chk54 (i : grid1.Coords) (v5055 : BitVec 32) : Prop :=
  (128 ∣ (k1_mult54 v5055).toNat) ∧
  (∀ a, (k1_off55 i v5055) a + S8x128.size a ≤ S4096x16384.size a)
theorem k1_mult54_dvd : ∀ (i : grid1.Coords) (v5055 : BitVec 32) (k1_hw54 : k1_chk54 i v5055), 128 ∣ (k1_mult54 v5055).toNat := fun i v5055 k1_hw54 => k1_hw54.1
theorem k1_off55_inb : ∀ (i : grid1.Coords) (v5055 : BitVec 32) (k1_hw54 : k1_chk54 i v5055), ∀ a, (k1_off55 i v5055) a + S8x128.size a ≤ S4096x16384.size a := fun i v5055 k1_hw54 => k1_hw54.2

def k1_off56 (i : grid1.Coords) (v5061 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2728 : BitVec 32 := 48#32
  let v5064 : BitVec 32 := Scalar.addi v2 c48_i32_2728
  let c0_i32_2729 : BitVec 32 := 0#32
  let v5065 : BitVec 32 := Scalar.addi v5064 c0_i32_2729
  let c_m128_i32_2727 : BitVec 32 := 4294967168#32
  let v5062 : BitVec 32 := Scalar.andi v5061 c_m128_i32_2727
  let v5063 : BitVec 32 := v5062
  ![v5065.toNat, v5063.toNat]

def k1_chk55 (i : grid1.Coords) (v5061 : BitVec 32) : Prop :=
  (128 ∣ (k1_mult55 v5061).toNat) ∧
  (∀ a, (k1_off56 i v5061) a + S8x128.size a ≤ S4096x16384.size a)
theorem k1_mult55_dvd : ∀ (i : grid1.Coords) (v5061 : BitVec 32) (k1_hw55 : k1_chk55 i v5061), 128 ∣ (k1_mult55 v5061).toNat := fun i v5061 k1_hw55 => k1_hw55.1
theorem k1_off56_inb : ∀ (i : grid1.Coords) (v5061 : BitVec 32) (k1_hw55 : k1_chk55 i v5061), ∀ a, (k1_off56 i v5061) a + S8x128.size a ≤ S4096x16384.size a := fun i v5061 k1_hw55 => k1_hw55.2

def k1_off57 (i : grid1.Coords) (v5067 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2731 : BitVec 32 := 48#32
  let v5070 : BitVec 32 := Scalar.addi v2 c48_i32_2731
  let c0_i32_2732 : BitVec 32 := 0#32
  let v5071 : BitVec 32 := Scalar.addi v5070 c0_i32_2732
  let c_m128_i32_2730 : BitVec 32 := 4294967168#32
  let v5068 : BitVec 32 := Scalar.andi v5067 c_m128_i32_2730
  let v5069 : BitVec 32 := v5068
  ![v5071.toNat, v5069.toNat]

def k1_chk56 (i : grid1.Coords) (v5067 : BitVec 32) : Prop :=
  (128 ∣ (k1_mult56 v5067).toNat) ∧
  (∀ a, (k1_off57 i v5067) a + S8x128.size a ≤ S4096x16384.size a)
theorem k1_mult56_dvd : ∀ (i : grid1.Coords) (v5067 : BitVec 32) (k1_hw56 : k1_chk56 i v5067), 128 ∣ (k1_mult56 v5067).toNat := fun i v5067 k1_hw56 => k1_hw56.1
theorem k1_off57_inb : ∀ (i : grid1.Coords) (v5067 : BitVec 32) (k1_hw56 : k1_chk56 i v5067), ∀ a, (k1_off57 i v5067) a + S8x128.size a ≤ S4096x16384.size a := fun i v5067 k1_hw56 => k1_hw56.2

def k1_mult57 (v5121 : BitVec 32) : BitVec 32 :=
  let c_m128_i32_2773 : BitVec 32 := 4294967168#32
  let v5122 : BitVec 32 := Scalar.andi v5121 c_m128_i32_2773
  v5122

def k1_mult58 (v5127 : BitVec 32) : BitVec 32 :=
  let c_m128_i32_2776 : BitVec 32 := 4294967168#32
  let v5128 : BitVec 32 := Scalar.andi v5127 c_m128_i32_2776
  v5128

def k1_mult59 (v5133 : BitVec 32) : BitVec 32 :=
  let c_m128_i32_2779 : BitVec 32 := 4294967168#32
  let v5134 : BitVec 32 := Scalar.andi v5133 c_m128_i32_2779
  v5134

def k1_mult60 (v5139 : BitVec 32) : BitVec 32 :=
  let c_m128_i32_2782 : BitVec 32 := 4294967168#32
  let v5140 : BitVec 32 := Scalar.andi v5139 c_m128_i32_2782
  v5140

def k1_off58 (i : grid1.Coords) (v5121 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2774 : BitVec 32 := 48#32
  let v5124 : BitVec 32 := Scalar.addi v2 c48_i32_2774
  let c8_i32_2775 : BitVec 32 := 8#32
  let v5125 : BitVec 32 := Scalar.addi v5124 c8_i32_2775
  let c_m128_i32_2773 : BitVec 32 := 4294967168#32
  let v5122 : BitVec 32 := Scalar.andi v5121 c_m128_i32_2773
  let v5123 : BitVec 32 := v5122
  ![v5125.toNat, v5123.toNat]

def k1_chk57 (i : grid1.Coords) (v5121 : BitVec 32) : Prop :=
  (128 ∣ (k1_mult57 v5121).toNat) ∧
  (∀ a, (k1_off58 i v5121) a + S8x128.size a ≤ S4096x16384.size a)
theorem k1_mult57_dvd : ∀ (i : grid1.Coords) (v5121 : BitVec 32) (k1_hw57 : k1_chk57 i v5121), 128 ∣ (k1_mult57 v5121).toNat := fun i v5121 k1_hw57 => k1_hw57.1
theorem k1_off58_inb : ∀ (i : grid1.Coords) (v5121 : BitVec 32) (k1_hw57 : k1_chk57 i v5121), ∀ a, (k1_off58 i v5121) a + S8x128.size a ≤ S4096x16384.size a := fun i v5121 k1_hw57 => k1_hw57.2

def k1_off59 (i : grid1.Coords) (v5127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2777 : BitVec 32 := 48#32
  let v5130 : BitVec 32 := Scalar.addi v2 c48_i32_2777
  let c8_i32_2778 : BitVec 32 := 8#32
  let v5131 : BitVec 32 := Scalar.addi v5130 c8_i32_2778
  let c_m128_i32_2776 : BitVec 32 := 4294967168#32
  let v5128 : BitVec 32 := Scalar.andi v5127 c_m128_i32_2776
  let v5129 : BitVec 32 := v5128
  ![v5131.toNat, v5129.toNat]

def k1_chk58 (i : grid1.Coords) (v5127 : BitVec 32) : Prop :=
  (128 ∣ (k1_mult58 v5127).toNat) ∧
  (∀ a, (k1_off59 i v5127) a + S8x128.size a ≤ S4096x16384.size a)
theorem k1_mult58_dvd : ∀ (i : grid1.Coords) (v5127 : BitVec 32) (k1_hw58 : k1_chk58 i v5127), 128 ∣ (k1_mult58 v5127).toNat := fun i v5127 k1_hw58 => k1_hw58.1
theorem k1_off59_inb : ∀ (i : grid1.Coords) (v5127 : BitVec 32) (k1_hw58 : k1_chk58 i v5127), ∀ a, (k1_off59 i v5127) a + S8x128.size a ≤ S4096x16384.size a := fun i v5127 k1_hw58 => k1_hw58.2

def k1_off60 (i : grid1.Coords) (v5133 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2780 : BitVec 32 := 48#32
  let v5136 : BitVec 32 := Scalar.addi v2 c48_i32_2780
  let c8_i32_2781 : BitVec 32 := 8#32
  let v5137 : BitVec 32 := Scalar.addi v5136 c8_i32_2781
  let c_m128_i32_2779 : BitVec 32 := 4294967168#32
  let v5134 : BitVec 32 := Scalar.andi v5133 c_m128_i32_2779
  let v5135 : BitVec 32 := v5134
  ![v5137.toNat, v5135.toNat]

def k1_chk59 (i : grid1.Coords) (v5133 : BitVec 32) : Prop :=
  (128 ∣ (k1_mult59 v5133).toNat) ∧
  (∀ a, (k1_off60 i v5133) a + S8x128.size a ≤ S4096x16384.size a)
theorem k1_mult59_dvd : ∀ (i : grid1.Coords) (v5133 : BitVec 32) (k1_hw59 : k1_chk59 i v5133), 128 ∣ (k1_mult59 v5133).toNat := fun i v5133 k1_hw59 => k1_hw59.1
theorem k1_off60_inb : ∀ (i : grid1.Coords) (v5133 : BitVec 32) (k1_hw59 : k1_chk59 i v5133), ∀ a, (k1_off60 i v5133) a + S8x128.size a ≤ S4096x16384.size a := fun i v5133 k1_hw59 => k1_hw59.2

def k1_off61 (i : grid1.Coords) (v5139 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2783 : BitVec 32 := 48#32
  let v5142 : BitVec 32 := Scalar.addi v2 c48_i32_2783
  let c8_i32_2784 : BitVec 32 := 8#32
  let v5143 : BitVec 32 := Scalar.addi v5142 c8_i32_2784
  let c_m128_i32_2782 : BitVec 32 := 4294967168#32
  let v5140 : BitVec 32 := Scalar.andi v5139 c_m128_i32_2782
  let v5141 : BitVec 32 := v5140
  ![v5143.toNat, v5141.toNat]

def k1_chk60 (i : grid1.Coords) (v5139 : BitVec 32) : Prop :=
  (128 ∣ (k1_mult60 v5139).toNat) ∧
  (∀ a, (k1_off61 i v5139) a + S8x128.size a ≤ S4096x16384.size a)
theorem k1_mult60_dvd : ∀ (i : grid1.Coords) (v5139 : BitVec 32) (k1_hw60 : k1_chk60 i v5139), 128 ∣ (k1_mult60 v5139).toNat := fun i v5139 k1_hw60 => k1_hw60.1
theorem k1_off61_inb : ∀ (i : grid1.Coords) (v5139 : BitVec 32) (k1_hw60 : k1_chk60 i v5139), ∀ a, (k1_off61 i v5139) a + S8x128.size a ≤ S4096x16384.size a := fun i v5139 k1_hw60 => k1_hw60.2

def k1_mult61 (v5193 : BitVec 32) : BitVec 32 :=
  let c_m128_i32_2825 : BitVec 32 := 4294967168#32
  let v5194 : BitVec 32 := Scalar.andi v5193 c_m128_i32_2825
  v5194

def k1_mult62 (v5199 : BitVec 32) : BitVec 32 :=
  let c_m128_i32_2828 : BitVec 32 := 4294967168#32
  let v5200 : BitVec 32 := Scalar.andi v5199 c_m128_i32_2828
  v5200

def k1_mult63 (v5205 : BitVec 32) : BitVec 32 :=
  let c_m128_i32_2831 : BitVec 32 := 4294967168#32
  let v5206 : BitVec 32 := Scalar.andi v5205 c_m128_i32_2831
  v5206

def k1_mult64 (v5211 : BitVec 32) : BitVec 32 :=
  let c_m128_i32_2834 : BitVec 32 := 4294967168#32
  let v5212 : BitVec 32 := Scalar.andi v5211 c_m128_i32_2834
  v5212

def k1_off62 (i : grid1.Coords) (v5193 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2826 : BitVec 32 := 48#32
  let v5196 : BitVec 32 := Scalar.addi v2 c48_i32_2826
  let c8_i32_2827 : BitVec 32 := 8#32
  let v5197 : BitVec 32 := Scalar.addi v5196 c8_i32_2827
  let c_m128_i32_2825 : BitVec 32 := 4294967168#32
  let v5194 : BitVec 32 := Scalar.andi v5193 c_m128_i32_2825
  let v5195 : BitVec 32 := v5194
  ![v5197.toNat, v5195.toNat]

def k1_chk61 (i : grid1.Coords) (v5193 : BitVec 32) : Prop :=
  (128 ∣ (k1_mult61 v5193).toNat) ∧
  (∀ a, (k1_off62 i v5193) a + S8x128.size a ≤ S4096x16384.size a)
theorem k1_mult61_dvd : ∀ (i : grid1.Coords) (v5193 : BitVec 32) (k1_hw61 : k1_chk61 i v5193), 128 ∣ (k1_mult61 v5193).toNat := fun i v5193 k1_hw61 => k1_hw61.1
theorem k1_off62_inb : ∀ (i : grid1.Coords) (v5193 : BitVec 32) (k1_hw61 : k1_chk61 i v5193), ∀ a, (k1_off62 i v5193) a + S8x128.size a ≤ S4096x16384.size a := fun i v5193 k1_hw61 => k1_hw61.2

def k1_off63 (i : grid1.Coords) (v5199 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2829 : BitVec 32 := 48#32
  let v5202 : BitVec 32 := Scalar.addi v2 c48_i32_2829
  let c8_i32_2830 : BitVec 32 := 8#32
  let v5203 : BitVec 32 := Scalar.addi v5202 c8_i32_2830
  let c_m128_i32_2828 : BitVec 32 := 4294967168#32
  let v5200 : BitVec 32 := Scalar.andi v5199 c_m128_i32_2828
  let v5201 : BitVec 32 := v5200
  ![v5203.toNat, v5201.toNat]

def k1_chk62 (i : grid1.Coords) (v5199 : BitVec 32) : Prop :=
  (128 ∣ (k1_mult62 v5199).toNat) ∧
  (∀ a, (k1_off63 i v5199) a + S8x128.size a ≤ S4096x16384.size a)
theorem k1_mult62_dvd : ∀ (i : grid1.Coords) (v5199 : BitVec 32) (k1_hw62 : k1_chk62 i v5199), 128 ∣ (k1_mult62 v5199).toNat := fun i v5199 k1_hw62 => k1_hw62.1
theorem k1_off63_inb : ∀ (i : grid1.Coords) (v5199 : BitVec 32) (k1_hw62 : k1_chk62 i v5199), ∀ a, (k1_off63 i v5199) a + S8x128.size a ≤ S4096x16384.size a := fun i v5199 k1_hw62 => k1_hw62.2

def k1_off64 (i : grid1.Coords) (v5205 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2832 : BitVec 32 := 48#32
  let v5208 : BitVec 32 := Scalar.addi v2 c48_i32_2832
  let c8_i32_2833 : BitVec 32 := 8#32
  let v5209 : BitVec 32 := Scalar.addi v5208 c8_i32_2833
  let c_m128_i32_2831 : BitVec 32 := 4294967168#32
  let v5206 : BitVec 32 := Scalar.andi v5205 c_m128_i32_2831
  let v5207 : BitVec 32 := v5206
  ![v5209.toNat, v5207.toNat]

def k1_chk63 (i : grid1.Coords) (v5205 : BitVec 32) : Prop :=
  (128 ∣ (k1_mult63 v5205).toNat) ∧
  (∀ a, (k1_off64 i v5205) a + S8x128.size a ≤ S4096x16384.size a)
theorem k1_mult63_dvd : ∀ (i : grid1.Coords) (v5205 : BitVec 32) (k1_hw63 : k1_chk63 i v5205), 128 ∣ (k1_mult63 v5205).toNat := fun i v5205 k1_hw63 => k1_hw63.1
theorem k1_off64_inb : ∀ (i : grid1.Coords) (v5205 : BitVec 32) (k1_hw63 : k1_chk63 i v5205), ∀ a, (k1_off64 i v5205) a + S8x128.size a ≤ S4096x16384.size a := fun i v5205 k1_hw63 => k1_hw63.2

def k1_off65 (i : grid1.Coords) (v5211 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32_2835 : BitVec 32 := 48#32
  let v5214 : BitVec 32 := Scalar.addi v2 c48_i32_2835
  let c8_i32_2836 : BitVec 32 := 8#32
  let v5215 : BitVec 32 := Scalar.addi v5214 c8_i32_2836
  let c_m128_i32_2834 : BitVec 32 := 4294967168#32
  let v5212 : BitVec 32 := Scalar.andi v5211 c_m128_i32_2834
  let v5213 : BitVec 32 := v5212
  ![v5215.toNat, v5213.toNat]

def k1_chk64 (i : grid1.Coords) (v5211 : BitVec 32) : Prop :=
  (128 ∣ (k1_mult64 v5211).toNat) ∧
  (∀ a, (k1_off65 i v5211) a + S8x128.size a ≤ S4096x16384.size a)
theorem k1_mult64_dvd : ∀ (i : grid1.Coords) (v5211 : BitVec 32) (k1_hw64 : k1_chk64 i v5211), 128 ∣ (k1_mult64 v5211).toNat := fun i v5211 k1_hw64 => k1_hw64.1
theorem k1_off65_inb : ∀ (i : grid1.Coords) (v5211 : BitVec 32) (k1_hw64 : k1_chk64 i v5211), ∀ a, (k1_off65 i v5211) a + S8x128.size a ≤ S4096x16384.size a := fun i v5211 k1_hw64 => k1_hw64.2

def k1_mult65 (v6633 : BitVec 32) : BitVec 32 :=
  let c_m128_i32_3569 : BitVec 32 := 4294967168#32
  let v6634 : BitVec 32 := Scalar.andi v6633 c_m128_i32_3569
  v6634

def k1_mult66 (v6639 : BitVec 32) : BitVec 32 :=
  let c_m128_i32_3572 : BitVec 32 := 4294967168#32
  let v6640 : BitVec 32 := Scalar.andi v6639 c_m128_i32_3572
  v6640

def k1_mult67 (v6645 : BitVec 32) : BitVec 32 :=
  let c_m128_i32_3575 : BitVec 32 := 4294967168#32
  let v6646 : BitVec 32 := Scalar.andi v6645 c_m128_i32_3575
  v6646

def k1_mult68 (v6651 : BitVec 32) : BitVec 32 :=
  let c_m128_i32_3578 : BitVec 32 := 4294967168#32
  let v6652 : BitVec 32 := Scalar.andi v6651 c_m128_i32_3578
  v6652

def k1_off66 (i : grid1.Coords) (v6633 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3570 : BitVec 32 := 64#32
  let v6636 : BitVec 32 := Scalar.addi v2 c64_i32_3570
  let c0_i32_3571 : BitVec 32 := 0#32
  let v6637 : BitVec 32 := Scalar.addi v6636 c0_i32_3571
  let c_m128_i32_3569 : BitVec 32 := 4294967168#32
  let v6634 : BitVec 32 := Scalar.andi v6633 c_m128_i32_3569
  let v6635 : BitVec 32 := v6634
  ![v6637.toNat, v6635.toNat]

def k1_chk65 (i : grid1.Coords) (v6633 : BitVec 32) : Prop :=
  (128 ∣ (k1_mult65 v6633).toNat) ∧
  (∀ a, (k1_off66 i v6633) a + S8x128.size a ≤ S4096x16384.size a)
theorem k1_mult65_dvd : ∀ (i : grid1.Coords) (v6633 : BitVec 32) (k1_hw65 : k1_chk65 i v6633), 128 ∣ (k1_mult65 v6633).toNat := fun i v6633 k1_hw65 => k1_hw65.1
theorem k1_off66_inb : ∀ (i : grid1.Coords) (v6633 : BitVec 32) (k1_hw65 : k1_chk65 i v6633), ∀ a, (k1_off66 i v6633) a + S8x128.size a ≤ S4096x16384.size a := fun i v6633 k1_hw65 => k1_hw65.2

def k1_off67 (i : grid1.Coords) (v6639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3573 : BitVec 32 := 64#32
  let v6642 : BitVec 32 := Scalar.addi v2 c64_i32_3573
  let c0_i32_3574 : BitVec 32 := 0#32
  let v6643 : BitVec 32 := Scalar.addi v6642 c0_i32_3574
  let c_m128_i32_3572 : BitVec 32 := 4294967168#32
  let v6640 : BitVec 32 := Scalar.andi v6639 c_m128_i32_3572
  let v6641 : BitVec 32 := v6640
  ![v6643.toNat, v6641.toNat]

def k1_chk66 (i : grid1.Coords) (v6639 : BitVec 32) : Prop :=
  (128 ∣ (k1_mult66 v6639).toNat) ∧
  (∀ a, (k1_off67 i v6639) a + S8x128.size a ≤ S4096x16384.size a)
theorem k1_mult66_dvd : ∀ (i : grid1.Coords) (v6639 : BitVec 32) (k1_hw66 : k1_chk66 i v6639), 128 ∣ (k1_mult66 v6639).toNat := fun i v6639 k1_hw66 => k1_hw66.1
theorem k1_off67_inb : ∀ (i : grid1.Coords) (v6639 : BitVec 32) (k1_hw66 : k1_chk66 i v6639), ∀ a, (k1_off67 i v6639) a + S8x128.size a ≤ S4096x16384.size a := fun i v6639 k1_hw66 => k1_hw66.2

def k1_off68 (i : grid1.Coords) (v6645 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3576 : BitVec 32 := 64#32
  let v6648 : BitVec 32 := Scalar.addi v2 c64_i32_3576
  let c0_i32_3577 : BitVec 32 := 0#32
  let v6649 : BitVec 32 := Scalar.addi v6648 c0_i32_3577
  let c_m128_i32_3575 : BitVec 32 := 4294967168#32
  let v6646 : BitVec 32 := Scalar.andi v6645 c_m128_i32_3575
  let v6647 : BitVec 32 := v6646
  ![v6649.toNat, v6647.toNat]

def k1_chk67 (i : grid1.Coords) (v6645 : BitVec 32) : Prop :=
  (128 ∣ (k1_mult67 v6645).toNat) ∧
  (∀ a, (k1_off68 i v6645) a + S8x128.size a ≤ S4096x16384.size a)
theorem k1_mult67_dvd : ∀ (i : grid1.Coords) (v6645 : BitVec 32) (k1_hw67 : k1_chk67 i v6645), 128 ∣ (k1_mult67 v6645).toNat := fun i v6645 k1_hw67 => k1_hw67.1
theorem k1_off68_inb : ∀ (i : grid1.Coords) (v6645 : BitVec 32) (k1_hw67 : k1_chk67 i v6645), ∀ a, (k1_off68 i v6645) a + S8x128.size a ≤ S4096x16384.size a := fun i v6645 k1_hw67 => k1_hw67.2

def k1_off69 (i : grid1.Coords) (v6651 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3579 : BitVec 32 := 64#32
  let v6654 : BitVec 32 := Scalar.addi v2 c64_i32_3579
  let c0_i32_3580 : BitVec 32 := 0#32
  let v6655 : BitVec 32 := Scalar.addi v6654 c0_i32_3580
  let c_m128_i32_3578 : BitVec 32 := 4294967168#32
  let v6652 : BitVec 32 := Scalar.andi v6651 c_m128_i32_3578
  let v6653 : BitVec 32 := v6652
  ![v6655.toNat, v6653.toNat]

def k1_chk68 (i : grid1.Coords) (v6651 : BitVec 32) : Prop :=
  (128 ∣ (k1_mult68 v6651).toNat) ∧
  (∀ a, (k1_off69 i v6651) a + S8x128.size a ≤ S4096x16384.size a)
theorem k1_mult68_dvd : ∀ (i : grid1.Coords) (v6651 : BitVec 32) (k1_hw68 : k1_chk68 i v6651), 128 ∣ (k1_mult68 v6651).toNat := fun i v6651 k1_hw68 => k1_hw68.1
theorem k1_off69_inb : ∀ (i : grid1.Coords) (v6651 : BitVec 32) (k1_hw68 : k1_chk68 i v6651), ∀ a, (k1_off69 i v6651) a + S8x128.size a ≤ S4096x16384.size a := fun i v6651 k1_hw68 => k1_hw68.2

def k1_mult69 (v6705 : BitVec 32) : BitVec 32 :=
  let c_m128_i32_3621 : BitVec 32 := 4294967168#32
  let v6706 : BitVec 32 := Scalar.andi v6705 c_m128_i32_3621
  v6706

def k1_mult70 (v6711 : BitVec 32) : BitVec 32 :=
  let c_m128_i32_3624 : BitVec 32 := 4294967168#32
  let v6712 : BitVec 32 := Scalar.andi v6711 c_m128_i32_3624
  v6712

def k1_mult71 (v6717 : BitVec 32) : BitVec 32 :=
  let c_m128_i32_3627 : BitVec 32 := 4294967168#32
  let v6718 : BitVec 32 := Scalar.andi v6717 c_m128_i32_3627
  v6718

def k1_mult72 (v6723 : BitVec 32) : BitVec 32 :=
  let c_m128_i32_3630 : BitVec 32 := 4294967168#32
  let v6724 : BitVec 32 := Scalar.andi v6723 c_m128_i32_3630
  v6724

def k1_off70 (i : grid1.Coords) (v6705 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3622 : BitVec 32 := 64#32
  let v6708 : BitVec 32 := Scalar.addi v2 c64_i32_3622
  let c0_i32_3623 : BitVec 32 := 0#32
  let v6709 : BitVec 32 := Scalar.addi v6708 c0_i32_3623
  let c_m128_i32_3621 : BitVec 32 := 4294967168#32
  let v6706 : BitVec 32 := Scalar.andi v6705 c_m128_i32_3621
  let v6707 : BitVec 32 := v6706
  ![v6709.toNat, v6707.toNat]

def k1_chk69 (i : grid1.Coords) (v6705 : BitVec 32) : Prop :=
  (128 ∣ (k1_mult69 v6705).toNat) ∧
  (∀ a, (k1_off70 i v6705) a + S8x128.size a ≤ S4096x16384.size a)
theorem k1_mult69_dvd : ∀ (i : grid1.Coords) (v6705 : BitVec 32) (k1_hw69 : k1_chk69 i v6705), 128 ∣ (k1_mult69 v6705).toNat := fun i v6705 k1_hw69 => k1_hw69.1
theorem k1_off70_inb : ∀ (i : grid1.Coords) (v6705 : BitVec 32) (k1_hw69 : k1_chk69 i v6705), ∀ a, (k1_off70 i v6705) a + S8x128.size a ≤ S4096x16384.size a := fun i v6705 k1_hw69 => k1_hw69.2

def k1_off71 (i : grid1.Coords) (v6711 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3625 : BitVec 32 := 64#32
  let v6714 : BitVec 32 := Scalar.addi v2 c64_i32_3625
  let c0_i32_3626 : BitVec 32 := 0#32
  let v6715 : BitVec 32 := Scalar.addi v6714 c0_i32_3626
  let c_m128_i32_3624 : BitVec 32 := 4294967168#32
  let v6712 : BitVec 32 := Scalar.andi v6711 c_m128_i32_3624
  let v6713 : BitVec 32 := v6712
  ![v6715.toNat, v6713.toNat]

def k1_chk70 (i : grid1.Coords) (v6711 : BitVec 32) : Prop :=
  (128 ∣ (k1_mult70 v6711).toNat) ∧
  (∀ a, (k1_off71 i v6711) a + S8x128.size a ≤ S4096x16384.size a)
theorem k1_mult70_dvd : ∀ (i : grid1.Coords) (v6711 : BitVec 32) (k1_hw70 : k1_chk70 i v6711), 128 ∣ (k1_mult70 v6711).toNat := fun i v6711 k1_hw70 => k1_hw70.1
theorem k1_off71_inb : ∀ (i : grid1.Coords) (v6711 : BitVec 32) (k1_hw70 : k1_chk70 i v6711), ∀ a, (k1_off71 i v6711) a + S8x128.size a ≤ S4096x16384.size a := fun i v6711 k1_hw70 => k1_hw70.2

def k1_off72 (i : grid1.Coords) (v6717 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3628 : BitVec 32 := 64#32
  let v6720 : BitVec 32 := Scalar.addi v2 c64_i32_3628
  let c0_i32_3629 : BitVec 32 := 0#32
  let v6721 : BitVec 32 := Scalar.addi v6720 c0_i32_3629
  let c_m128_i32_3627 : BitVec 32 := 4294967168#32
  let v6718 : BitVec 32 := Scalar.andi v6717 c_m128_i32_3627
  let v6719 : BitVec 32 := v6718
  ![v6721.toNat, v6719.toNat]

def k1_chk71 (i : grid1.Coords) (v6717 : BitVec 32) : Prop :=
  (128 ∣ (k1_mult71 v6717).toNat) ∧
  (∀ a, (k1_off72 i v6717) a + S8x128.size a ≤ S4096x16384.size a)
theorem k1_mult71_dvd : ∀ (i : grid1.Coords) (v6717 : BitVec 32) (k1_hw71 : k1_chk71 i v6717), 128 ∣ (k1_mult71 v6717).toNat := fun i v6717 k1_hw71 => k1_hw71.1
theorem k1_off72_inb : ∀ (i : grid1.Coords) (v6717 : BitVec 32) (k1_hw71 : k1_chk71 i v6717), ∀ a, (k1_off72 i v6717) a + S8x128.size a ≤ S4096x16384.size a := fun i v6717 k1_hw71 => k1_hw71.2

def k1_off73 (i : grid1.Coords) (v6723 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3631 : BitVec 32 := 64#32
  let v6726 : BitVec 32 := Scalar.addi v2 c64_i32_3631
  let c0_i32_3632 : BitVec 32 := 0#32
  let v6727 : BitVec 32 := Scalar.addi v6726 c0_i32_3632
  let c_m128_i32_3630 : BitVec 32 := 4294967168#32
  let v6724 : BitVec 32 := Scalar.andi v6723 c_m128_i32_3630
  let v6725 : BitVec 32 := v6724
  ![v6727.toNat, v6725.toNat]

def k1_chk72 (i : grid1.Coords) (v6723 : BitVec 32) : Prop :=
  (128 ∣ (k1_mult72 v6723).toNat) ∧
  (∀ a, (k1_off73 i v6723) a + S8x128.size a ≤ S4096x16384.size a)
theorem k1_mult72_dvd : ∀ (i : grid1.Coords) (v6723 : BitVec 32) (k1_hw72 : k1_chk72 i v6723), 128 ∣ (k1_mult72 v6723).toNat := fun i v6723 k1_hw72 => k1_hw72.1
theorem k1_off73_inb : ∀ (i : grid1.Coords) (v6723 : BitVec 32) (k1_hw72 : k1_chk72 i v6723), ∀ a, (k1_off73 i v6723) a + S8x128.size a ≤ S4096x16384.size a := fun i v6723 k1_hw72 => k1_hw72.2

def k1_mult73 (v6777 : BitVec 32) : BitVec 32 :=
  let c_m128_i32_3673 : BitVec 32 := 4294967168#32
  let v6778 : BitVec 32 := Scalar.andi v6777 c_m128_i32_3673
  v6778

def k1_mult74 (v6783 : BitVec 32) : BitVec 32 :=
  let c_m128_i32_3676 : BitVec 32 := 4294967168#32
  let v6784 : BitVec 32 := Scalar.andi v6783 c_m128_i32_3676
  v6784

def k1_mult75 (v6789 : BitVec 32) : BitVec 32 :=
  let c_m128_i32_3679 : BitVec 32 := 4294967168#32
  let v6790 : BitVec 32 := Scalar.andi v6789 c_m128_i32_3679
  v6790

def k1_mult76 (v6795 : BitVec 32) : BitVec 32 :=
  let c_m128_i32_3682 : BitVec 32 := 4294967168#32
  let v6796 : BitVec 32 := Scalar.andi v6795 c_m128_i32_3682
  v6796

def k1_off74 (i : grid1.Coords) (v6777 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3674 : BitVec 32 := 64#32
  let v6780 : BitVec 32 := Scalar.addi v2 c64_i32_3674
  let c8_i32_3675 : BitVec 32 := 8#32
  let v6781 : BitVec 32 := Scalar.addi v6780 c8_i32_3675
  let c_m128_i32_3673 : BitVec 32 := 4294967168#32
  let v6778 : BitVec 32 := Scalar.andi v6777 c_m128_i32_3673
  let v6779 : BitVec 32 := v6778
  ![v6781.toNat, v6779.toNat]

def k1_chk73 (i : grid1.Coords) (v6777 : BitVec 32) : Prop :=
  (128 ∣ (k1_mult73 v6777).toNat) ∧
  (∀ a, (k1_off74 i v6777) a + S8x128.size a ≤ S4096x16384.size a)
theorem k1_mult73_dvd : ∀ (i : grid1.Coords) (v6777 : BitVec 32) (k1_hw73 : k1_chk73 i v6777), 128 ∣ (k1_mult73 v6777).toNat := fun i v6777 k1_hw73 => k1_hw73.1
theorem k1_off74_inb : ∀ (i : grid1.Coords) (v6777 : BitVec 32) (k1_hw73 : k1_chk73 i v6777), ∀ a, (k1_off74 i v6777) a + S8x128.size a ≤ S4096x16384.size a := fun i v6777 k1_hw73 => k1_hw73.2

def k1_off75 (i : grid1.Coords) (v6783 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3677 : BitVec 32 := 64#32
  let v6786 : BitVec 32 := Scalar.addi v2 c64_i32_3677
  let c8_i32_3678 : BitVec 32 := 8#32
  let v6787 : BitVec 32 := Scalar.addi v6786 c8_i32_3678
  let c_m128_i32_3676 : BitVec 32 := 4294967168#32
  let v6784 : BitVec 32 := Scalar.andi v6783 c_m128_i32_3676
  let v6785 : BitVec 32 := v6784
  ![v6787.toNat, v6785.toNat]

def k1_chk74 (i : grid1.Coords) (v6783 : BitVec 32) : Prop :=
  (128 ∣ (k1_mult74 v6783).toNat) ∧
  (∀ a, (k1_off75 i v6783) a + S8x128.size a ≤ S4096x16384.size a)
theorem k1_mult74_dvd : ∀ (i : grid1.Coords) (v6783 : BitVec 32) (k1_hw74 : k1_chk74 i v6783), 128 ∣ (k1_mult74 v6783).toNat := fun i v6783 k1_hw74 => k1_hw74.1
theorem k1_off75_inb : ∀ (i : grid1.Coords) (v6783 : BitVec 32) (k1_hw74 : k1_chk74 i v6783), ∀ a, (k1_off75 i v6783) a + S8x128.size a ≤ S4096x16384.size a := fun i v6783 k1_hw74 => k1_hw74.2

def k1_off76 (i : grid1.Coords) (v6789 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3680 : BitVec 32 := 64#32
  let v6792 : BitVec 32 := Scalar.addi v2 c64_i32_3680
  let c8_i32_3681 : BitVec 32 := 8#32
  let v6793 : BitVec 32 := Scalar.addi v6792 c8_i32_3681
  let c_m128_i32_3679 : BitVec 32 := 4294967168#32
  let v6790 : BitVec 32 := Scalar.andi v6789 c_m128_i32_3679
  let v6791 : BitVec 32 := v6790
  ![v6793.toNat, v6791.toNat]

def k1_chk75 (i : grid1.Coords) (v6789 : BitVec 32) : Prop :=
  (128 ∣ (k1_mult75 v6789).toNat) ∧
  (∀ a, (k1_off76 i v6789) a + S8x128.size a ≤ S4096x16384.size a)
theorem k1_mult75_dvd : ∀ (i : grid1.Coords) (v6789 : BitVec 32) (k1_hw75 : k1_chk75 i v6789), 128 ∣ (k1_mult75 v6789).toNat := fun i v6789 k1_hw75 => k1_hw75.1
theorem k1_off76_inb : ∀ (i : grid1.Coords) (v6789 : BitVec 32) (k1_hw75 : k1_chk75 i v6789), ∀ a, (k1_off76 i v6789) a + S8x128.size a ≤ S4096x16384.size a := fun i v6789 k1_hw75 => k1_hw75.2

def k1_off77 (i : grid1.Coords) (v6795 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3683 : BitVec 32 := 64#32
  let v6798 : BitVec 32 := Scalar.addi v2 c64_i32_3683
  let c8_i32_3684 : BitVec 32 := 8#32
  let v6799 : BitVec 32 := Scalar.addi v6798 c8_i32_3684
  let c_m128_i32_3682 : BitVec 32 := 4294967168#32
  let v6796 : BitVec 32 := Scalar.andi v6795 c_m128_i32_3682
  let v6797 : BitVec 32 := v6796
  ![v6799.toNat, v6797.toNat]

def k1_chk76 (i : grid1.Coords) (v6795 : BitVec 32) : Prop :=
  (128 ∣ (k1_mult76 v6795).toNat) ∧
  (∀ a, (k1_off77 i v6795) a + S8x128.size a ≤ S4096x16384.size a)
theorem k1_mult76_dvd : ∀ (i : grid1.Coords) (v6795 : BitVec 32) (k1_hw76 : k1_chk76 i v6795), 128 ∣ (k1_mult76 v6795).toNat := fun i v6795 k1_hw76 => k1_hw76.1
theorem k1_off77_inb : ∀ (i : grid1.Coords) (v6795 : BitVec 32) (k1_hw76 : k1_chk76 i v6795), ∀ a, (k1_off77 i v6795) a + S8x128.size a ≤ S4096x16384.size a := fun i v6795 k1_hw76 => k1_hw76.2

def k1_mult77 (v6849 : BitVec 32) : BitVec 32 :=
  let c_m128_i32_3725 : BitVec 32 := 4294967168#32
  let v6850 : BitVec 32 := Scalar.andi v6849 c_m128_i32_3725
  v6850

def k1_mult78 (v6855 : BitVec 32) : BitVec 32 :=
  let c_m128_i32_3728 : BitVec 32 := 4294967168#32
  let v6856 : BitVec 32 := Scalar.andi v6855 c_m128_i32_3728
  v6856

def k1_mult79 (v6861 : BitVec 32) : BitVec 32 :=
  let c_m128_i32_3731 : BitVec 32 := 4294967168#32
  let v6862 : BitVec 32 := Scalar.andi v6861 c_m128_i32_3731
  v6862

def k1_mult80 (v6867 : BitVec 32) : BitVec 32 :=
  let c_m128_i32_3734 : BitVec 32 := 4294967168#32
  let v6868 : BitVec 32 := Scalar.andi v6867 c_m128_i32_3734
  v6868

def k1_off78 (i : grid1.Coords) (v6849 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3726 : BitVec 32 := 64#32
  let v6852 : BitVec 32 := Scalar.addi v2 c64_i32_3726
  let c8_i32_3727 : BitVec 32 := 8#32
  let v6853 : BitVec 32 := Scalar.addi v6852 c8_i32_3727
  let c_m128_i32_3725 : BitVec 32 := 4294967168#32
  let v6850 : BitVec 32 := Scalar.andi v6849 c_m128_i32_3725
  let v6851 : BitVec 32 := v6850
  ![v6853.toNat, v6851.toNat]

def k1_chk77 (i : grid1.Coords) (v6849 : BitVec 32) : Prop :=
  (128 ∣ (k1_mult77 v6849).toNat) ∧
  (∀ a, (k1_off78 i v6849) a + S8x128.size a ≤ S4096x16384.size a)
theorem k1_mult77_dvd : ∀ (i : grid1.Coords) (v6849 : BitVec 32) (k1_hw77 : k1_chk77 i v6849), 128 ∣ (k1_mult77 v6849).toNat := fun i v6849 k1_hw77 => k1_hw77.1
theorem k1_off78_inb : ∀ (i : grid1.Coords) (v6849 : BitVec 32) (k1_hw77 : k1_chk77 i v6849), ∀ a, (k1_off78 i v6849) a + S8x128.size a ≤ S4096x16384.size a := fun i v6849 k1_hw77 => k1_hw77.2

def k1_off79 (i : grid1.Coords) (v6855 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3729 : BitVec 32 := 64#32
  let v6858 : BitVec 32 := Scalar.addi v2 c64_i32_3729
  let c8_i32_3730 : BitVec 32 := 8#32
  let v6859 : BitVec 32 := Scalar.addi v6858 c8_i32_3730
  let c_m128_i32_3728 : BitVec 32 := 4294967168#32
  let v6856 : BitVec 32 := Scalar.andi v6855 c_m128_i32_3728
  let v6857 : BitVec 32 := v6856
  ![v6859.toNat, v6857.toNat]

def k1_chk78 (i : grid1.Coords) (v6855 : BitVec 32) : Prop :=
  (128 ∣ (k1_mult78 v6855).toNat) ∧
  (∀ a, (k1_off79 i v6855) a + S8x128.size a ≤ S4096x16384.size a)
theorem k1_mult78_dvd : ∀ (i : grid1.Coords) (v6855 : BitVec 32) (k1_hw78 : k1_chk78 i v6855), 128 ∣ (k1_mult78 v6855).toNat := fun i v6855 k1_hw78 => k1_hw78.1
theorem k1_off79_inb : ∀ (i : grid1.Coords) (v6855 : BitVec 32) (k1_hw78 : k1_chk78 i v6855), ∀ a, (k1_off79 i v6855) a + S8x128.size a ≤ S4096x16384.size a := fun i v6855 k1_hw78 => k1_hw78.2

def k1_off80 (i : grid1.Coords) (v6861 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3732 : BitVec 32 := 64#32
  let v6864 : BitVec 32 := Scalar.addi v2 c64_i32_3732
  let c8_i32_3733 : BitVec 32 := 8#32
  let v6865 : BitVec 32 := Scalar.addi v6864 c8_i32_3733
  let c_m128_i32_3731 : BitVec 32 := 4294967168#32
  let v6862 : BitVec 32 := Scalar.andi v6861 c_m128_i32_3731
  let v6863 : BitVec 32 := v6862
  ![v6865.toNat, v6863.toNat]

def k1_chk79 (i : grid1.Coords) (v6861 : BitVec 32) : Prop :=
  (128 ∣ (k1_mult79 v6861).toNat) ∧
  (∀ a, (k1_off80 i v6861) a + S8x128.size a ≤ S4096x16384.size a)
theorem k1_mult79_dvd : ∀ (i : grid1.Coords) (v6861 : BitVec 32) (k1_hw79 : k1_chk79 i v6861), 128 ∣ (k1_mult79 v6861).toNat := fun i v6861 k1_hw79 => k1_hw79.1
theorem k1_off80_inb : ∀ (i : grid1.Coords) (v6861 : BitVec 32) (k1_hw79 : k1_chk79 i v6861), ∀ a, (k1_off80 i v6861) a + S8x128.size a ≤ S4096x16384.size a := fun i v6861 k1_hw79 => k1_hw79.2

def k1_off81 (i : grid1.Coords) (v6867 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32_3735 : BitVec 32 := 64#32
  let v6870 : BitVec 32 := Scalar.addi v2 c64_i32_3735
  let c8_i32_3736 : BitVec 32 := 8#32
  let v6871 : BitVec 32 := Scalar.addi v6870 c8_i32_3736
  let c_m128_i32_3734 : BitVec 32 := 4294967168#32
  let v6868 : BitVec 32 := Scalar.andi v6867 c_m128_i32_3734
  let v6869 : BitVec 32 := v6868
  ![v6871.toNat, v6869.toNat]

def k1_chk80 (i : grid1.Coords) (v6867 : BitVec 32) : Prop :=
  (128 ∣ (k1_mult80 v6867).toNat) ∧
  (∀ a, (k1_off81 i v6867) a + S8x128.size a ≤ S4096x16384.size a)
theorem k1_mult80_dvd : ∀ (i : grid1.Coords) (v6867 : BitVec 32) (k1_hw80 : k1_chk80 i v6867), 128 ∣ (k1_mult80 v6867).toNat := fun i v6867 k1_hw80 => k1_hw80.1
theorem k1_off81_inb : ∀ (i : grid1.Coords) (v6867 : BitVec 32) (k1_hw80 : k1_chk80 i v6867), ∀ a, (k1_off81 i v6867) a + S8x128.size a ≤ S4096x16384.size a := fun i v6867 k1_hw80 => k1_hw80.2

def k1_mult81 (v8289 : BitVec 32) : BitVec 32 :=
  let c_m128_i32_4469 : BitVec 32 := 4294967168#32
  let v8290 : BitVec 32 := Scalar.andi v8289 c_m128_i32_4469
  v8290

def k1_mult82 (v8295 : BitVec 32) : BitVec 32 :=
  let c_m128_i32_4472 : BitVec 32 := 4294967168#32
  let v8296 : BitVec 32 := Scalar.andi v8295 c_m128_i32_4472
  v8296

def k1_mult83 (v8301 : BitVec 32) : BitVec 32 :=
  let c_m128_i32_4475 : BitVec 32 := 4294967168#32
  let v8302 : BitVec 32 := Scalar.andi v8301 c_m128_i32_4475
  v8302

def k1_mult84 (v8307 : BitVec 32) : BitVec 32 :=
  let c_m128_i32_4478 : BitVec 32 := 4294967168#32
  let v8308 : BitVec 32 := Scalar.andi v8307 c_m128_i32_4478
  v8308

def k1_off82 (i : grid1.Coords) (v8289 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4470 : BitVec 32 := 80#32
  let v8292 : BitVec 32 := Scalar.addi v2 c80_i32_4470
  let c0_i32_4471 : BitVec 32 := 0#32
  let v8293 : BitVec 32 := Scalar.addi v8292 c0_i32_4471
  let c_m128_i32_4469 : BitVec 32 := 4294967168#32
  let v8290 : BitVec 32 := Scalar.andi v8289 c_m128_i32_4469
  let v8291 : BitVec 32 := v8290
  ![v8293.toNat, v8291.toNat]

def k1_chk81 (i : grid1.Coords) (v8289 : BitVec 32) : Prop :=
  (128 ∣ (k1_mult81 v8289).toNat) ∧
  (∀ a, (k1_off82 i v8289) a + S8x128.size a ≤ S4096x16384.size a)
theorem k1_mult81_dvd : ∀ (i : grid1.Coords) (v8289 : BitVec 32) (k1_hw81 : k1_chk81 i v8289), 128 ∣ (k1_mult81 v8289).toNat := fun i v8289 k1_hw81 => k1_hw81.1
theorem k1_off82_inb : ∀ (i : grid1.Coords) (v8289 : BitVec 32) (k1_hw81 : k1_chk81 i v8289), ∀ a, (k1_off82 i v8289) a + S8x128.size a ≤ S4096x16384.size a := fun i v8289 k1_hw81 => k1_hw81.2

def k1_off83 (i : grid1.Coords) (v8295 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4473 : BitVec 32 := 80#32
  let v8298 : BitVec 32 := Scalar.addi v2 c80_i32_4473
  let c0_i32_4474 : BitVec 32 := 0#32
  let v8299 : BitVec 32 := Scalar.addi v8298 c0_i32_4474
  let c_m128_i32_4472 : BitVec 32 := 4294967168#32
  let v8296 : BitVec 32 := Scalar.andi v8295 c_m128_i32_4472
  let v8297 : BitVec 32 := v8296
  ![v8299.toNat, v8297.toNat]

def k1_chk82 (i : grid1.Coords) (v8295 : BitVec 32) : Prop :=
  (128 ∣ (k1_mult82 v8295).toNat) ∧
  (∀ a, (k1_off83 i v8295) a + S8x128.size a ≤ S4096x16384.size a)
theorem k1_mult82_dvd : ∀ (i : grid1.Coords) (v8295 : BitVec 32) (k1_hw82 : k1_chk82 i v8295), 128 ∣ (k1_mult82 v8295).toNat := fun i v8295 k1_hw82 => k1_hw82.1
theorem k1_off83_inb : ∀ (i : grid1.Coords) (v8295 : BitVec 32) (k1_hw82 : k1_chk82 i v8295), ∀ a, (k1_off83 i v8295) a + S8x128.size a ≤ S4096x16384.size a := fun i v8295 k1_hw82 => k1_hw82.2

def k1_off84 (i : grid1.Coords) (v8301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4476 : BitVec 32 := 80#32
  let v8304 : BitVec 32 := Scalar.addi v2 c80_i32_4476
  let c0_i32_4477 : BitVec 32 := 0#32
  let v8305 : BitVec 32 := Scalar.addi v8304 c0_i32_4477
  let c_m128_i32_4475 : BitVec 32 := 4294967168#32
  let v8302 : BitVec 32 := Scalar.andi v8301 c_m128_i32_4475
  let v8303 : BitVec 32 := v8302
  ![v8305.toNat, v8303.toNat]

def k1_chk83 (i : grid1.Coords) (v8301 : BitVec 32) : Prop :=
  (128 ∣ (k1_mult83 v8301).toNat) ∧
  (∀ a, (k1_off84 i v8301) a + S8x128.size a ≤ S4096x16384.size a)
theorem k1_mult83_dvd : ∀ (i : grid1.Coords) (v8301 : BitVec 32) (k1_hw83 : k1_chk83 i v8301), 128 ∣ (k1_mult83 v8301).toNat := fun i v8301 k1_hw83 => k1_hw83.1
theorem k1_off84_inb : ∀ (i : grid1.Coords) (v8301 : BitVec 32) (k1_hw83 : k1_chk83 i v8301), ∀ a, (k1_off84 i v8301) a + S8x128.size a ≤ S4096x16384.size a := fun i v8301 k1_hw83 => k1_hw83.2

def k1_off85 (i : grid1.Coords) (v8307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4479 : BitVec 32 := 80#32
  let v8310 : BitVec 32 := Scalar.addi v2 c80_i32_4479
  let c0_i32_4480 : BitVec 32 := 0#32
  let v8311 : BitVec 32 := Scalar.addi v8310 c0_i32_4480
  let c_m128_i32_4478 : BitVec 32 := 4294967168#32
  let v8308 : BitVec 32 := Scalar.andi v8307 c_m128_i32_4478
  let v8309 : BitVec 32 := v8308
  ![v8311.toNat, v8309.toNat]

def k1_chk84 (i : grid1.Coords) (v8307 : BitVec 32) : Prop :=
  (128 ∣ (k1_mult84 v8307).toNat) ∧
  (∀ a, (k1_off85 i v8307) a + S8x128.size a ≤ S4096x16384.size a)
theorem k1_mult84_dvd : ∀ (i : grid1.Coords) (v8307 : BitVec 32) (k1_hw84 : k1_chk84 i v8307), 128 ∣ (k1_mult84 v8307).toNat := fun i v8307 k1_hw84 => k1_hw84.1
theorem k1_off85_inb : ∀ (i : grid1.Coords) (v8307 : BitVec 32) (k1_hw84 : k1_chk84 i v8307), ∀ a, (k1_off85 i v8307) a + S8x128.size a ≤ S4096x16384.size a := fun i v8307 k1_hw84 => k1_hw84.2

def k1_mult85 (v8361 : BitVec 32) : BitVec 32 :=
  let c_m128_i32_4521 : BitVec 32 := 4294967168#32
  let v8362 : BitVec 32 := Scalar.andi v8361 c_m128_i32_4521
  v8362

def k1_mult86 (v8367 : BitVec 32) : BitVec 32 :=
  let c_m128_i32_4524 : BitVec 32 := 4294967168#32
  let v8368 : BitVec 32 := Scalar.andi v8367 c_m128_i32_4524
  v8368

def k1_mult87 (v8373 : BitVec 32) : BitVec 32 :=
  let c_m128_i32_4527 : BitVec 32 := 4294967168#32
  let v8374 : BitVec 32 := Scalar.andi v8373 c_m128_i32_4527
  v8374

def k1_mult88 (v8379 : BitVec 32) : BitVec 32 :=
  let c_m128_i32_4530 : BitVec 32 := 4294967168#32
  let v8380 : BitVec 32 := Scalar.andi v8379 c_m128_i32_4530
  v8380

def k1_off86 (i : grid1.Coords) (v8361 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4522 : BitVec 32 := 80#32
  let v8364 : BitVec 32 := Scalar.addi v2 c80_i32_4522
  let c0_i32_4523 : BitVec 32 := 0#32
  let v8365 : BitVec 32 := Scalar.addi v8364 c0_i32_4523
  let c_m128_i32_4521 : BitVec 32 := 4294967168#32
  let v8362 : BitVec 32 := Scalar.andi v8361 c_m128_i32_4521
  let v8363 : BitVec 32 := v8362
  ![v8365.toNat, v8363.toNat]

def k1_chk85 (i : grid1.Coords) (v8361 : BitVec 32) : Prop :=
  (128 ∣ (k1_mult85 v8361).toNat) ∧
  (∀ a, (k1_off86 i v8361) a + S8x128.size a ≤ S4096x16384.size a)
theorem k1_mult85_dvd : ∀ (i : grid1.Coords) (v8361 : BitVec 32) (k1_hw85 : k1_chk85 i v8361), 128 ∣ (k1_mult85 v8361).toNat := fun i v8361 k1_hw85 => k1_hw85.1
theorem k1_off86_inb : ∀ (i : grid1.Coords) (v8361 : BitVec 32) (k1_hw85 : k1_chk85 i v8361), ∀ a, (k1_off86 i v8361) a + S8x128.size a ≤ S4096x16384.size a := fun i v8361 k1_hw85 => k1_hw85.2

def k1_off87 (i : grid1.Coords) (v8367 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4525 : BitVec 32 := 80#32
  let v8370 : BitVec 32 := Scalar.addi v2 c80_i32_4525
  let c0_i32_4526 : BitVec 32 := 0#32
  let v8371 : BitVec 32 := Scalar.addi v8370 c0_i32_4526
  let c_m128_i32_4524 : BitVec 32 := 4294967168#32
  let v8368 : BitVec 32 := Scalar.andi v8367 c_m128_i32_4524
  let v8369 : BitVec 32 := v8368
  ![v8371.toNat, v8369.toNat]

def k1_chk86 (i : grid1.Coords) (v8367 : BitVec 32) : Prop :=
  (128 ∣ (k1_mult86 v8367).toNat) ∧
  (∀ a, (k1_off87 i v8367) a + S8x128.size a ≤ S4096x16384.size a)
theorem k1_mult86_dvd : ∀ (i : grid1.Coords) (v8367 : BitVec 32) (k1_hw86 : k1_chk86 i v8367), 128 ∣ (k1_mult86 v8367).toNat := fun i v8367 k1_hw86 => k1_hw86.1
theorem k1_off87_inb : ∀ (i : grid1.Coords) (v8367 : BitVec 32) (k1_hw86 : k1_chk86 i v8367), ∀ a, (k1_off87 i v8367) a + S8x128.size a ≤ S4096x16384.size a := fun i v8367 k1_hw86 => k1_hw86.2

def k1_off88 (i : grid1.Coords) (v8373 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4528 : BitVec 32 := 80#32
  let v8376 : BitVec 32 := Scalar.addi v2 c80_i32_4528
  let c0_i32_4529 : BitVec 32 := 0#32
  let v8377 : BitVec 32 := Scalar.addi v8376 c0_i32_4529
  let c_m128_i32_4527 : BitVec 32 := 4294967168#32
  let v8374 : BitVec 32 := Scalar.andi v8373 c_m128_i32_4527
  let v8375 : BitVec 32 := v8374
  ![v8377.toNat, v8375.toNat]

def k1_chk87 (i : grid1.Coords) (v8373 : BitVec 32) : Prop :=
  (128 ∣ (k1_mult87 v8373).toNat) ∧
  (∀ a, (k1_off88 i v8373) a + S8x128.size a ≤ S4096x16384.size a)
theorem k1_mult87_dvd : ∀ (i : grid1.Coords) (v8373 : BitVec 32) (k1_hw87 : k1_chk87 i v8373), 128 ∣ (k1_mult87 v8373).toNat := fun i v8373 k1_hw87 => k1_hw87.1
theorem k1_off88_inb : ∀ (i : grid1.Coords) (v8373 : BitVec 32) (k1_hw87 : k1_chk87 i v8373), ∀ a, (k1_off88 i v8373) a + S8x128.size a ≤ S4096x16384.size a := fun i v8373 k1_hw87 => k1_hw87.2

def k1_off89 (i : grid1.Coords) (v8379 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4531 : BitVec 32 := 80#32
  let v8382 : BitVec 32 := Scalar.addi v2 c80_i32_4531
  let c0_i32_4532 : BitVec 32 := 0#32
  let v8383 : BitVec 32 := Scalar.addi v8382 c0_i32_4532
  let c_m128_i32_4530 : BitVec 32 := 4294967168#32
  let v8380 : BitVec 32 := Scalar.andi v8379 c_m128_i32_4530
  let v8381 : BitVec 32 := v8380
  ![v8383.toNat, v8381.toNat]

def k1_chk88 (i : grid1.Coords) (v8379 : BitVec 32) : Prop :=
  (128 ∣ (k1_mult88 v8379).toNat) ∧
  (∀ a, (k1_off89 i v8379) a + S8x128.size a ≤ S4096x16384.size a)
theorem k1_mult88_dvd : ∀ (i : grid1.Coords) (v8379 : BitVec 32) (k1_hw88 : k1_chk88 i v8379), 128 ∣ (k1_mult88 v8379).toNat := fun i v8379 k1_hw88 => k1_hw88.1
theorem k1_off89_inb : ∀ (i : grid1.Coords) (v8379 : BitVec 32) (k1_hw88 : k1_chk88 i v8379), ∀ a, (k1_off89 i v8379) a + S8x128.size a ≤ S4096x16384.size a := fun i v8379 k1_hw88 => k1_hw88.2

def k1_mult89 (v8433 : BitVec 32) : BitVec 32 :=
  let c_m128_i32_4573 : BitVec 32 := 4294967168#32
  let v8434 : BitVec 32 := Scalar.andi v8433 c_m128_i32_4573
  v8434

def k1_mult90 (v8439 : BitVec 32) : BitVec 32 :=
  let c_m128_i32_4576 : BitVec 32 := 4294967168#32
  let v8440 : BitVec 32 := Scalar.andi v8439 c_m128_i32_4576
  v8440

def k1_mult91 (v8445 : BitVec 32) : BitVec 32 :=
  let c_m128_i32_4579 : BitVec 32 := 4294967168#32
  let v8446 : BitVec 32 := Scalar.andi v8445 c_m128_i32_4579
  v8446

def k1_mult92 (v8451 : BitVec 32) : BitVec 32 :=
  let c_m128_i32_4582 : BitVec 32 := 4294967168#32
  let v8452 : BitVec 32 := Scalar.andi v8451 c_m128_i32_4582
  v8452

def k1_off90 (i : grid1.Coords) (v8433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4574 : BitVec 32 := 80#32
  let v8436 : BitVec 32 := Scalar.addi v2 c80_i32_4574
  let c8_i32_4575 : BitVec 32 := 8#32
  let v8437 : BitVec 32 := Scalar.addi v8436 c8_i32_4575
  let c_m128_i32_4573 : BitVec 32 := 4294967168#32
  let v8434 : BitVec 32 := Scalar.andi v8433 c_m128_i32_4573
  let v8435 : BitVec 32 := v8434
  ![v8437.toNat, v8435.toNat]

def k1_chk89 (i : grid1.Coords) (v8433 : BitVec 32) : Prop :=
  (128 ∣ (k1_mult89 v8433).toNat) ∧
  (∀ a, (k1_off90 i v8433) a + S8x128.size a ≤ S4096x16384.size a)
theorem k1_mult89_dvd : ∀ (i : grid1.Coords) (v8433 : BitVec 32) (k1_hw89 : k1_chk89 i v8433), 128 ∣ (k1_mult89 v8433).toNat := fun i v8433 k1_hw89 => k1_hw89.1
theorem k1_off90_inb : ∀ (i : grid1.Coords) (v8433 : BitVec 32) (k1_hw89 : k1_chk89 i v8433), ∀ a, (k1_off90 i v8433) a + S8x128.size a ≤ S4096x16384.size a := fun i v8433 k1_hw89 => k1_hw89.2

def k1_off91 (i : grid1.Coords) (v8439 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4577 : BitVec 32 := 80#32
  let v8442 : BitVec 32 := Scalar.addi v2 c80_i32_4577
  let c8_i32_4578 : BitVec 32 := 8#32
  let v8443 : BitVec 32 := Scalar.addi v8442 c8_i32_4578
  let c_m128_i32_4576 : BitVec 32 := 4294967168#32
  let v8440 : BitVec 32 := Scalar.andi v8439 c_m128_i32_4576
  let v8441 : BitVec 32 := v8440
  ![v8443.toNat, v8441.toNat]

def k1_chk90 (i : grid1.Coords) (v8439 : BitVec 32) : Prop :=
  (128 ∣ (k1_mult90 v8439).toNat) ∧
  (∀ a, (k1_off91 i v8439) a + S8x128.size a ≤ S4096x16384.size a)
theorem k1_mult90_dvd : ∀ (i : grid1.Coords) (v8439 : BitVec 32) (k1_hw90 : k1_chk90 i v8439), 128 ∣ (k1_mult90 v8439).toNat := fun i v8439 k1_hw90 => k1_hw90.1
theorem k1_off91_inb : ∀ (i : grid1.Coords) (v8439 : BitVec 32) (k1_hw90 : k1_chk90 i v8439), ∀ a, (k1_off91 i v8439) a + S8x128.size a ≤ S4096x16384.size a := fun i v8439 k1_hw90 => k1_hw90.2

def k1_off92 (i : grid1.Coords) (v8445 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4580 : BitVec 32 := 80#32
  let v8448 : BitVec 32 := Scalar.addi v2 c80_i32_4580
  let c8_i32_4581 : BitVec 32 := 8#32
  let v8449 : BitVec 32 := Scalar.addi v8448 c8_i32_4581
  let c_m128_i32_4579 : BitVec 32 := 4294967168#32
  let v8446 : BitVec 32 := Scalar.andi v8445 c_m128_i32_4579
  let v8447 : BitVec 32 := v8446
  ![v8449.toNat, v8447.toNat]

def k1_chk91 (i : grid1.Coords) (v8445 : BitVec 32) : Prop :=
  (128 ∣ (k1_mult91 v8445).toNat) ∧
  (∀ a, (k1_off92 i v8445) a + S8x128.size a ≤ S4096x16384.size a)
theorem k1_mult91_dvd : ∀ (i : grid1.Coords) (v8445 : BitVec 32) (k1_hw91 : k1_chk91 i v8445), 128 ∣ (k1_mult91 v8445).toNat := fun i v8445 k1_hw91 => k1_hw91.1
theorem k1_off92_inb : ∀ (i : grid1.Coords) (v8445 : BitVec 32) (k1_hw91 : k1_chk91 i v8445), ∀ a, (k1_off92 i v8445) a + S8x128.size a ≤ S4096x16384.size a := fun i v8445 k1_hw91 => k1_hw91.2

def k1_off93 (i : grid1.Coords) (v8451 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4583 : BitVec 32 := 80#32
  let v8454 : BitVec 32 := Scalar.addi v2 c80_i32_4583
  let c8_i32_4584 : BitVec 32 := 8#32
  let v8455 : BitVec 32 := Scalar.addi v8454 c8_i32_4584
  let c_m128_i32_4582 : BitVec 32 := 4294967168#32
  let v8452 : BitVec 32 := Scalar.andi v8451 c_m128_i32_4582
  let v8453 : BitVec 32 := v8452
  ![v8455.toNat, v8453.toNat]

def k1_chk92 (i : grid1.Coords) (v8451 : BitVec 32) : Prop :=
  (128 ∣ (k1_mult92 v8451).toNat) ∧
  (∀ a, (k1_off93 i v8451) a + S8x128.size a ≤ S4096x16384.size a)
theorem k1_mult92_dvd : ∀ (i : grid1.Coords) (v8451 : BitVec 32) (k1_hw92 : k1_chk92 i v8451), 128 ∣ (k1_mult92 v8451).toNat := fun i v8451 k1_hw92 => k1_hw92.1
theorem k1_off93_inb : ∀ (i : grid1.Coords) (v8451 : BitVec 32) (k1_hw92 : k1_chk92 i v8451), ∀ a, (k1_off93 i v8451) a + S8x128.size a ≤ S4096x16384.size a := fun i v8451 k1_hw92 => k1_hw92.2

def k1_mult93 (v8505 : BitVec 32) : BitVec 32 :=
  let c_m128_i32_4625 : BitVec 32 := 4294967168#32
  let v8506 : BitVec 32 := Scalar.andi v8505 c_m128_i32_4625
  v8506

def k1_mult94 (v8511 : BitVec 32) : BitVec 32 :=
  let c_m128_i32_4628 : BitVec 32 := 4294967168#32
  let v8512 : BitVec 32 := Scalar.andi v8511 c_m128_i32_4628
  v8512

def k1_mult95 (v8517 : BitVec 32) : BitVec 32 :=
  let c_m128_i32_4631 : BitVec 32 := 4294967168#32
  let v8518 : BitVec 32 := Scalar.andi v8517 c_m128_i32_4631
  v8518

def k1_mult96 (v8523 : BitVec 32) : BitVec 32 :=
  let c_m128_i32_4634 : BitVec 32 := 4294967168#32
  let v8524 : BitVec 32 := Scalar.andi v8523 c_m128_i32_4634
  v8524

def k1_off94 (i : grid1.Coords) (v8505 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4626 : BitVec 32 := 80#32
  let v8508 : BitVec 32 := Scalar.addi v2 c80_i32_4626
  let c8_i32_4627 : BitVec 32 := 8#32
  let v8509 : BitVec 32 := Scalar.addi v8508 c8_i32_4627
  let c_m128_i32_4625 : BitVec 32 := 4294967168#32
  let v8506 : BitVec 32 := Scalar.andi v8505 c_m128_i32_4625
  let v8507 : BitVec 32 := v8506
  ![v8509.toNat, v8507.toNat]

def k1_chk93 (i : grid1.Coords) (v8505 : BitVec 32) : Prop :=
  (128 ∣ (k1_mult93 v8505).toNat) ∧
  (∀ a, (k1_off94 i v8505) a + S8x128.size a ≤ S4096x16384.size a)
theorem k1_mult93_dvd : ∀ (i : grid1.Coords) (v8505 : BitVec 32) (k1_hw93 : k1_chk93 i v8505), 128 ∣ (k1_mult93 v8505).toNat := fun i v8505 k1_hw93 => k1_hw93.1
theorem k1_off94_inb : ∀ (i : grid1.Coords) (v8505 : BitVec 32) (k1_hw93 : k1_chk93 i v8505), ∀ a, (k1_off94 i v8505) a + S8x128.size a ≤ S4096x16384.size a := fun i v8505 k1_hw93 => k1_hw93.2

def k1_off95 (i : grid1.Coords) (v8511 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4629 : BitVec 32 := 80#32
  let v8514 : BitVec 32 := Scalar.addi v2 c80_i32_4629
  let c8_i32_4630 : BitVec 32 := 8#32
  let v8515 : BitVec 32 := Scalar.addi v8514 c8_i32_4630
  let c_m128_i32_4628 : BitVec 32 := 4294967168#32
  let v8512 : BitVec 32 := Scalar.andi v8511 c_m128_i32_4628
  let v8513 : BitVec 32 := v8512
  ![v8515.toNat, v8513.toNat]

def k1_chk94 (i : grid1.Coords) (v8511 : BitVec 32) : Prop :=
  (128 ∣ (k1_mult94 v8511).toNat) ∧
  (∀ a, (k1_off95 i v8511) a + S8x128.size a ≤ S4096x16384.size a)
theorem k1_mult94_dvd : ∀ (i : grid1.Coords) (v8511 : BitVec 32) (k1_hw94 : k1_chk94 i v8511), 128 ∣ (k1_mult94 v8511).toNat := fun i v8511 k1_hw94 => k1_hw94.1
theorem k1_off95_inb : ∀ (i : grid1.Coords) (v8511 : BitVec 32) (k1_hw94 : k1_chk94 i v8511), ∀ a, (k1_off95 i v8511) a + S8x128.size a ≤ S4096x16384.size a := fun i v8511 k1_hw94 => k1_hw94.2

def k1_off96 (i : grid1.Coords) (v8517 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4632 : BitVec 32 := 80#32
  let v8520 : BitVec 32 := Scalar.addi v2 c80_i32_4632
  let c8_i32_4633 : BitVec 32 := 8#32
  let v8521 : BitVec 32 := Scalar.addi v8520 c8_i32_4633
  let c_m128_i32_4631 : BitVec 32 := 4294967168#32
  let v8518 : BitVec 32 := Scalar.andi v8517 c_m128_i32_4631
  let v8519 : BitVec 32 := v8518
  ![v8521.toNat, v8519.toNat]

def k1_chk95 (i : grid1.Coords) (v8517 : BitVec 32) : Prop :=
  (128 ∣ (k1_mult95 v8517).toNat) ∧
  (∀ a, (k1_off96 i v8517) a + S8x128.size a ≤ S4096x16384.size a)
theorem k1_mult95_dvd : ∀ (i : grid1.Coords) (v8517 : BitVec 32) (k1_hw95 : k1_chk95 i v8517), 128 ∣ (k1_mult95 v8517).toNat := fun i v8517 k1_hw95 => k1_hw95.1
theorem k1_off96_inb : ∀ (i : grid1.Coords) (v8517 : BitVec 32) (k1_hw95 : k1_chk95 i v8517), ∀ a, (k1_off96 i v8517) a + S8x128.size a ≤ S4096x16384.size a := fun i v8517 k1_hw95 => k1_hw95.2

def k1_off97 (i : grid1.Coords) (v8523 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32_4635 : BitVec 32 := 80#32
  let v8526 : BitVec 32 := Scalar.addi v2 c80_i32_4635
  let c8_i32_4636 : BitVec 32 := 8#32
  let v8527 : BitVec 32 := Scalar.addi v8526 c8_i32_4636
  let c_m128_i32_4634 : BitVec 32 := 4294967168#32
  let v8524 : BitVec 32 := Scalar.andi v8523 c_m128_i32_4634
  let v8525 : BitVec 32 := v8524
  ![v8527.toNat, v8525.toNat]

def k1_chk96 (i : grid1.Coords) (v8523 : BitVec 32) : Prop :=
  (128 ∣ (k1_mult96 v8523).toNat) ∧
  (∀ a, (k1_off97 i v8523) a + S8x128.size a ≤ S4096x16384.size a)
theorem k1_mult96_dvd : ∀ (i : grid1.Coords) (v8523 : BitVec 32) (k1_hw96 : k1_chk96 i v8523), 128 ∣ (k1_mult96 v8523).toNat := fun i v8523 k1_hw96 => k1_hw96.1
theorem k1_off97_inb : ∀ (i : grid1.Coords) (v8523 : BitVec 32) (k1_hw96 : k1_chk96 i v8523), ∀ a, (k1_off97 i v8523) a + S8x128.size a ≤ S4096x16384.size a := fun i v8523 k1_hw96 => k1_hw96.2

def k1_mult97 (v9945 : BitVec 32) : BitVec 32 :=
  let c_m128_i32_5369 : BitVec 32 := 4294967168#32
  let v9946 : BitVec 32 := Scalar.andi v9945 c_m128_i32_5369
  v9946

def k1_mult98 (v9951 : BitVec 32) : BitVec 32 :=
  let c_m128_i32_5372 : BitVec 32 := 4294967168#32
  let v9952 : BitVec 32 := Scalar.andi v9951 c_m128_i32_5372
  v9952

def k1_mult99 (v9957 : BitVec 32) : BitVec 32 :=
  let c_m128_i32_5375 : BitVec 32 := 4294967168#32
  let v9958 : BitVec 32 := Scalar.andi v9957 c_m128_i32_5375
  v9958

def k1_mult100 (v9963 : BitVec 32) : BitVec 32 :=
  let c_m128_i32_5378 : BitVec 32 := 4294967168#32
  let v9964 : BitVec 32 := Scalar.andi v9963 c_m128_i32_5378
  v9964

def k1_off98 (i : grid1.Coords) (v9945 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5370 : BitVec 32 := 96#32
  let v9948 : BitVec 32 := Scalar.addi v2 c96_i32_5370
  let c0_i32_5371 : BitVec 32 := 0#32
  let v9949 : BitVec 32 := Scalar.addi v9948 c0_i32_5371
  let c_m128_i32_5369 : BitVec 32 := 4294967168#32
  let v9946 : BitVec 32 := Scalar.andi v9945 c_m128_i32_5369
  let v9947 : BitVec 32 := v9946
  ![v9949.toNat, v9947.toNat]

def k1_chk97 (i : grid1.Coords) (v9945 : BitVec 32) : Prop :=
  (128 ∣ (k1_mult97 v9945).toNat) ∧
  (∀ a, (k1_off98 i v9945) a + S8x128.size a ≤ S4096x16384.size a)
theorem k1_mult97_dvd : ∀ (i : grid1.Coords) (v9945 : BitVec 32) (k1_hw97 : k1_chk97 i v9945), 128 ∣ (k1_mult97 v9945).toNat := fun i v9945 k1_hw97 => k1_hw97.1
theorem k1_off98_inb : ∀ (i : grid1.Coords) (v9945 : BitVec 32) (k1_hw97 : k1_chk97 i v9945), ∀ a, (k1_off98 i v9945) a + S8x128.size a ≤ S4096x16384.size a := fun i v9945 k1_hw97 => k1_hw97.2

def k1_off99 (i : grid1.Coords) (v9951 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5373 : BitVec 32 := 96#32
  let v9954 : BitVec 32 := Scalar.addi v2 c96_i32_5373
  let c0_i32_5374 : BitVec 32 := 0#32
  let v9955 : BitVec 32 := Scalar.addi v9954 c0_i32_5374
  let c_m128_i32_5372 : BitVec 32 := 4294967168#32
  let v9952 : BitVec 32 := Scalar.andi v9951 c_m128_i32_5372
  let v9953 : BitVec 32 := v9952
  ![v9955.toNat, v9953.toNat]

def k1_chk98 (i : grid1.Coords) (v9951 : BitVec 32) : Prop :=
  (128 ∣ (k1_mult98 v9951).toNat) ∧
  (∀ a, (k1_off99 i v9951) a + S8x128.size a ≤ S4096x16384.size a)
theorem k1_mult98_dvd : ∀ (i : grid1.Coords) (v9951 : BitVec 32) (k1_hw98 : k1_chk98 i v9951), 128 ∣ (k1_mult98 v9951).toNat := fun i v9951 k1_hw98 => k1_hw98.1
theorem k1_off99_inb : ∀ (i : grid1.Coords) (v9951 : BitVec 32) (k1_hw98 : k1_chk98 i v9951), ∀ a, (k1_off99 i v9951) a + S8x128.size a ≤ S4096x16384.size a := fun i v9951 k1_hw98 => k1_hw98.2

def k1_off100 (i : grid1.Coords) (v9957 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5376 : BitVec 32 := 96#32
  let v9960 : BitVec 32 := Scalar.addi v2 c96_i32_5376
  let c0_i32_5377 : BitVec 32 := 0#32
  let v9961 : BitVec 32 := Scalar.addi v9960 c0_i32_5377
  let c_m128_i32_5375 : BitVec 32 := 4294967168#32
  let v9958 : BitVec 32 := Scalar.andi v9957 c_m128_i32_5375
  let v9959 : BitVec 32 := v9958
  ![v9961.toNat, v9959.toNat]

def k1_chk99 (i : grid1.Coords) (v9957 : BitVec 32) : Prop :=
  (128 ∣ (k1_mult99 v9957).toNat) ∧
  (∀ a, (k1_off100 i v9957) a + S8x128.size a ≤ S4096x16384.size a)
theorem k1_mult99_dvd : ∀ (i : grid1.Coords) (v9957 : BitVec 32) (k1_hw99 : k1_chk99 i v9957), 128 ∣ (k1_mult99 v9957).toNat := fun i v9957 k1_hw99 => k1_hw99.1
theorem k1_off100_inb : ∀ (i : grid1.Coords) (v9957 : BitVec 32) (k1_hw99 : k1_chk99 i v9957), ∀ a, (k1_off100 i v9957) a + S8x128.size a ≤ S4096x16384.size a := fun i v9957 k1_hw99 => k1_hw99.2

def k1_off101 (i : grid1.Coords) (v9963 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5379 : BitVec 32 := 96#32
  let v9966 : BitVec 32 := Scalar.addi v2 c96_i32_5379
  let c0_i32_5380 : BitVec 32 := 0#32
  let v9967 : BitVec 32 := Scalar.addi v9966 c0_i32_5380
  let c_m128_i32_5378 : BitVec 32 := 4294967168#32
  let v9964 : BitVec 32 := Scalar.andi v9963 c_m128_i32_5378
  let v9965 : BitVec 32 := v9964
  ![v9967.toNat, v9965.toNat]

def k1_chk100 (i : grid1.Coords) (v9963 : BitVec 32) : Prop :=
  (128 ∣ (k1_mult100 v9963).toNat) ∧
  (∀ a, (k1_off101 i v9963) a + S8x128.size a ≤ S4096x16384.size a)
theorem k1_mult100_dvd : ∀ (i : grid1.Coords) (v9963 : BitVec 32) (k1_hw100 : k1_chk100 i v9963), 128 ∣ (k1_mult100 v9963).toNat := fun i v9963 k1_hw100 => k1_hw100.1
theorem k1_off101_inb : ∀ (i : grid1.Coords) (v9963 : BitVec 32) (k1_hw100 : k1_chk100 i v9963), ∀ a, (k1_off101 i v9963) a + S8x128.size a ≤ S4096x16384.size a := fun i v9963 k1_hw100 => k1_hw100.2

def k1_mult101 (v10017 : BitVec 32) : BitVec 32 :=
  let c_m128_i32_5421 : BitVec 32 := 4294967168#32
  let v10018 : BitVec 32 := Scalar.andi v10017 c_m128_i32_5421
  v10018

def k1_mult102 (v10023 : BitVec 32) : BitVec 32 :=
  let c_m128_i32_5424 : BitVec 32 := 4294967168#32
  let v10024 : BitVec 32 := Scalar.andi v10023 c_m128_i32_5424
  v10024

def k1_mult103 (v10029 : BitVec 32) : BitVec 32 :=
  let c_m128_i32_5427 : BitVec 32 := 4294967168#32
  let v10030 : BitVec 32 := Scalar.andi v10029 c_m128_i32_5427
  v10030

def k1_mult104 (v10035 : BitVec 32) : BitVec 32 :=
  let c_m128_i32_5430 : BitVec 32 := 4294967168#32
  let v10036 : BitVec 32 := Scalar.andi v10035 c_m128_i32_5430
  v10036

def k1_off102 (i : grid1.Coords) (v10017 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5422 : BitVec 32 := 96#32
  let v10020 : BitVec 32 := Scalar.addi v2 c96_i32_5422
  let c0_i32_5423 : BitVec 32 := 0#32
  let v10021 : BitVec 32 := Scalar.addi v10020 c0_i32_5423
  let c_m128_i32_5421 : BitVec 32 := 4294967168#32
  let v10018 : BitVec 32 := Scalar.andi v10017 c_m128_i32_5421
  let v10019 : BitVec 32 := v10018
  ![v10021.toNat, v10019.toNat]

def k1_chk101 (i : grid1.Coords) (v10017 : BitVec 32) : Prop :=
  (128 ∣ (k1_mult101 v10017).toNat) ∧
  (∀ a, (k1_off102 i v10017) a + S8x128.size a ≤ S4096x16384.size a)
theorem k1_mult101_dvd : ∀ (i : grid1.Coords) (v10017 : BitVec 32) (k1_hw101 : k1_chk101 i v10017), 128 ∣ (k1_mult101 v10017).toNat := fun i v10017 k1_hw101 => k1_hw101.1
theorem k1_off102_inb : ∀ (i : grid1.Coords) (v10017 : BitVec 32) (k1_hw101 : k1_chk101 i v10017), ∀ a, (k1_off102 i v10017) a + S8x128.size a ≤ S4096x16384.size a := fun i v10017 k1_hw101 => k1_hw101.2

def k1_off103 (i : grid1.Coords) (v10023 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5425 : BitVec 32 := 96#32
  let v10026 : BitVec 32 := Scalar.addi v2 c96_i32_5425
  let c0_i32_5426 : BitVec 32 := 0#32
  let v10027 : BitVec 32 := Scalar.addi v10026 c0_i32_5426
  let c_m128_i32_5424 : BitVec 32 := 4294967168#32
  let v10024 : BitVec 32 := Scalar.andi v10023 c_m128_i32_5424
  let v10025 : BitVec 32 := v10024
  ![v10027.toNat, v10025.toNat]

def k1_chk102 (i : grid1.Coords) (v10023 : BitVec 32) : Prop :=
  (128 ∣ (k1_mult102 v10023).toNat) ∧
  (∀ a, (k1_off103 i v10023) a + S8x128.size a ≤ S4096x16384.size a)
theorem k1_mult102_dvd : ∀ (i : grid1.Coords) (v10023 : BitVec 32) (k1_hw102 : k1_chk102 i v10023), 128 ∣ (k1_mult102 v10023).toNat := fun i v10023 k1_hw102 => k1_hw102.1
theorem k1_off103_inb : ∀ (i : grid1.Coords) (v10023 : BitVec 32) (k1_hw102 : k1_chk102 i v10023), ∀ a, (k1_off103 i v10023) a + S8x128.size a ≤ S4096x16384.size a := fun i v10023 k1_hw102 => k1_hw102.2

def k1_off104 (i : grid1.Coords) (v10029 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5428 : BitVec 32 := 96#32
  let v10032 : BitVec 32 := Scalar.addi v2 c96_i32_5428
  let c0_i32_5429 : BitVec 32 := 0#32
  let v10033 : BitVec 32 := Scalar.addi v10032 c0_i32_5429
  let c_m128_i32_5427 : BitVec 32 := 4294967168#32
  let v10030 : BitVec 32 := Scalar.andi v10029 c_m128_i32_5427
  let v10031 : BitVec 32 := v10030
  ![v10033.toNat, v10031.toNat]

def k1_chk103 (i : grid1.Coords) (v10029 : BitVec 32) : Prop :=
  (128 ∣ (k1_mult103 v10029).toNat) ∧
  (∀ a, (k1_off104 i v10029) a + S8x128.size a ≤ S4096x16384.size a)
theorem k1_mult103_dvd : ∀ (i : grid1.Coords) (v10029 : BitVec 32) (k1_hw103 : k1_chk103 i v10029), 128 ∣ (k1_mult103 v10029).toNat := fun i v10029 k1_hw103 => k1_hw103.1
theorem k1_off104_inb : ∀ (i : grid1.Coords) (v10029 : BitVec 32) (k1_hw103 : k1_chk103 i v10029), ∀ a, (k1_off104 i v10029) a + S8x128.size a ≤ S4096x16384.size a := fun i v10029 k1_hw103 => k1_hw103.2

def k1_off105 (i : grid1.Coords) (v10035 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5431 : BitVec 32 := 96#32
  let v10038 : BitVec 32 := Scalar.addi v2 c96_i32_5431
  let c0_i32_5432 : BitVec 32 := 0#32
  let v10039 : BitVec 32 := Scalar.addi v10038 c0_i32_5432
  let c_m128_i32_5430 : BitVec 32 := 4294967168#32
  let v10036 : BitVec 32 := Scalar.andi v10035 c_m128_i32_5430
  let v10037 : BitVec 32 := v10036
  ![v10039.toNat, v10037.toNat]

def k1_chk104 (i : grid1.Coords) (v10035 : BitVec 32) : Prop :=
  (128 ∣ (k1_mult104 v10035).toNat) ∧
  (∀ a, (k1_off105 i v10035) a + S8x128.size a ≤ S4096x16384.size a)
theorem k1_mult104_dvd : ∀ (i : grid1.Coords) (v10035 : BitVec 32) (k1_hw104 : k1_chk104 i v10035), 128 ∣ (k1_mult104 v10035).toNat := fun i v10035 k1_hw104 => k1_hw104.1
theorem k1_off105_inb : ∀ (i : grid1.Coords) (v10035 : BitVec 32) (k1_hw104 : k1_chk104 i v10035), ∀ a, (k1_off105 i v10035) a + S8x128.size a ≤ S4096x16384.size a := fun i v10035 k1_hw104 => k1_hw104.2

def k1_mult105 (v10089 : BitVec 32) : BitVec 32 :=
  let c_m128_i32_5473 : BitVec 32 := 4294967168#32
  let v10090 : BitVec 32 := Scalar.andi v10089 c_m128_i32_5473
  v10090

def k1_mult106 (v10095 : BitVec 32) : BitVec 32 :=
  let c_m128_i32_5476 : BitVec 32 := 4294967168#32
  let v10096 : BitVec 32 := Scalar.andi v10095 c_m128_i32_5476
  v10096

def k1_mult107 (v10101 : BitVec 32) : BitVec 32 :=
  let c_m128_i32_5479 : BitVec 32 := 4294967168#32
  let v10102 : BitVec 32 := Scalar.andi v10101 c_m128_i32_5479
  v10102

def k1_mult108 (v10107 : BitVec 32) : BitVec 32 :=
  let c_m128_i32_5482 : BitVec 32 := 4294967168#32
  let v10108 : BitVec 32 := Scalar.andi v10107 c_m128_i32_5482
  v10108

def k1_off106 (i : grid1.Coords) (v10089 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5474 : BitVec 32 := 96#32
  let v10092 : BitVec 32 := Scalar.addi v2 c96_i32_5474
  let c8_i32_5475 : BitVec 32 := 8#32
  let v10093 : BitVec 32 := Scalar.addi v10092 c8_i32_5475
  let c_m128_i32_5473 : BitVec 32 := 4294967168#32
  let v10090 : BitVec 32 := Scalar.andi v10089 c_m128_i32_5473
  let v10091 : BitVec 32 := v10090
  ![v10093.toNat, v10091.toNat]

def k1_chk105 (i : grid1.Coords) (v10089 : BitVec 32) : Prop :=
  (128 ∣ (k1_mult105 v10089).toNat) ∧
  (∀ a, (k1_off106 i v10089) a + S8x128.size a ≤ S4096x16384.size a)
theorem k1_mult105_dvd : ∀ (i : grid1.Coords) (v10089 : BitVec 32) (k1_hw105 : k1_chk105 i v10089), 128 ∣ (k1_mult105 v10089).toNat := fun i v10089 k1_hw105 => k1_hw105.1
theorem k1_off106_inb : ∀ (i : grid1.Coords) (v10089 : BitVec 32) (k1_hw105 : k1_chk105 i v10089), ∀ a, (k1_off106 i v10089) a + S8x128.size a ≤ S4096x16384.size a := fun i v10089 k1_hw105 => k1_hw105.2

def k1_off107 (i : grid1.Coords) (v10095 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5477 : BitVec 32 := 96#32
  let v10098 : BitVec 32 := Scalar.addi v2 c96_i32_5477
  let c8_i32_5478 : BitVec 32 := 8#32
  let v10099 : BitVec 32 := Scalar.addi v10098 c8_i32_5478
  let c_m128_i32_5476 : BitVec 32 := 4294967168#32
  let v10096 : BitVec 32 := Scalar.andi v10095 c_m128_i32_5476
  let v10097 : BitVec 32 := v10096
  ![v10099.toNat, v10097.toNat]

def k1_chk106 (i : grid1.Coords) (v10095 : BitVec 32) : Prop :=
  (128 ∣ (k1_mult106 v10095).toNat) ∧
  (∀ a, (k1_off107 i v10095) a + S8x128.size a ≤ S4096x16384.size a)
theorem k1_mult106_dvd : ∀ (i : grid1.Coords) (v10095 : BitVec 32) (k1_hw106 : k1_chk106 i v10095), 128 ∣ (k1_mult106 v10095).toNat := fun i v10095 k1_hw106 => k1_hw106.1
theorem k1_off107_inb : ∀ (i : grid1.Coords) (v10095 : BitVec 32) (k1_hw106 : k1_chk106 i v10095), ∀ a, (k1_off107 i v10095) a + S8x128.size a ≤ S4096x16384.size a := fun i v10095 k1_hw106 => k1_hw106.2

def k1_off108 (i : grid1.Coords) (v10101 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5480 : BitVec 32 := 96#32
  let v10104 : BitVec 32 := Scalar.addi v2 c96_i32_5480
  let c8_i32_5481 : BitVec 32 := 8#32
  let v10105 : BitVec 32 := Scalar.addi v10104 c8_i32_5481
  let c_m128_i32_5479 : BitVec 32 := 4294967168#32
  let v10102 : BitVec 32 := Scalar.andi v10101 c_m128_i32_5479
  let v10103 : BitVec 32 := v10102
  ![v10105.toNat, v10103.toNat]

def k1_chk107 (i : grid1.Coords) (v10101 : BitVec 32) : Prop :=
  (128 ∣ (k1_mult107 v10101).toNat) ∧
  (∀ a, (k1_off108 i v10101) a + S8x128.size a ≤ S4096x16384.size a)
theorem k1_mult107_dvd : ∀ (i : grid1.Coords) (v10101 : BitVec 32) (k1_hw107 : k1_chk107 i v10101), 128 ∣ (k1_mult107 v10101).toNat := fun i v10101 k1_hw107 => k1_hw107.1
theorem k1_off108_inb : ∀ (i : grid1.Coords) (v10101 : BitVec 32) (k1_hw107 : k1_chk107 i v10101), ∀ a, (k1_off108 i v10101) a + S8x128.size a ≤ S4096x16384.size a := fun i v10101 k1_hw107 => k1_hw107.2

def k1_off109 (i : grid1.Coords) (v10107 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5483 : BitVec 32 := 96#32
  let v10110 : BitVec 32 := Scalar.addi v2 c96_i32_5483
  let c8_i32_5484 : BitVec 32 := 8#32
  let v10111 : BitVec 32 := Scalar.addi v10110 c8_i32_5484
  let c_m128_i32_5482 : BitVec 32 := 4294967168#32
  let v10108 : BitVec 32 := Scalar.andi v10107 c_m128_i32_5482
  let v10109 : BitVec 32 := v10108
  ![v10111.toNat, v10109.toNat]

def k1_chk108 (i : grid1.Coords) (v10107 : BitVec 32) : Prop :=
  (128 ∣ (k1_mult108 v10107).toNat) ∧
  (∀ a, (k1_off109 i v10107) a + S8x128.size a ≤ S4096x16384.size a)
theorem k1_mult108_dvd : ∀ (i : grid1.Coords) (v10107 : BitVec 32) (k1_hw108 : k1_chk108 i v10107), 128 ∣ (k1_mult108 v10107).toNat := fun i v10107 k1_hw108 => k1_hw108.1
theorem k1_off109_inb : ∀ (i : grid1.Coords) (v10107 : BitVec 32) (k1_hw108 : k1_chk108 i v10107), ∀ a, (k1_off109 i v10107) a + S8x128.size a ≤ S4096x16384.size a := fun i v10107 k1_hw108 => k1_hw108.2

def k1_mult109 (v10161 : BitVec 32) : BitVec 32 :=
  let c_m128_i32_5525 : BitVec 32 := 4294967168#32
  let v10162 : BitVec 32 := Scalar.andi v10161 c_m128_i32_5525
  v10162

def k1_mult110 (v10167 : BitVec 32) : BitVec 32 :=
  let c_m128_i32_5528 : BitVec 32 := 4294967168#32
  let v10168 : BitVec 32 := Scalar.andi v10167 c_m128_i32_5528
  v10168

def k1_mult111 (v10173 : BitVec 32) : BitVec 32 :=
  let c_m128_i32_5531 : BitVec 32 := 4294967168#32
  let v10174 : BitVec 32 := Scalar.andi v10173 c_m128_i32_5531
  v10174

def k1_mult112 (v10179 : BitVec 32) : BitVec 32 :=
  let c_m128_i32_5534 : BitVec 32 := 4294967168#32
  let v10180 : BitVec 32 := Scalar.andi v10179 c_m128_i32_5534
  v10180

def k1_off110 (i : grid1.Coords) (v10161 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5526 : BitVec 32 := 96#32
  let v10164 : BitVec 32 := Scalar.addi v2 c96_i32_5526
  let c8_i32_5527 : BitVec 32 := 8#32
  let v10165 : BitVec 32 := Scalar.addi v10164 c8_i32_5527
  let c_m128_i32_5525 : BitVec 32 := 4294967168#32
  let v10162 : BitVec 32 := Scalar.andi v10161 c_m128_i32_5525
  let v10163 : BitVec 32 := v10162
  ![v10165.toNat, v10163.toNat]

def k1_chk109 (i : grid1.Coords) (v10161 : BitVec 32) : Prop :=
  (128 ∣ (k1_mult109 v10161).toNat) ∧
  (∀ a, (k1_off110 i v10161) a + S8x128.size a ≤ S4096x16384.size a)
theorem k1_mult109_dvd : ∀ (i : grid1.Coords) (v10161 : BitVec 32) (k1_hw109 : k1_chk109 i v10161), 128 ∣ (k1_mult109 v10161).toNat := fun i v10161 k1_hw109 => k1_hw109.1
theorem k1_off110_inb : ∀ (i : grid1.Coords) (v10161 : BitVec 32) (k1_hw109 : k1_chk109 i v10161), ∀ a, (k1_off110 i v10161) a + S8x128.size a ≤ S4096x16384.size a := fun i v10161 k1_hw109 => k1_hw109.2

def k1_off111 (i : grid1.Coords) (v10167 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5529 : BitVec 32 := 96#32
  let v10170 : BitVec 32 := Scalar.addi v2 c96_i32_5529
  let c8_i32_5530 : BitVec 32 := 8#32
  let v10171 : BitVec 32 := Scalar.addi v10170 c8_i32_5530
  let c_m128_i32_5528 : BitVec 32 := 4294967168#32
  let v10168 : BitVec 32 := Scalar.andi v10167 c_m128_i32_5528
  let v10169 : BitVec 32 := v10168
  ![v10171.toNat, v10169.toNat]

def k1_chk110 (i : grid1.Coords) (v10167 : BitVec 32) : Prop :=
  (128 ∣ (k1_mult110 v10167).toNat) ∧
  (∀ a, (k1_off111 i v10167) a + S8x128.size a ≤ S4096x16384.size a)
theorem k1_mult110_dvd : ∀ (i : grid1.Coords) (v10167 : BitVec 32) (k1_hw110 : k1_chk110 i v10167), 128 ∣ (k1_mult110 v10167).toNat := fun i v10167 k1_hw110 => k1_hw110.1
theorem k1_off111_inb : ∀ (i : grid1.Coords) (v10167 : BitVec 32) (k1_hw110 : k1_chk110 i v10167), ∀ a, (k1_off111 i v10167) a + S8x128.size a ≤ S4096x16384.size a := fun i v10167 k1_hw110 => k1_hw110.2

def k1_off112 (i : grid1.Coords) (v10173 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5532 : BitVec 32 := 96#32
  let v10176 : BitVec 32 := Scalar.addi v2 c96_i32_5532
  let c8_i32_5533 : BitVec 32 := 8#32
  let v10177 : BitVec 32 := Scalar.addi v10176 c8_i32_5533
  let c_m128_i32_5531 : BitVec 32 := 4294967168#32
  let v10174 : BitVec 32 := Scalar.andi v10173 c_m128_i32_5531
  let v10175 : BitVec 32 := v10174
  ![v10177.toNat, v10175.toNat]

def k1_chk111 (i : grid1.Coords) (v10173 : BitVec 32) : Prop :=
  (128 ∣ (k1_mult111 v10173).toNat) ∧
  (∀ a, (k1_off112 i v10173) a + S8x128.size a ≤ S4096x16384.size a)
theorem k1_mult111_dvd : ∀ (i : grid1.Coords) (v10173 : BitVec 32) (k1_hw111 : k1_chk111 i v10173), 128 ∣ (k1_mult111 v10173).toNat := fun i v10173 k1_hw111 => k1_hw111.1
theorem k1_off112_inb : ∀ (i : grid1.Coords) (v10173 : BitVec 32) (k1_hw111 : k1_chk111 i v10173), ∀ a, (k1_off112 i v10173) a + S8x128.size a ≤ S4096x16384.size a := fun i v10173 k1_hw111 => k1_hw111.2

def k1_off113 (i : grid1.Coords) (v10179 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32_5535 : BitVec 32 := 96#32
  let v10182 : BitVec 32 := Scalar.addi v2 c96_i32_5535
  let c8_i32_5536 : BitVec 32 := 8#32
  let v10183 : BitVec 32 := Scalar.addi v10182 c8_i32_5536
  let c_m128_i32_5534 : BitVec 32 := 4294967168#32
  let v10180 : BitVec 32 := Scalar.andi v10179 c_m128_i32_5534
  let v10181 : BitVec 32 := v10180
  ![v10183.toNat, v10181.toNat]

def k1_chk112 (i : grid1.Coords) (v10179 : BitVec 32) : Prop :=
  (128 ∣ (k1_mult112 v10179).toNat) ∧
  (∀ a, (k1_off113 i v10179) a + S8x128.size a ≤ S4096x16384.size a)
theorem k1_mult112_dvd : ∀ (i : grid1.Coords) (v10179 : BitVec 32) (k1_hw112 : k1_chk112 i v10179), 128 ∣ (k1_mult112 v10179).toNat := fun i v10179 k1_hw112 => k1_hw112.1
theorem k1_off113_inb : ∀ (i : grid1.Coords) (v10179 : BitVec 32) (k1_hw112 : k1_chk112 i v10179), ∀ a, (k1_off113 i v10179) a + S8x128.size a ≤ S4096x16384.size a := fun i v10179 k1_hw112 => k1_hw112.2

def k1_mult113 (v11601 : BitVec 32) : BitVec 32 :=
  let c_m128_i32_6269 : BitVec 32 := 4294967168#32
  let v11602 : BitVec 32 := Scalar.andi v11601 c_m128_i32_6269
  v11602

def k1_mult114 (v11607 : BitVec 32) : BitVec 32 :=
  let c_m128_i32_6272 : BitVec 32 := 4294967168#32
  let v11608 : BitVec 32 := Scalar.andi v11607 c_m128_i32_6272
  v11608

def k1_mult115 (v11613 : BitVec 32) : BitVec 32 :=
  let c_m128_i32_6275 : BitVec 32 := 4294967168#32
  let v11614 : BitVec 32 := Scalar.andi v11613 c_m128_i32_6275
  v11614

def k1_mult116 (v11619 : BitVec 32) : BitVec 32 :=
  let c_m128_i32_6278 : BitVec 32 := 4294967168#32
  let v11620 : BitVec 32 := Scalar.andi v11619 c_m128_i32_6278
  v11620

def k1_off114 (i : grid1.Coords) (v11601 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6270 : BitVec 32 := 112#32
  let v11604 : BitVec 32 := Scalar.addi v2 c112_i32_6270
  let c0_i32_6271 : BitVec 32 := 0#32
  let v11605 : BitVec 32 := Scalar.addi v11604 c0_i32_6271
  let c_m128_i32_6269 : BitVec 32 := 4294967168#32
  let v11602 : BitVec 32 := Scalar.andi v11601 c_m128_i32_6269
  let v11603 : BitVec 32 := v11602
  ![v11605.toNat, v11603.toNat]

def k1_chk113 (i : grid1.Coords) (v11601 : BitVec 32) : Prop :=
  (128 ∣ (k1_mult113 v11601).toNat) ∧
  (∀ a, (k1_off114 i v11601) a + S8x128.size a ≤ S4096x16384.size a)
theorem k1_mult113_dvd : ∀ (i : grid1.Coords) (v11601 : BitVec 32) (k1_hw113 : k1_chk113 i v11601), 128 ∣ (k1_mult113 v11601).toNat := fun i v11601 k1_hw113 => k1_hw113.1
theorem k1_off114_inb : ∀ (i : grid1.Coords) (v11601 : BitVec 32) (k1_hw113 : k1_chk113 i v11601), ∀ a, (k1_off114 i v11601) a + S8x128.size a ≤ S4096x16384.size a := fun i v11601 k1_hw113 => k1_hw113.2

def k1_off115 (i : grid1.Coords) (v11607 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6273 : BitVec 32 := 112#32
  let v11610 : BitVec 32 := Scalar.addi v2 c112_i32_6273
  let c0_i32_6274 : BitVec 32 := 0#32
  let v11611 : BitVec 32 := Scalar.addi v11610 c0_i32_6274
  let c_m128_i32_6272 : BitVec 32 := 4294967168#32
  let v11608 : BitVec 32 := Scalar.andi v11607 c_m128_i32_6272
  let v11609 : BitVec 32 := v11608
  ![v11611.toNat, v11609.toNat]

def k1_chk114 (i : grid1.Coords) (v11607 : BitVec 32) : Prop :=
  (128 ∣ (k1_mult114 v11607).toNat) ∧
  (∀ a, (k1_off115 i v11607) a + S8x128.size a ≤ S4096x16384.size a)
theorem k1_mult114_dvd : ∀ (i : grid1.Coords) (v11607 : BitVec 32) (k1_hw114 : k1_chk114 i v11607), 128 ∣ (k1_mult114 v11607).toNat := fun i v11607 k1_hw114 => k1_hw114.1
theorem k1_off115_inb : ∀ (i : grid1.Coords) (v11607 : BitVec 32) (k1_hw114 : k1_chk114 i v11607), ∀ a, (k1_off115 i v11607) a + S8x128.size a ≤ S4096x16384.size a := fun i v11607 k1_hw114 => k1_hw114.2

def k1_off116 (i : grid1.Coords) (v11613 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6276 : BitVec 32 := 112#32
  let v11616 : BitVec 32 := Scalar.addi v2 c112_i32_6276
  let c0_i32_6277 : BitVec 32 := 0#32
  let v11617 : BitVec 32 := Scalar.addi v11616 c0_i32_6277
  let c_m128_i32_6275 : BitVec 32 := 4294967168#32
  let v11614 : BitVec 32 := Scalar.andi v11613 c_m128_i32_6275
  let v11615 : BitVec 32 := v11614
  ![v11617.toNat, v11615.toNat]

def k1_chk115 (i : grid1.Coords) (v11613 : BitVec 32) : Prop :=
  (128 ∣ (k1_mult115 v11613).toNat) ∧
  (∀ a, (k1_off116 i v11613) a + S8x128.size a ≤ S4096x16384.size a)
theorem k1_mult115_dvd : ∀ (i : grid1.Coords) (v11613 : BitVec 32) (k1_hw115 : k1_chk115 i v11613), 128 ∣ (k1_mult115 v11613).toNat := fun i v11613 k1_hw115 => k1_hw115.1
theorem k1_off116_inb : ∀ (i : grid1.Coords) (v11613 : BitVec 32) (k1_hw115 : k1_chk115 i v11613), ∀ a, (k1_off116 i v11613) a + S8x128.size a ≤ S4096x16384.size a := fun i v11613 k1_hw115 => k1_hw115.2

def k1_off117 (i : grid1.Coords) (v11619 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6279 : BitVec 32 := 112#32
  let v11622 : BitVec 32 := Scalar.addi v2 c112_i32_6279
  let c0_i32_6280 : BitVec 32 := 0#32
  let v11623 : BitVec 32 := Scalar.addi v11622 c0_i32_6280
  let c_m128_i32_6278 : BitVec 32 := 4294967168#32
  let v11620 : BitVec 32 := Scalar.andi v11619 c_m128_i32_6278
  let v11621 : BitVec 32 := v11620
  ![v11623.toNat, v11621.toNat]

def k1_chk116 (i : grid1.Coords) (v11619 : BitVec 32) : Prop :=
  (128 ∣ (k1_mult116 v11619).toNat) ∧
  (∀ a, (k1_off117 i v11619) a + S8x128.size a ≤ S4096x16384.size a)
theorem k1_mult116_dvd : ∀ (i : grid1.Coords) (v11619 : BitVec 32) (k1_hw116 : k1_chk116 i v11619), 128 ∣ (k1_mult116 v11619).toNat := fun i v11619 k1_hw116 => k1_hw116.1
theorem k1_off117_inb : ∀ (i : grid1.Coords) (v11619 : BitVec 32) (k1_hw116 : k1_chk116 i v11619), ∀ a, (k1_off117 i v11619) a + S8x128.size a ≤ S4096x16384.size a := fun i v11619 k1_hw116 => k1_hw116.2

def k1_mult117 (v11673 : BitVec 32) : BitVec 32 :=
  let c_m128_i32_6321 : BitVec 32 := 4294967168#32
  let v11674 : BitVec 32 := Scalar.andi v11673 c_m128_i32_6321
  v11674

def k1_mult118 (v11679 : BitVec 32) : BitVec 32 :=
  let c_m128_i32_6324 : BitVec 32 := 4294967168#32
  let v11680 : BitVec 32 := Scalar.andi v11679 c_m128_i32_6324
  v11680

def k1_mult119 (v11685 : BitVec 32) : BitVec 32 :=
  let c_m128_i32_6327 : BitVec 32 := 4294967168#32
  let v11686 : BitVec 32 := Scalar.andi v11685 c_m128_i32_6327
  v11686

def k1_mult120 (v11691 : BitVec 32) : BitVec 32 :=
  let c_m128_i32_6330 : BitVec 32 := 4294967168#32
  let v11692 : BitVec 32 := Scalar.andi v11691 c_m128_i32_6330
  v11692

def k1_off118 (i : grid1.Coords) (v11673 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6322 : BitVec 32 := 112#32
  let v11676 : BitVec 32 := Scalar.addi v2 c112_i32_6322
  let c0_i32_6323 : BitVec 32 := 0#32
  let v11677 : BitVec 32 := Scalar.addi v11676 c0_i32_6323
  let c_m128_i32_6321 : BitVec 32 := 4294967168#32
  let v11674 : BitVec 32 := Scalar.andi v11673 c_m128_i32_6321
  let v11675 : BitVec 32 := v11674
  ![v11677.toNat, v11675.toNat]

def k1_chk117 (i : grid1.Coords) (v11673 : BitVec 32) : Prop :=
  (128 ∣ (k1_mult117 v11673).toNat) ∧
  (∀ a, (k1_off118 i v11673) a + S8x128.size a ≤ S4096x16384.size a)
theorem k1_mult117_dvd : ∀ (i : grid1.Coords) (v11673 : BitVec 32) (k1_hw117 : k1_chk117 i v11673), 128 ∣ (k1_mult117 v11673).toNat := fun i v11673 k1_hw117 => k1_hw117.1
theorem k1_off118_inb : ∀ (i : grid1.Coords) (v11673 : BitVec 32) (k1_hw117 : k1_chk117 i v11673), ∀ a, (k1_off118 i v11673) a + S8x128.size a ≤ S4096x16384.size a := fun i v11673 k1_hw117 => k1_hw117.2

def k1_off119 (i : grid1.Coords) (v11679 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6325 : BitVec 32 := 112#32
  let v11682 : BitVec 32 := Scalar.addi v2 c112_i32_6325
  let c0_i32_6326 : BitVec 32 := 0#32
  let v11683 : BitVec 32 := Scalar.addi v11682 c0_i32_6326
  let c_m128_i32_6324 : BitVec 32 := 4294967168#32
  let v11680 : BitVec 32 := Scalar.andi v11679 c_m128_i32_6324
  let v11681 : BitVec 32 := v11680
  ![v11683.toNat, v11681.toNat]

def k1_chk118 (i : grid1.Coords) (v11679 : BitVec 32) : Prop :=
  (128 ∣ (k1_mult118 v11679).toNat) ∧
  (∀ a, (k1_off119 i v11679) a + S8x128.size a ≤ S4096x16384.size a)
theorem k1_mult118_dvd : ∀ (i : grid1.Coords) (v11679 : BitVec 32) (k1_hw118 : k1_chk118 i v11679), 128 ∣ (k1_mult118 v11679).toNat := fun i v11679 k1_hw118 => k1_hw118.1
theorem k1_off119_inb : ∀ (i : grid1.Coords) (v11679 : BitVec 32) (k1_hw118 : k1_chk118 i v11679), ∀ a, (k1_off119 i v11679) a + S8x128.size a ≤ S4096x16384.size a := fun i v11679 k1_hw118 => k1_hw118.2

def k1_off120 (i : grid1.Coords) (v11685 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6328 : BitVec 32 := 112#32
  let v11688 : BitVec 32 := Scalar.addi v2 c112_i32_6328
  let c0_i32_6329 : BitVec 32 := 0#32
  let v11689 : BitVec 32 := Scalar.addi v11688 c0_i32_6329
  let c_m128_i32_6327 : BitVec 32 := 4294967168#32
  let v11686 : BitVec 32 := Scalar.andi v11685 c_m128_i32_6327
  let v11687 : BitVec 32 := v11686
  ![v11689.toNat, v11687.toNat]

def k1_chk119 (i : grid1.Coords) (v11685 : BitVec 32) : Prop :=
  (128 ∣ (k1_mult119 v11685).toNat) ∧
  (∀ a, (k1_off120 i v11685) a + S8x128.size a ≤ S4096x16384.size a)
theorem k1_mult119_dvd : ∀ (i : grid1.Coords) (v11685 : BitVec 32) (k1_hw119 : k1_chk119 i v11685), 128 ∣ (k1_mult119 v11685).toNat := fun i v11685 k1_hw119 => k1_hw119.1
theorem k1_off120_inb : ∀ (i : grid1.Coords) (v11685 : BitVec 32) (k1_hw119 : k1_chk119 i v11685), ∀ a, (k1_off120 i v11685) a + S8x128.size a ≤ S4096x16384.size a := fun i v11685 k1_hw119 => k1_hw119.2

def k1_off121 (i : grid1.Coords) (v11691 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6331 : BitVec 32 := 112#32
  let v11694 : BitVec 32 := Scalar.addi v2 c112_i32_6331
  let c0_i32_6332 : BitVec 32 := 0#32
  let v11695 : BitVec 32 := Scalar.addi v11694 c0_i32_6332
  let c_m128_i32_6330 : BitVec 32 := 4294967168#32
  let v11692 : BitVec 32 := Scalar.andi v11691 c_m128_i32_6330
  let v11693 : BitVec 32 := v11692
  ![v11695.toNat, v11693.toNat]

def k1_chk120 (i : grid1.Coords) (v11691 : BitVec 32) : Prop :=
  (128 ∣ (k1_mult120 v11691).toNat) ∧
  (∀ a, (k1_off121 i v11691) a + S8x128.size a ≤ S4096x16384.size a)
theorem k1_mult120_dvd : ∀ (i : grid1.Coords) (v11691 : BitVec 32) (k1_hw120 : k1_chk120 i v11691), 128 ∣ (k1_mult120 v11691).toNat := fun i v11691 k1_hw120 => k1_hw120.1
theorem k1_off121_inb : ∀ (i : grid1.Coords) (v11691 : BitVec 32) (k1_hw120 : k1_chk120 i v11691), ∀ a, (k1_off121 i v11691) a + S8x128.size a ≤ S4096x16384.size a := fun i v11691 k1_hw120 => k1_hw120.2

def k1_mult121 (v11745 : BitVec 32) : BitVec 32 :=
  let c_m128_i32_6373 : BitVec 32 := 4294967168#32
  let v11746 : BitVec 32 := Scalar.andi v11745 c_m128_i32_6373
  v11746

def k1_mult122 (v11751 : BitVec 32) : BitVec 32 :=
  let c_m128_i32_6376 : BitVec 32 := 4294967168#32
  let v11752 : BitVec 32 := Scalar.andi v11751 c_m128_i32_6376
  v11752

def k1_mult123 (v11757 : BitVec 32) : BitVec 32 :=
  let c_m128_i32_6379 : BitVec 32 := 4294967168#32
  let v11758 : BitVec 32 := Scalar.andi v11757 c_m128_i32_6379
  v11758

def k1_mult124 (v11763 : BitVec 32) : BitVec 32 :=
  let c_m128_i32_6382 : BitVec 32 := 4294967168#32
  let v11764 : BitVec 32 := Scalar.andi v11763 c_m128_i32_6382
  v11764

def k1_off122 (i : grid1.Coords) (v11745 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6374 : BitVec 32 := 112#32
  let v11748 : BitVec 32 := Scalar.addi v2 c112_i32_6374
  let c8_i32_6375 : BitVec 32 := 8#32
  let v11749 : BitVec 32 := Scalar.addi v11748 c8_i32_6375
  let c_m128_i32_6373 : BitVec 32 := 4294967168#32
  let v11746 : BitVec 32 := Scalar.andi v11745 c_m128_i32_6373
  let v11747 : BitVec 32 := v11746
  ![v11749.toNat, v11747.toNat]

def k1_chk121 (i : grid1.Coords) (v11745 : BitVec 32) : Prop :=
  (128 ∣ (k1_mult121 v11745).toNat) ∧
  (∀ a, (k1_off122 i v11745) a + S8x128.size a ≤ S4096x16384.size a)
theorem k1_mult121_dvd : ∀ (i : grid1.Coords) (v11745 : BitVec 32) (k1_hw121 : k1_chk121 i v11745), 128 ∣ (k1_mult121 v11745).toNat := fun i v11745 k1_hw121 => k1_hw121.1
theorem k1_off122_inb : ∀ (i : grid1.Coords) (v11745 : BitVec 32) (k1_hw121 : k1_chk121 i v11745), ∀ a, (k1_off122 i v11745) a + S8x128.size a ≤ S4096x16384.size a := fun i v11745 k1_hw121 => k1_hw121.2

def k1_off123 (i : grid1.Coords) (v11751 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6377 : BitVec 32 := 112#32
  let v11754 : BitVec 32 := Scalar.addi v2 c112_i32_6377
  let c8_i32_6378 : BitVec 32 := 8#32
  let v11755 : BitVec 32 := Scalar.addi v11754 c8_i32_6378
  let c_m128_i32_6376 : BitVec 32 := 4294967168#32
  let v11752 : BitVec 32 := Scalar.andi v11751 c_m128_i32_6376
  let v11753 : BitVec 32 := v11752
  ![v11755.toNat, v11753.toNat]

def k1_chk122 (i : grid1.Coords) (v11751 : BitVec 32) : Prop :=
  (128 ∣ (k1_mult122 v11751).toNat) ∧
  (∀ a, (k1_off123 i v11751) a + S8x128.size a ≤ S4096x16384.size a)
theorem k1_mult122_dvd : ∀ (i : grid1.Coords) (v11751 : BitVec 32) (k1_hw122 : k1_chk122 i v11751), 128 ∣ (k1_mult122 v11751).toNat := fun i v11751 k1_hw122 => k1_hw122.1
theorem k1_off123_inb : ∀ (i : grid1.Coords) (v11751 : BitVec 32) (k1_hw122 : k1_chk122 i v11751), ∀ a, (k1_off123 i v11751) a + S8x128.size a ≤ S4096x16384.size a := fun i v11751 k1_hw122 => k1_hw122.2

def k1_off124 (i : grid1.Coords) (v11757 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6380 : BitVec 32 := 112#32
  let v11760 : BitVec 32 := Scalar.addi v2 c112_i32_6380
  let c8_i32_6381 : BitVec 32 := 8#32
  let v11761 : BitVec 32 := Scalar.addi v11760 c8_i32_6381
  let c_m128_i32_6379 : BitVec 32 := 4294967168#32
  let v11758 : BitVec 32 := Scalar.andi v11757 c_m128_i32_6379
  let v11759 : BitVec 32 := v11758
  ![v11761.toNat, v11759.toNat]

def k1_chk123 (i : grid1.Coords) (v11757 : BitVec 32) : Prop :=
  (128 ∣ (k1_mult123 v11757).toNat) ∧
  (∀ a, (k1_off124 i v11757) a + S8x128.size a ≤ S4096x16384.size a)
theorem k1_mult123_dvd : ∀ (i : grid1.Coords) (v11757 : BitVec 32) (k1_hw123 : k1_chk123 i v11757), 128 ∣ (k1_mult123 v11757).toNat := fun i v11757 k1_hw123 => k1_hw123.1
theorem k1_off124_inb : ∀ (i : grid1.Coords) (v11757 : BitVec 32) (k1_hw123 : k1_chk123 i v11757), ∀ a, (k1_off124 i v11757) a + S8x128.size a ≤ S4096x16384.size a := fun i v11757 k1_hw123 => k1_hw123.2

def k1_off125 (i : grid1.Coords) (v11763 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6383 : BitVec 32 := 112#32
  let v11766 : BitVec 32 := Scalar.addi v2 c112_i32_6383
  let c8_i32_6384 : BitVec 32 := 8#32
  let v11767 : BitVec 32 := Scalar.addi v11766 c8_i32_6384
  let c_m128_i32_6382 : BitVec 32 := 4294967168#32
  let v11764 : BitVec 32 := Scalar.andi v11763 c_m128_i32_6382
  let v11765 : BitVec 32 := v11764
  ![v11767.toNat, v11765.toNat]

def k1_chk124 (i : grid1.Coords) (v11763 : BitVec 32) : Prop :=
  (128 ∣ (k1_mult124 v11763).toNat) ∧
  (∀ a, (k1_off125 i v11763) a + S8x128.size a ≤ S4096x16384.size a)
theorem k1_mult124_dvd : ∀ (i : grid1.Coords) (v11763 : BitVec 32) (k1_hw124 : k1_chk124 i v11763), 128 ∣ (k1_mult124 v11763).toNat := fun i v11763 k1_hw124 => k1_hw124.1
theorem k1_off125_inb : ∀ (i : grid1.Coords) (v11763 : BitVec 32) (k1_hw124 : k1_chk124 i v11763), ∀ a, (k1_off125 i v11763) a + S8x128.size a ≤ S4096x16384.size a := fun i v11763 k1_hw124 => k1_hw124.2

def k1_mult125 (v11817 : BitVec 32) : BitVec 32 :=
  let c_m128_i32_6425 : BitVec 32 := 4294967168#32
  let v11818 : BitVec 32 := Scalar.andi v11817 c_m128_i32_6425
  v11818

def k1_mult126 (v11823 : BitVec 32) : BitVec 32 :=
  let c_m128_i32_6428 : BitVec 32 := 4294967168#32
  let v11824 : BitVec 32 := Scalar.andi v11823 c_m128_i32_6428
  v11824

def k1_mult127 (v11829 : BitVec 32) : BitVec 32 :=
  let c_m128_i32_6431 : BitVec 32 := 4294967168#32
  let v11830 : BitVec 32 := Scalar.andi v11829 c_m128_i32_6431
  v11830

def k1_mult128 (v11835 : BitVec 32) : BitVec 32 :=
  let c_m128_i32_6434 : BitVec 32 := 4294967168#32
  let v11836 : BitVec 32 := Scalar.andi v11835 c_m128_i32_6434
  v11836

def k1_off126 (i : grid1.Coords) (v11817 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6426 : BitVec 32 := 112#32
  let v11820 : BitVec 32 := Scalar.addi v2 c112_i32_6426
  let c8_i32_6427 : BitVec 32 := 8#32
  let v11821 : BitVec 32 := Scalar.addi v11820 c8_i32_6427
  let c_m128_i32_6425 : BitVec 32 := 4294967168#32
  let v11818 : BitVec 32 := Scalar.andi v11817 c_m128_i32_6425
  let v11819 : BitVec 32 := v11818
  ![v11821.toNat, v11819.toNat]

def k1_chk125 (i : grid1.Coords) (v11817 : BitVec 32) : Prop :=
  (128 ∣ (k1_mult125 v11817).toNat) ∧
  (∀ a, (k1_off126 i v11817) a + S8x128.size a ≤ S4096x16384.size a)
theorem k1_mult125_dvd : ∀ (i : grid1.Coords) (v11817 : BitVec 32) (k1_hw125 : k1_chk125 i v11817), 128 ∣ (k1_mult125 v11817).toNat := fun i v11817 k1_hw125 => k1_hw125.1
theorem k1_off126_inb : ∀ (i : grid1.Coords) (v11817 : BitVec 32) (k1_hw125 : k1_chk125 i v11817), ∀ a, (k1_off126 i v11817) a + S8x128.size a ≤ S4096x16384.size a := fun i v11817 k1_hw125 => k1_hw125.2

def k1_off127 (i : grid1.Coords) (v11823 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6429 : BitVec 32 := 112#32
  let v11826 : BitVec 32 := Scalar.addi v2 c112_i32_6429
  let c8_i32_6430 : BitVec 32 := 8#32
  let v11827 : BitVec 32 := Scalar.addi v11826 c8_i32_6430
  let c_m128_i32_6428 : BitVec 32 := 4294967168#32
  let v11824 : BitVec 32 := Scalar.andi v11823 c_m128_i32_6428
  let v11825 : BitVec 32 := v11824
  ![v11827.toNat, v11825.toNat]

def k1_chk126 (i : grid1.Coords) (v11823 : BitVec 32) : Prop :=
  (128 ∣ (k1_mult126 v11823).toNat) ∧
  (∀ a, (k1_off127 i v11823) a + S8x128.size a ≤ S4096x16384.size a)
theorem k1_mult126_dvd : ∀ (i : grid1.Coords) (v11823 : BitVec 32) (k1_hw126 : k1_chk126 i v11823), 128 ∣ (k1_mult126 v11823).toNat := fun i v11823 k1_hw126 => k1_hw126.1
theorem k1_off127_inb : ∀ (i : grid1.Coords) (v11823 : BitVec 32) (k1_hw126 : k1_chk126 i v11823), ∀ a, (k1_off127 i v11823) a + S8x128.size a ≤ S4096x16384.size a := fun i v11823 k1_hw126 => k1_hw126.2

def k1_off128 (i : grid1.Coords) (v11829 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6432 : BitVec 32 := 112#32
  let v11832 : BitVec 32 := Scalar.addi v2 c112_i32_6432
  let c8_i32_6433 : BitVec 32 := 8#32
  let v11833 : BitVec 32 := Scalar.addi v11832 c8_i32_6433
  let c_m128_i32_6431 : BitVec 32 := 4294967168#32
  let v11830 : BitVec 32 := Scalar.andi v11829 c_m128_i32_6431
  let v11831 : BitVec 32 := v11830
  ![v11833.toNat, v11831.toNat]

def k1_chk127 (i : grid1.Coords) (v11829 : BitVec 32) : Prop :=
  (128 ∣ (k1_mult127 v11829).toNat) ∧
  (∀ a, (k1_off128 i v11829) a + S8x128.size a ≤ S4096x16384.size a)
theorem k1_mult127_dvd : ∀ (i : grid1.Coords) (v11829 : BitVec 32) (k1_hw127 : k1_chk127 i v11829), 128 ∣ (k1_mult127 v11829).toNat := fun i v11829 k1_hw127 => k1_hw127.1
theorem k1_off128_inb : ∀ (i : grid1.Coords) (v11829 : BitVec 32) (k1_hw127 : k1_chk127 i v11829), ∀ a, (k1_off128 i v11829) a + S8x128.size a ≤ S4096x16384.size a := fun i v11829 k1_hw127 => k1_hw127.2

def k1_off129 (i : grid1.Coords) (v11835 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32_6435 : BitVec 32 := 112#32
  let v11838 : BitVec 32 := Scalar.addi v2 c112_i32_6435
  let c8_i32_6436 : BitVec 32 := 8#32
  let v11839 : BitVec 32 := Scalar.addi v11838 c8_i32_6436
  let c_m128_i32_6434 : BitVec 32 := 4294967168#32
  let v11836 : BitVec 32 := Scalar.andi v11835 c_m128_i32_6434
  let v11837 : BitVec 32 := v11836
  ![v11839.toNat, v11837.toNat]

def k1_chk128 (i : grid1.Coords) (v11835 : BitVec 32) : Prop :=
  (128 ∣ (k1_mult128 v11835).toNat) ∧
  (∀ a, (k1_off129 i v11835) a + S8x128.size a ≤ S4096x16384.size a)
theorem k1_mult128_dvd : ∀ (i : grid1.Coords) (v11835 : BitVec 32) (k1_hw128 : k1_chk128 i v11835), 128 ∣ (k1_mult128 v11835).toNat := fun i v11835 k1_hw128 => k1_hw128.1
theorem k1_off129_inb : ∀ (i : grid1.Coords) (v11835 : BitVec 32) (k1_hw128 : k1_chk128 i v11835), ∀ a, (k1_off129 i v11835) a + S8x128.size a ≤ S4096x16384.size a := fun i v11835 k1_hw128 => k1_hw128.2

def k1_off130 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7174_r1 : BitVec 32 := 0#32
  let c0_i32_7175_r1 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "conf_less_smooth" => some ((147437 / 163820 : ℝ) : EReal)
  | "row_const" => some (((1 / 10) * (Real.log (387420489 / 163820000000000)) : ℝ) : EReal)
  | "smooth" => some ((1 / 163820 : ℝ) : EReal)
  | _ => none
-- ==== Reference.lean ====
abbrev S4096x16384 : Shape := ⟨2, ![4096, 16384]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1 : Shape := ⟨1, ![1]⟩

abbrev nBuf : Space → Nat
  | .hbm => 63
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x16384, .f32⟩
  | .hbm, ⟨8, _⟩ => ⟨S4096, .i32⟩
  | .hbm, ⟨9, _⟩ => ⟨S_, .f32⟩
  | .hbm, ⟨10, _⟩ => ⟨S_, .f32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1, .i32⟩
  | .hbm, ⟨27, _⟩ => ⟨S4096x2, .i32⟩
  | .hbm, ⟨28, _⟩ => ⟨S4096, .f32⟩
  | .hbm, ⟨29, _⟩ => ⟨S4096x16384, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S4096, .f32⟩
  | .hbm, ⟨34, _⟩ => ⟨S4096x16384, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096x1, .i1⟩
  | .hbm, ⟨39, _⟩ => ⟨S_, .f32⟩
  | .hbm, ⟨40, _⟩ => ⟨S_, .f32⟩
  | .hbm, ⟨41, _⟩ => ⟨S4096x16384, .i1⟩
  | .hbm, ⟨42, _⟩ => ⟨S4096x16384, .f32⟩
  | .hbm, ⟨43, _⟩ => ⟨S4096x16384, .f32⟩
  | .hbm, ⟨44, _⟩ => ⟨S_, .f32⟩
  | .hbm, ⟨45, _⟩ => ⟨S4096x16384, .f32⟩
  | .hbm, ⟨46, _⟩ => ⟨S4096x16384, .i1⟩
  | .hbm, ⟨47, _⟩ => ⟨S_, .f32⟩
  | .hbm, ⟨48, _⟩ => ⟨S4096x16384, .f32⟩
  | .hbm, ⟨49, _⟩ => ⟨S4096x16384, .i1⟩
  | .hbm, ⟨50, _⟩ => ⟨S_, .f32⟩
  | .hbm, ⟨51, _⟩ => ⟨S_, .f32⟩
  | .hbm, ⟨52, _⟩ => ⟨S4096x16384, .f32⟩
  | .hbm, ⟨53, _⟩ => ⟨S4096x16384, .f32⟩
  | .hbm, ⟨54, _⟩ => ⟨S4096x16384, .f32⟩
  | .hbm, ⟨55, _⟩ => ⟨S4096x16384, .f32⟩
  | .hbm, ⟨56, _⟩ => ⟨S4096x16384, .f32⟩
  | .hbm, ⟨57, _⟩ => ⟨S_, .f32⟩
  | .hbm, ⟨58, _⟩ => ⟨S_, .f32⟩
  | .hbm, ⟨59, _⟩ => ⟨S4096x16384, .f32⟩
  | .hbm, ⟨60, _⟩ => ⟨S4096x16384, .f32⟩
  | .hbm, ⟨61, _⟩ => ⟨S_, .f32⟩
  | .hbm, ⟨62, _⟩ => ⟨S_, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_v29 : Ref sig .tc := ⟨.hbm, 48, rfl⟩
abbrev main_v30 : Ref sig .tc := ⟨.hbm, 49, rfl⟩
abbrev main_cst_12 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_call2_v0 : Ref sig .tc := ⟨.hbm, 58, rfl⟩
abbrev main_call2_v1 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== Proof.KTileEq.lean ====
/- The printed body of a tile is the loops of `KTile`. -/
module

public import proofs.«01_k».proof.Proof.KTile
public import Idealize.ShloMosaic.Lib.Pipeline.Regions

@[expose] public section

set_option maxRecDepth 1000000

noncomputable section

namespace Cert.Kernel.Tile

open Idealize.ShloMosaic Idealize.SL.Sem Idealize.ShloMosaic.Pipeline
open Cert.Kernel Facts₀ Facts

variable {F : FTy → Type} [FloatOps F]
variable [Facts]

set_option maxHeartbeats 0 in
/-- The tile's body is its program in loops. -/
theorem prog_eq (i : grid1.Coords) (arg2 : Memref sig .scVector .hbm S4096x16384 .f32) (harg2 : arg2.IsWhole)
    (arg3 : Memref sig .scVector .hbm S4096 .i32) (harg3 : arg3.IsWhole)
    (arg4 : Memref sig .scVector .hbm S32x2x16 .f32) (harg4 : arg4.IsWhole)
    (arg5 : Memref sig .scVector .vmem S128 .i32) (harg5 : arg5.IsWhole)
    (arg6 : Memref sig .scVector .vmem S16x8x128 .f32) (harg6 : arg6.IsWhole)
    (arg7 : Memref sig .scVector .vmem S2x16 .f32) (harg7 : arg7.IsWhole) (arg8 q0 q1 : DmaSems sig S_) :
    cc1__sc_gather (F := F) i arg2 harg2 arg3 harg3 arg4 harg4 arg5 harg5 arg6 harg6 arg7 harg7 arg8 q0 q1
      = prog i arg2 arg3 arg4 arg5 harg5 arg6 arg7 harg7 arg8 q0 q1 := by chain_rfl

end Cert.Kernel.Tile
end
-- ==== Proof.KITile.lean ====
/- The gather kernel of one tile, restated as loops: the printed body is one straight line of loads, copies and
   waits; here it is eight rounds of four batches of four copies and sixteen rows of eight segments, and the two
   are the same program. -/
module

public import proofs.«01_k».proof.Proof.Gen.KernelIdeal

@[expose] public section

set_option maxRecDepth 16384

noncomputable section

namespace Cert.KernelIdeal.Tile

open Idealize.ShloMosaic Idealize.SL.Sem
open Cert.KernelIdeal Facts₀ Facts

variable {F : FTy → Type} [FloatOps F] [Named F]
variable [Facts]

/-- The effects of the tile at grid point `i`. -/
abbrev Eff (F : FTy → Type) [FloatOps F] [Named F] (i : grid1.Coords) := TpuEff nD τ sig (Elt F) Λ₀ (.scVector (Fin.castLE hcore1 (i 0)) (Fin.castLE hsub1 (i 1)))

/-- Run `step` at `j`, `j + 1`, …, `n` times, threading the state. -/
def loop {E : Type → Type} {S : Type} (step : Nat → S → Prog E S) : Nat → Nat → S → Prog E S
  | 0, _, s => pure s
  | n + 1, j, s => step j s >>= loop step n (j + 1)

/-- The first row of the tile. -/
def base (i : grid1.Coords) : BitVec 32 :=
  Scalar.muli (Scalar.addi (Scalar.muli (BitVec.ofNat 32 (i 1).val) 2#32) (BitVec.ofNat 32 (i 0).val)) 128#32

/-- Where the block of the `k`-th target of round `r` starts in the table: its row rounded down to eight, its
    column to 128. -/
def blkOff (i : grid1.Coords) (r k : Nat) (v : BitVec 32) : Fin 2 → Nat :=
  ![(Scalar.addi (Scalar.addi (base i) (BitVec.ofNat 32 (16 * (r % 8)))) (BitVec.ofNat 32 (8 * (k % 16 / 8)))).toNat,
    (Scalar.andi v 4294967168#32).toNat]

/-- What the body assumes of a target before it copies its block. -/
def Chk (i : grid1.Coords) (r k : Nat) (v : BitVec 32) : Prop :=
  (128 ∣ (Scalar.andi v 4294967168#32).toNat) ∧
  (∀ a, (blkOff i r k v) a + S8x128.size a ≤ S4096x16384.size a)

instance Chk.dec (i : grid1.Coords) (r k : Nat) (v : BitVec 32) : Decidable (Chk i r k v) :=
  decidable_of_iff' _ (Iff.of_eq (Chk.eq_1 i r k v))

/-- One word of sixteen lies inside them. -/
theorem slices16 (k : Nat) : S16.Slices ![k % 16] S1 := by
  have h : ∀ k : Fin 16, S16.Slices ![k.val] S1 := by decide
  exact h ⟨k % 16, Nat.mod_lt _ (by decide)⟩

/-- A block lies inside the staging buffer. -/
theorem inbTile (k : Nat) : ∀ a, (![k % 16, 0, 0] : Fin 3 → Nat) a + S1x8x128.size a ≤ S16x8x128.size a := by
  have h : ∀ k : Fin 16, ∀ a, (![k.val, 0, 0] : Fin 3 → Nat) a + S1x8x128.size a ≤ S16x8x128.size a := by decide
  exact h ⟨k % 16, Nat.mod_lt _ (by decide)⟩

/-- A segment lies inside the staging buffer. -/
theorem inbSeg (k c : Nat) : ∀ a, (![k % 16, k % 8, 16 * (c % 8)] : Fin 3 → Nat) a + S1x1x16.size a ≤ S16x8x128.size a := by
  have h : ∀ (k : Fin 16) (k' c : Fin 8), ∀ a, (![k.val, k'.val, 16 * c.val] : Fin 3 → Nat) a + S1x1x16.size a ≤ S16x8x128.size a := by decide
  exact h ⟨k % 16, Nat.mod_lt _ (by decide)⟩ ⟨k % 8, Nat.mod_lt _ (by decide)⟩ ⟨c % 8, Nat.mod_lt _ (by decide)⟩

/-- Sixteen targets lie inside the tile's 128. -/
theorem inbT (r : Nat) : ∀ a, (![16 * (r % 8)] : Fin 1 → Nat) a + S16.size a ≤ S128.size a := by
  have h : ∀ r : Fin 8, ∀ a, (![16 * r.val] : Fin 1 → Nat) a + S16.size a ≤ S128.size a := by decide
  exact h ⟨r % 8, Nat.mod_lt _ (by decide)⟩

/-- The `k`-th word of a vector of sixteen. -/
def word (t16 : IVec S16 32) (k : Nat) : BitVec 32 :=
  extractAt ![0] (extractStridedSlice S1 ![k % 16] t16 (slices16 k)) inpos_S1_p0

/-- The block of the table a copy reads. -/
def src (i : grid1.Coords) (arg2 : Memref sig .scVector .hbm S4096x16384 .f32) (r k : Nat) (v : BitVec 32)
    (h : Chk i r k v) : Memref sig .scVector .hbm S8x128 .f32 :=
  arg2.slice (Rect.unit (s := S4096x16384) (blkOff i r k v) S8x128.size h.2) (fun _ => rfl)

/-- The staging block it writes. -/
def dst (arg6 : Memref sig .scVector .vmem S16x8x128 .f32) (k : Nat) : Memref sig .scVector .vmem S8x128 .f32 :=
  (arg6.slice (Rect.unit (s := S16x8x128) ![k % 16, 0, 0] S1x8x128.size (inbTile k)) (fun _ => rfl)).squeeze S8x128 squeezes_S1x8x128_S8x128

/-- Start the copy of one block. -/
def start (i : grid1.Coords) (arg2 : Memref sig .scVector .hbm S4096x16384 .f32)
    (arg6 : Memref sig .scVector .vmem S16x8x128 .f32) (arg8 : DmaSems sig S_)
    (r k : Nat) (v : BitVec 32) (h : Chk i r k v) : Prog (Eff F i) PUnit :=
  Prog.lift (.enqueueDma (src i arg2 r k v h) (.here (dst arg6 k)) (.dma arg8.sem) (View.wordExact_bits rfl) ((View.wordExact_bits rfl).reshape _ _) ⟨Or.inl rfl, trivial⟩)

/-- Wait for one. -/
def wait (i : grid1.Coords) (arg2 : Memref sig .scVector .hbm S4096x16384 .f32)
    (arg6 : Memref sig .scVector .vmem S16x8x128 .f32) (arg8 : DmaSems sig S_)
    (r k : Nat) (v : BitVec 32) (h : Chk i r k v) : Prog (Eff F i) PUnit :=
  Prog.lift (.waitDma2 arg8.sem (src i arg2 r k v h) (dst arg6 k) (View.wordExact_bits rfl) ((View.wordExact_bits rfl).reshape _ _))

/-- One batch: the four blocks of targets `4 sb … 4 sb + 3` of round `r`. -/
def batch (i : grid1.Coords) (arg2 : Memref sig .scVector .hbm S4096x16384 .f32)
    (arg6 : Memref sig .scVector .vmem S16x8x128 .f32) (arg8 : DmaSems sig S_)
    (t16 : IVec S16 32) (r sb : Nat) : Prog (Eff F i) PUnit := do
  let h0 := (← Prog.lift (TpuEff.assume (Chk i r (4 * sb) (word t16 (4 * sb))) (Chk.dec i r (4 * sb) (word t16 (4 * sb))))).down
  let h1 := (← Prog.lift (TpuEff.assume (Chk i r (4 * sb + 1) (word t16 (4 * sb + 1))) (Chk.dec i r (4 * sb + 1) (word t16 (4 * sb + 1))))).down
  let h2 := (← Prog.lift (TpuEff.assume (Chk i r (4 * sb + 2) (word t16 (4 * sb + 2))) (Chk.dec i r (4 * sb + 2) (word t16 (4 * sb + 2))))).down
  let h3 := (← Prog.lift (TpuEff.assume (Chk i r (4 * sb + 3) (word t16 (4 * sb + 3))) (Chk.dec i r (4 * sb + 3) (word t16 (4 * sb + 3))))).down
  start i arg2 arg6 arg8 r (4 * sb) _ h0
  start i arg2 arg6 arg8 r (4 * sb + 1) _ h1
  start i arg2 arg6 arg8 r (4 * sb + 2) _ h2
  start i arg2 arg6 arg8 r (4 * sb + 3) _ h3
  wait i arg2 arg6 arg8 r (4 * sb) _ h0
  wait i arg2 arg6 arg8 r (4 * sb + 1) _ h1
  wait i arg2 arg6 arg8 r (4 * sb + 2) _ h2
  wait i arg2 arg6 arg8 r (4 * sb + 3) _ h3

/-- The lane a target's entry is at, or one no segment holds for the padding target. -/
def col (t : BitVec 32) : BitVec 32 :=
  Scalar.select (Scalar.cmpi .ne t 0#32) (Scalar.andi t 127#32) 4294966272#32

/-- Sixteen zeros. -/
def zeros : FVec F S16 .f32 := broadcast S16 (Scalar.ofBits .f32 0x00000000#32)

/-- The lanes' numbers. -/
def lanes : IVec S16 32 := iota .scVector S16 32 [0] iota_S16_d0_w32_scVector

/-- Add a segment's chosen lane. -/
def addSeg (c7 : BitVec 32) (c : Nat) (seg : Vec F S1x1x16 .f32) (acc : FVec F S16 .f32) : FVec F S16 .f32 :=
  addf acc (select (cmpi .eq lanes (broadcast S16 (Scalar.subi c7 (BitVec.ofNat 32 (16 * (c % 8))))))
    (shapeCast S16 seg shapeCasts_S1x1x16_S16) zeros)

/-- One segment of a row. -/
def seg (i : grid1.Coords) (arg6 : Memref sig .scVector .vmem S16x8x128 .f32) (t16 : IVec S16 32) (k : Nat)
    (c : Nat) (acc : FVec F S16 .f32) : Prog (Eff F i) (FVec F S16 .f32) := do
  let s : Vec F S1x1x16 .f32 ← Prog.lift (.load arg6 (Rect.unit (s := S16x8x128) ![k % 16, k % 8, 16 * (c % 8)] S1x1x16.size (inbSeg k c)).toLoadRect (View.loadsAt_vmem h_S1x1x16))
  pure (addSeg (col (word t16 k)) c s acc)

/-- One row. -/
def row (i : grid1.Coords) (arg6 : Memref sig .scVector .vmem S16x8x128 .f32) (t16 : IVec S16 32)
    (k : Nat) (acc : FVec F S16 .f32) : Prog (Eff F i) (FVec F S16 .f32) :=
  loop (seg i arg6 t16 k) 8 0 acc

/-- How many of sixteen targets count. -/
def addCnt (t16 : IVec S16 32) (cnt : FVec F S16 .f32) : FVec F S16 .f32 :=
  addf cnt (select (cmpi .ne t16 (broadcast S16 0#32)) (broadcast S16 (Scalar.ofBits .f32 0x3F800000#32)) zeros)

/-- One round: sixteen targets. -/
def round (i : grid1.Coords) (arg2 : Memref sig .scVector .hbm S4096x16384 .f32)
    (arg5 : Memref sig .scVector .vmem S128 .i32)
    (arg6 : Memref sig .scVector .vmem S16x8x128 .f32) (arg8 : DmaSems sig S_)
    (r : Nat) (s : FVec F S16 .f32 × FVec F S16 .f32) : Prog (Eff F i) (FVec F S16 .f32 × FVec F S16 .f32) := do
  let v : Vec F S16 .i32 ← Prog.lift (.load arg5 (Rect.unit (s := S128) ![16 * (r % 8)] S16.size (inbT r)).toLoadRect (View.loadsAt_vmem h_S16))
  let t16 : IVec S16 32 := shapeCast S16 v shapeCasts_S16_S16
  loop (fun sb (_ : PUnit.{1}) => batch i arg2 arg6 arg8 t16 r sb) 4 0 ⟨⟩
  let acc ← loop (row i arg6 t16) 16 0 s.1
  pure (acc, addCnt t16 s.2)

/-- Fetch the tile's targets. -/
def fetch (i : grid1.Coords) (arg3 : Memref sig .scVector .hbm S4096 .i32)
    (arg5 : Memref sig .scVector .vmem S128 .i32) (harg5 : arg5.IsWhole) (q : DmaSems sig S_) : Prog (Eff F i) PUnit := do
  let m : Memref sig .scVector .hbm S128 .i32 := arg3.slice (Rect.unit (s := S4096) (k1_off1 i) S128.size (k1_off1_inb i)) (fun _ => rfl)
  Prog.lift (.enqueueDma m (.here arg5) (.dma q.sem) (View.wordExact_bits rfl) harg5.wordExact ⟨Or.inl rfl, trivial⟩)
  Prog.lift (.waitDma2 q.sem m arg5 (View.wordExact_bits rfl) harg5.wordExact)

/-- The weight of a target's own entry, and a counted row's constant. -/
def gatherWeight : F .f32 := Named.named κ "conf_less_smooth" 0x3F666600#32
def rowConst : F .f32 := Named.named κ "row_const" 0xBFA5D22F#32

/-- The two vectors, weighted. -/
def scaled (s : FVec F S16 .f32 × FVec F S16 .f32) : FVec F S16 .f32 × FVec F S16 .f32 :=
  (mulf s.1 (broadcast S16 gatherWeight), mulf s.2 (broadcast S16 rowConst))

/-- Put the two vectors in the staging pair and copy it out. -/
def finish (i : grid1.Coords) (arg4 : Memref sig .scVector .hbm S32x2x16 .f32)
    (arg7 : Memref sig .scVector .vmem S2x16 .f32) (harg7 : arg7.IsWhole) (q : DmaSems sig S_)
    (s : FVec F S16 .f32 × FVec F S16 .f32) : Prog (Eff F i) PUnit := do
  let _ ← Prog.lift (.load arg7 (Rect.unit (s := S2x16) ![0, 0] S1x16.size inb_S2x16_S1x16_0_0).toLoadRect (View.loadsAt_vmem h_S1x16))
  Prog.lift (.store arg7 (Rect.unit (s := S2x16) ![0, 0] S1x16.size inb_S2x16_S1x16_0_0) (shapeCast S1x16 s.1 shapeCasts_S16_S1x16) Finset.univ (View.stores_vmem_bits_univ h_S1x16 rfl) (.inl rfl))
  let _ ← Prog.lift (.load arg7 (Rect.unit (s := S2x16) ![1, 0] S1x16.size inb_S2x16_S1x16_1_0).toLoadRect (View.loadsAt_vmem h_S1x16))
  Prog.lift (.store arg7 (Rect.unit (s := S2x16) ![1, 0] S1x16.size inb_S2x16_S1x16_1_0) (shapeCast S1x16 s.2 shapeCasts_S16_S1x16) Finset.univ (View.stores_vmem_bits_univ h_S1x16 rfl) (.inl rfl))
  let m : Memref sig .scVector .hbm S2x16 .f32 := (arg4.slice (Rect.unit (s := S32x2x16) (k1_off130 i) S1x2x16.size (k1_off130_inb i)) (fun _ => rfl)).squeeze S2x16 squeezes_S1x2x16_S2x16
  Prog.lift (.enqueueDma arg7 (.here m) (.dma q.sem) harg7.wordExact ((View.wordExact_bits rfl).reshape _ _) ⟨Or.inl rfl, trivial⟩)
  Prog.lift (.waitDma2 q.sem arg7 m harg7.wordExact ((View.wordExact_bits rfl).reshape _ _))

/-- The tile's whole program. -/
def prog (i : grid1.Coords) (arg2 : Memref sig .scVector .hbm S4096x16384 .f32)
    (arg3 : Memref sig .scVector .hbm S4096 .i32) (arg4 : Memref sig .scVector .hbm S32x2x16 .f32)
    (arg5 : Memref sig .scVector .vmem S128 .i32) (harg5 : arg5.IsWhole)
    (arg6 : Memref sig .scVector .vmem S16x8x128 .f32)
    (arg7 : Memref sig .scVector .vmem S2x16 .f32) (harg7 : arg7.IsWhole)
    (arg8 q0 q1 : DmaSems sig S_) : Prog (Eff F i) PUnit := do
  fetch i arg3 arg5 harg5 q0
  let s ← loop (round i arg2 arg5 arg6 arg8) 8 0 (zeros, zeros)
  finish i arg4 arg7 harg7 q1 (scaled s)

end Cert.KernelIdeal.Tile
end
-- ==== Proof.KITileEq.lean ====
/- The printed body of a tile is the loops of `KTile`. -/
module

public import proofs.«01_k».proof.Proof.KITile
public import Idealize.ShloMosaic.Lib.Pipeline.Regions

@[expose] public section

set_option maxRecDepth 1000000

noncomputable section

namespace Cert.KernelIdeal.Tile

open Idealize.ShloMosaic Idealize.SL.Sem Idealize.ShloMosaic.Pipeline
open Cert.KernelIdeal Facts₀ Facts

variable {F : FTy → Type} [FloatOps F] [Named F]
variable [Facts]

set_option maxHeartbeats 0 in
/-- The tile's body is its program in loops. -/
theorem prog_eq (i : grid1.Coords) (arg2 : Memref sig .scVector .hbm S4096x16384 .f32) (harg2 : arg2.IsWhole)
    (arg3 : Memref sig .scVector .hbm S4096 .i32) (harg3 : arg3.IsWhole)
    (arg4 : Memref sig .scVector .hbm S32x2x16 .f32) (harg4 : arg4.IsWhole)
    (arg5 : Memref sig .scVector .vmem S128 .i32) (harg5 : arg5.IsWhole)
    (arg6 : Memref sig .scVector .vmem S16x8x128 .f32) (harg6 : arg6.IsWhole)
    (arg7 : Memref sig .scVector .vmem S2x16 .f32) (harg7 : arg7.IsWhole) (arg8 q0 q1 : DmaSems sig S_) :
    cc1__sc_gather (F := F) i arg2 harg2 arg3 harg3 arg4 harg4 arg5 harg5 arg6 harg6 arg7 harg7 arg8 q0 q1
      = prog i arg2 arg3 arg4 arg5 harg5 arg6 arg7 harg7 arg8 q0 q1 := by chain_rfl

end Cert.KernelIdeal.Tile
end
-- ==== Proof.KIGhost.lean ====
/- The set-up of the launch: the program as the launch theorem sees it, the resource algebra, and the buffers. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import Idealize.ShloMosaic.Lib.ValueLayout
public import proofs.«01_k».proof.Proof.Gen.KernelIdeal
public import proofs.«01_k».proof.Proof.KITileEq

@[expose] public section

set_option maxRecDepth 16384

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the handshakes' semaphores. -/
theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! The handshakes' rounds, the grid pipeline's rounds, the transfers' counters. -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! The memrefs a tile names. -/

abbrev xV : Memref sig .scVector .hbm S4096x16384 .f32 := Memref.whole main_arg0_scv
abbrev gV : Memref sig .scVector .hbm S4096 .i32 := Memref.whole main_arg1_scv
abbrev oV : Memref sig .scVector .hbm S32x2x16 .f32 := Memref.whole main_v2_scv
abbrev tV : Memref sig .scVector .vmem S128 .i32 := Memref.whole cc1_scratch0
abbrev bV : Memref sig .scVector .vmem S16x8x128 .f32 := Memref.whole cc1_scratch1
abbrev aV : Memref sig .scVector .vmem S2x16 .f32 := Memref.whole cc1_scratch2

abbrev xLoc (d : Dev nD) : Loc nD τ sig := (SparseCore.T d).loc main_arg0
abbrev gLoc (d : Dev nD) : Loc nD τ sig := (SparseCore.T d).loc main_arg1
abbrev oLoc (d : Dev nD) : Loc nD τ sig := (SparseCore.T d).loc main_v2

abbrev cV (L : grid1.Coords) : Fin τ.nSC := (L 0).castLE hcore1
abbrev jV (L : grid1.Coords) : Fin τ.nSub := (L 1).castLE hsub1

/-- The thread of a tile. -/
abbrev thr (d : Dev nD) (L : grid1.Coords) : Thread nD τ := V d (cV L) (jV L)

end Cert.KernelIdeal.Sc
end
-- ==== Proof.KIBatch.lean ====
/- One batch of four block copies of a tile: issued on one semaphore, drained by four waits. -/
module

public import proofs.«01_k».proof.Proof.KIGhost

@[expose] public section

set_option maxRecDepth 16384

noncomputable section

namespace Cert.KernelIdeal.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## The loop rule -/

/-- A loop keeps what every step carries from its index to the next. -/
theorem wp_loop {th : Thread nD τ} {S : Type} (step : ℕ → S → Prog (TpuEff nD τ sig (Elt F) Λ₀ th.2) S) (I : ℕ → S → sProp 𝕄) (N : ℕ)
    (h : ∀ j s, j < N → I j s ⊢ wp frame (wpE (defs₀ (F := F)) 𝒱₀ th none) Set.univ (step j s) (fun s' => I (j + 1) s')) :
    ∀ (n j : ℕ) (s : S), j + n = N →
      I j s ⊢ wp frame (wpE (defs₀ (F := F)) 𝒱₀ th none) Set.univ (Tile.loop step n j s) (fun s' => I N s')
  | 0, j, s, e => by
    obtain rfl : j = N := by omega
    unfold Tile.loop
    rw [wp_pure]
    exact fupd_intro
  | n + 1, j, s, e => by
    unfold Tile.loop
    rw [wp_bind]
    exact (h j s (by omega)).trans (wp_mono frame _ _ fun s' => wp_loop step I N h n (j + 1) s' (by omega))

/-! ## The four copies of a batch -/

/-- The quarter of a share the `t`-th copy of a batch reads at. -/
def qs (q : PosShare TreeShare) (t : Fin 4) : PosShare TreeShare :=
  if t.val = 0 then q.left.left else if t.val = 1 then q.left.right else if t.val = 2 then q.right.left else q.right.right

variable (d : Dev nD) (L : grid1.Coords)

/-- The window of the staging buffer a copy lands in. -/
abbrev win (k : ℕ) : Finset S16x8x128.Idx := (Tile.dst bV k).view.set

/-- The staging buffer of the tile. -/
abbrev bLoc : Loc nD τ sig := (thr d L).loc cc1_scratch1
abbrev xTLoc : Loc nD τ sig := (thr d L).loc main_arg0_scv

/-- The staging buffer after the `t`-th copy. -/
def landed (fx : Buf (Elt F) (xTLoc d L)) (fb : Buf (Elt F) (bLoc d L)) (r k : ℕ) (v : BitVec 32) (h : Tile.Chk L r k v) : Buf (Elt F) (bLoc d L) :=
  (Tile.dst bV k).view.write (Elt F) fb ((Tile.src L xV r k v h).view.read (Elt F) fx) Finset.univ

/-- The `t`-th piece of the staging buffer, and the `t`-th share of the block it is filled from. -/
abbrev bPts (k : ℕ) (f : Buf (Elt F) ((Tile.dst bV k).view.loc (thr d L))) : sProp 𝕄 :=
  (Tile.dst bV k).view.loc (thr d L) ↦[(Tile.dst bV k).view.set]{fullShare} f
abbrev xPts (r k : ℕ) (v : BitVec 32) (h : Tile.Chk L r k v) (q : PosShare TreeShare)
    (f : Buf (Elt F) ((Tile.src L xV r k v h).view.loc (thr d L))) : sProp 𝕄 :=
  (Tile.src L xV r k v h).view.loc (thr d L) ↦[(Tile.src L xV r k v h).view.set]{q} f

/-- What the `t`-th copy of a batch delivers. -/
def deliv (q : PosShare TreeShare) (fx : Buf (Elt F) (xTLoc d L)) (fb : Buf (Elt F) (bLoc d L)) (r sb : ℕ) (w : ℕ → BitVec 32)
    (h : ∀ k, Tile.Chk L r k (w k)) (t : Fin 4) : sProp 𝕄 :=
  iprop(bPts d L (4 * sb + t.val) (landed d L fx fb r (4 * sb + t.val) (w (4 * sb + t.val)) (h _))
    ∗ xPts d L r (4 * sb + t.val) (w (4 * sb + t.val)) (h _) (qs q t) fx)

/-- The units of one block's copy. -/
abbrev NB : ℕ := (Tile.dst bV 0).view.dmaCredit

/-- Every block of the staging buffer has the same number of units. -/
theorem credit (k : ℕ) : (Tile.dst bV k).view.dmaCredit = NB := rfl

/-- A copy into a block adds that number to its semaphore. -/
theorem amount (k : ℕ) : (Tile.dst bV k).view.amount (.dma cc1_scratch3.sem) = NB := credit k

/-- That number is positive. -/
theorem NB_pos : 0 < NB := by decide

/-- A copy of the batch is issued. -/
theorem issue_wp (r k : ℕ) (v : BitVec 32) (h : Tile.Chk L r k v) (q : PosShare TreeShare)
    (fx : Buf (Elt F) ((Tile.src L xV r k v h).view.loc (thr d L))) (fb : Buf (Elt F) ((Tile.dst bV k).view.loc (thr d L)))
    (Dl : Fin 4 → sProp 𝕄) (j : ℕ) (hj : j < 4)
    (hD : iprop(((Tile.dst bV k).view.loc (thr d L) ↦[(Tile.dst bV k).view.set]{fullShare}
          ((Tile.dst bV k).view.write (Elt F) fb ((Tile.src L xV r k v h).view.read (Elt F) fx) Finset.univ))
        ∗ ((Tile.src L xV r k v h).view.loc (thr d L) ↦[(Tile.src L xV r k v h).view.set]{q} fx)) ⊢ Dl ⟨j, hj⟩)
    {α : Type} (kk : PUnit → Prog (TpuEff nD τ sig (Elt F) Λ₀ (thr d L).2) α) (Q : α → sProp 𝕄) :
    iprop(((Tile.src L xV r k v h).view.loc (thr d L) ↦[(Tile.src L xV r k v h).view.set]{q} fx)
        ∗ ((Tile.dst bV k).view.loc (thr d L) ↦[(Tile.dst bV k).view.set]{fullShare} fb)
        ∗ Transfers.Batch countersEmb (thr d L) (.dma cc1_scratch3.sem) (default : HIx 1) NB Dl j 0)
      ⊢ iprop((Transfers.Batch countersEmb (thr d L) (.dma cc1_scratch3.sem) (default : HIx 1) NB Dl (j + 1) 0
            -∗ wp frame (wpE (defs₀ (F := F)) 𝒱₀ (thr d L) none) Set.univ (kk ⟨⟩) Q)
          -∗ wp frame (wpE (defs₀ (F := F)) 𝒱₀ (thr d L) none) Set.univ
              (Tile.start L xV bV cc1_scratch3 r k v h >>= kk) Q) :=
  Transfers.wp_dmaBatch countersEmb 𝒱₀ (thr d L) none (default : HIx 1) NB (amount k) (Finset.Subset.refl _) hj (Nat.zero_le _) hD

/-- A wait that is not the last. -/
theorem wait_wp (r k : ℕ) (v : BitVec 32) (h : Tile.Chk L r k v) (Dl : Fin 4 → sProp 𝕄) (u : ℕ) (hu : u + NB < NB * 4)
    {α : Type} (kk : PUnit → Prog (TpuEff nD τ sig (Elt F) Λ₀ (thr d L).2) α) (Q : α → sProp 𝕄)
    (O : CellTallies nD τ sig (HIx 1)) (W : Waits sig (HIx 1)) :
    iprop(Transfers.Batch countersEmb (thr d L) (.dma cc1_scratch3.sem) (default : HIx 1) NB Dl 4 u
        ∗ owes (thr d L) O W ∗ Transfers.MayWaits (thr d L) (default : HIx 1) O)
      ⊢ iprop((iprop(Transfers.Batch countersEmb (thr d L) (.dma cc1_scratch3.sem) (default : HIx 1) NB Dl 4 (u + NB)
              ∗ owes (thr d L) O (insert (SemLoc.dma cc1_scratch3.sem, (default : HIx 1)) W))
            -∗ wp frame (wpE (defs₀ (F := F)) 𝒱₀ (thr d L) none) Set.univ (kk ⟨⟩) Q)
          -∗ wp frame (wpE (defs₀ (F := F)) 𝒱₀ (thr d L) none) Set.univ
              (Tile.wait L xV bV cc1_scratch3 r k v h >>= kk) Q) := by
  refine BI.Entails.trans (sep_mono_right (sep_mono_right (Transfers.MayWaits.elim (SemLoc.dma cc1_scratch3.sem)))) ?_
  exact Transfers.wp_waitBatchO countersEmb 𝒱₀ (thr d L) none (srcw := Tile.src L xV r k v h)
    (dstw := Tile.dst bV k) (sem := cc1_scratch3.sem) (default : HIx 1) (N := NB) (credit _) hu

/-- The last wait. -/
theorem wait_last_wp (r k : ℕ) (v : BitVec 32) (h : Tile.Chk L r k v) (Dl : Fin 4 → sProp 𝕄) (u : ℕ) (hu : u + NB = NB * 4)
    {α : Type} (kk : PUnit → Prog (TpuEff nD τ sig (Elt F) Λ₀ (thr d L).2) α) (Q : α → sProp 𝕄)
    (O : CellTallies nD τ sig (HIx 1)) (W : Waits sig (HIx 1)) :
    iprop(Transfers.Batch countersEmb (thr d L) (.dma cc1_scratch3.sem) (default : HIx 1) NB Dl 4 u
        ∗ owes (thr d L) O W ∗ Transfers.MayWaits (thr d L) (default : HIx 1) O)
      ⊢ iprop((iprop(bigSep Finset.univ Dl ∗ semVal ((thr d L), .dma cc1_scratch3.sem) 0
              ∗ owes (thr d L) O (insert (SemLoc.dma cc1_scratch3.sem, (default : HIx 1)) W))
            -∗ wp frame (wpE (defs₀ (F := F)) 𝒱₀ (thr d L) none) Set.univ (kk ⟨⟩) Q)
          -∗ wp frame (wpE (defs₀ (F := F)) 𝒱₀ (thr d L) none) Set.univ
              (Tile.wait L xV bV cc1_scratch3 r k v h >>= kk) Q) := by
  refine BI.Entails.trans (sep_mono_right (sep_mono_right (Transfers.MayWaits.elim (SemLoc.dma cc1_scratch3.sem)))) ?_
  exact Transfers.wp_waitBatchLastO countersEmb 𝒱₀ (thr d L) none (srcw := Tile.src L xV r k v h)
    (dstw := Tile.dst bV k) (sem := cc1_scratch3.sem) (default : HIx 1) (N := NB) (credit _) NB_pos hu

instance deliv_storable (q : PosShare TreeShare) (fx : Buf (Elt F) (xTLoc d L)) (fb : Buf (Elt F) (bLoc d L)) (r sb : ℕ) (w : ℕ → BitVec 32)
    (h : ∀ k, Tile.Chk L r k (w k)) (t : Fin 4) : BI.Storable (upEmb : UEmb _ 𝕄) (deliv d L q fx fb r sb w h t) := by
  have h1 : ∀ (S : Finset (Idx (bLoc d L))) f, BI.Storable (upEmb : UEmb _ 𝕄) (bLoc d L ↦[S]{fullShare} f) := fun _ _ => inferInstance
  have h2 : ∀ (S : Finset (Idx (xTLoc d L))) q f, BI.Storable (upEmb : UEmb _ 𝕄) (xTLoc d L ↦[S]{q} f) := fun _ _ _ => inferInstance
  have i1 : BI.Storable (upEmb : UEmb _ 𝕄) (bPts d L (4 * sb + t.val) (landed d L fx fb r (4 * sb + t.val) (w (4 * sb + t.val)) (h _))) := h1 _ _
  have i2 : BI.Storable (upEmb : UEmb _ 𝕄) (xPts d L r (4 * sb + t.val) (w (4 * sb + t.val)) (h _) (qs q t) fx) := h2 _ _ _
  unfold deliv
  exact BI.Storable.sep _ _ _

/-- A block of the staging buffer, held as a set of its entries. -/
theorem bPts_eq (k : ℕ) (f : Buf (Elt F) (bLoc d L)) : (bPts d L k f : sProp 𝕄) = (bLoc d L ↦[win k]{fullShare} f) := rfl

/-- A block of the table, held as a set of its entries. -/
theorem xPts_eq (r k : ℕ) (v : BitVec 32) (h : Tile.Chk L r k v) (q : PosShare TreeShare) (f : Buf (Elt F) (xTLoc d L)) :
    (xPts d L r k v h q f : sProp 𝕄) = (xTLoc d L ↦[(Tile.src L xV r k v h).view.set]{q} f) := rfl

/-- A batch over the pieces it fills. -/
theorem batch_pieces (q : PosShare TreeShare) (fx : Buf (Elt F) (xTLoc d L)) (fb : Buf (Elt F) (bLoc d L)) (r sb : ℕ)
    (t16 : IVec S16 32) (h : ∀ k, Tile.Chk L r k (Tile.word t16 k))
    (O : CellTallies nD τ sig (HIx 1)) (W : Waits sig (HIx 1)) :
    iprop(Transfers.MayWaits (thr d L) (default : HIx 1) O
        ∗ (bPts d L (4 * sb) fb ∗ bPts d L (4 * sb + 1) fb ∗ bPts d L (4 * sb + 2) fb ∗ bPts d L (4 * sb + 3) fb)
        ∗ (xPts d L r (4 * sb) (Tile.word t16 (4 * sb)) (h (4 * sb)) (qs q 0) fx ∗ xPts d L r (4 * sb + 1) (Tile.word t16 (4 * sb + 1)) (h (4 * sb + 1)) (qs q 1) fx
          ∗ xPts d L r (4 * sb + 2) (Tile.word t16 (4 * sb + 2)) (h (4 * sb + 2)) (qs q 2) fx ∗ xPts d L r (4 * sb + 3) (Tile.word t16 (4 * sb + 3)) (h (4 * sb + 3)) (qs q 3) fx)
        ∗ semVal (thr d L, .dma cc1_scratch3.sem) 0 ∗ owes (thr d L) O W)
      ⊢ wp frame (wpE (defs₀ (F := F)) 𝒱₀ (thr d L) none) Set.univ (Tile.batch L xV bV cc1_scratch3 t16 r sb)
          fun _ => iprop(bigSep Finset.univ (deliv d L q fx fb r sb (Tile.word t16) h) ∗ semVal (thr d L, .dma cc1_scratch3.sem) 0
            ∗ ∃ W', ⌜∀ p ∈ W', p ∈ W ∨ p.2 = none⌝ ∗ owes (thr d L) O W') := by
  iintro ⟨#Hmw, ⟨Hb0, Hb1, Hb2, Hb3⟩, ⟨Hx0, Hx1, Hx2, Hx3⟩, Hs, HO⟩
  imod (Transfers.batch_alloc' countersEmb (thr d L) (default : HIx 1) NB (deliv d L q fx fb r sb (Tile.word t16) h)) $$ Hs with HB
  unfold Tile.batch
  iapply (wp_assume 𝒱₀ (thr d L) none Set.univ (h (4 * sb)))
  iapply (wp_assume 𝒱₀ (thr d L) none Set.univ (h (4 * sb + 1)))
  iapply (wp_assume 𝒱₀ (thr d L) none Set.univ (h (4 * sb + 2)))
  iapply (wp_assume 𝒱₀ (thr d L) none Set.univ (h (4 * sb + 3)))
  iapply (issue_wp d L r (4 * sb) (Tile.word t16 (4 * sb)) (h (4 * sb)) (qs q 0) fx fb (deliv d L q fx fb r sb (Tile.word t16) h) 0 (by omega) .rfl) $$ [Hx0 Hb0 HB]
  · isplitl [Hx0]; · iexact Hx0
    isplitl [Hb0]; · iexact Hb0
    iexact HB
  iintro HB
  iapply (issue_wp d L r (4 * sb + 1) (Tile.word t16 (4 * sb + 1)) (h (4 * sb + 1)) (qs q 1) fx fb (deliv d L q fx fb r sb (Tile.word t16) h) 1 (by omega) .rfl) $$ [Hx1 Hb1 HB]
  · isplitl [Hx1]; · iexact Hx1
    isplitl [Hb1]; · iexact Hb1
    iexact HB
  iintro HB
  iapply (issue_wp d L r (4 * sb + 2) (Tile.word t16 (4 * sb + 2)) (h (4 * sb + 2)) (qs q 2) fx fb (deliv d L q fx fb r sb (Tile.word t16) h) 2 (by omega) .rfl) $$ [Hx2 Hb2 HB]
  · isplitl [Hx2]; · iexact Hx2
    isplitl [Hb2]; · iexact Hb2
    iexact HB
  iintro HB
  iapply (issue_wp d L r (4 * sb + 3) (Tile.word t16 (4 * sb + 3)) (h (4 * sb + 3)) (qs q 3) fx fb (deliv d L q fx fb r sb (Tile.word t16) h) 3 (by omega) .rfl) $$ [Hx3 Hb3 HB]
  · isplitl [Hx3]; · iexact Hx3
    isplitl [Hb3]; · iexact Hb3
    iexact HB
  iintro HB
  iapply (wait_wp d L r (4 * sb) (Tile.word t16 (4 * sb)) (h _) (deliv d L q fx fb r sb (Tile.word t16) h) 0 (by have := NB_pos; omega)) $$ [HB HO]
  · isplitl [HB]; · iexact HB
    isplitl [HO]; · iexact HO
    iexact Hmw
  iintro ⟨HB, HO⟩
  iapply (wait_wp d L r (4 * sb + 1) (Tile.word t16 (4 * sb + 1)) (h _) (deliv d L q fx fb r sb (Tile.word t16) h) (0 + NB) (by have := NB_pos; omega)) $$ [HB HO]
  · isplitl [HB]; · iexact HB
    isplitl [HO]; · iexact HO
    iexact Hmw
  iintro ⟨HB, HO⟩
  iapply (wait_wp d L r (4 * sb + 2) (Tile.word t16 (4 * sb + 2)) (h _) (deliv d L q fx fb r sb (Tile.word t16) h) (0 + NB + NB) (by have := NB_pos; omega)) $$ [HB HO]
  · isplitl [HB]; · iexact HB
    isplitl [HO]; · iexact HO
    iexact Hmw
  iintro ⟨HB, HO⟩
  iapply (wait_last_wp d L r (4 * sb + 3) (Tile.word t16 (4 * sb + 3)) (h _) (deliv d L q fx fb r sb (Tile.word t16) h) (0 + NB + NB + NB) (by omega) (kk := .ret)) $$ [HB HO]
  · isplitl [HB]; · iexact HB
    isplitl [HO]; · iexact HO
    iexact Hmw
  iintro ⟨HD, Hs, HO⟩
  rw [wp_ret]
  imodintro
  isplitl [HD]; · iexact HD
  isplitl [Hs]; · iexact Hs
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Sc
end
-- ==== Proof.KIWin.lean ====
/- Where a tile's copies land: the index maps of the windows of the staging buffer and of the blocks of the table. -/
module

public import proofs.«01_k».proof.Proof.KIBatch

@[expose] public section

set_option maxRecDepth 16384

noncomputable section

namespace Cert.KernelIdeal.Sc

open Cert.KernelIdeal Cert.KernelIdeal.Gen
open Idealize.ShloMosaic Idealize.ShloMosaic.ValueIdx
open Idealize.SL Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [Named F]

local notation "𝕄" => MT nD τ sig (HIx 1) (Elt F) ℕ UU ℕ

variable (d : Dev nD) (L : grid1.Coords)

/-- The staging window of target `k` is its row of the buffer. -/
theorem dst_emb (k : ℕ) (a : Fin 8) (b : Fin 128) :
    (Tile.dst bV k).view.emb (ix2 a b) = (ix3 (⟨k % 16, Nat.mod_lt _ (by decide)⟩ : Fin 16) a b : S16x8x128.Idx) := by
  show (Rect.unit (s := S16x8x128) ![k % 16, 0, 0] S1x8x128.size (Tile.inbTile k)).emb (Shape.reshapeEquiv _ (ix2 a b)) = _
  rw [reshapeEquiv_ix2_1ab]
  funext x
  match x with
  | 0 => exact Fin.ext (by simp [Rect.emb, Rect.unit])
  | 1 => exact Fin.ext (by simp [Rect.emb, Rect.unit])
  | 2 => exact Fin.ext (by simp [Rect.emb, Rect.unit])

/-- The entries of a window. -/
theorem mem_win (k : ℕ) (i : S16x8x128.Idx) : i ∈ win k ↔ (i 0).val = k % 16 := by
  constructor
  · intro h
    obtain ⟨x, -, rfl⟩ := Finset.mem_map.mp h
    rw [eq_ix2 x]
    exact congrArg (fun z : S16x8x128.Idx => (z 0).val) (dst_emb k (x 0) (x 1))
  · intro h
    refine Finset.mem_map.mpr ⟨ix2 (i 1) (i 2), Finset.mem_univ _, ?_⟩
    refine (dst_emb k (i 1) (i 2)).trans ?_
    conv_rhs => rw [eq_ix3 i]
    congr 1
    exact Fin.ext h.symm

/-- Entry `(a, b)` of the block a copy reads. -/
theorem src_emb (r k : ℕ) (v : BitVec 32) (h : Tile.Chk L r k v) (a : Fin 8) (b : Fin 128) :
    (Tile.src L xV r k v h).view.emb (ix2 a b)
      = (ix2 (⟨Tile.blkOff L r k v 0 + a.val, by have := h.2 0; have := a.isLt; simp at *; omega⟩ : Fin 4096)
          (⟨Tile.blkOff L r k v 1 + b.val, by have := h.2 1; have := b.isLt; simp at *; omega⟩ : Fin 16384) : S4096x16384.Idx) := by
  show (Rect.unit (s := S4096x16384) (Tile.blkOff L r k v) S8x128.size h.2).emb (ix2 a b) = _
  funext x
  match x with
  | 0 => exact Fin.ext (by simp [Rect.emb, Rect.unit])
  | 1 => exact Fin.ext (by simp [Rect.emb, Rect.unit])

/-- An entry of the staging buffer after a copy landed in its window. -/
theorem landed_apply (fx : Buf (Elt F) (xTLoc d L)) (fb : Buf (Elt F) (bLoc d L)) (r k : ℕ) (v : BitVec 32) (h : Tile.Chk L r k v)
    (i : S16x8x128.Idx) (hi : (i 0).val = k % 16) :
    landed d L fx fb r k v h i
      = fx (ix2 (⟨Tile.blkOff L r k v 0 + (i 1).val, by have := h.2 0; have := (i 1).isLt; simp at *; omega⟩ : Fin 4096)
          (⟨Tile.blkOff L r k v 1 + (i 2).val, by have := h.2 1; have := (i 2).isLt; simp at *; omega⟩ : Fin 16384) : S4096x16384.Idx) := by
  have e : i = (Tile.dst bV k).view.emb (ix2 (i 1) (i 2)) := by
    refine Eq.trans ?_ (dst_emb k (i 1) (i 2)).symm
    conv_lhs => rw [eq_ix3 i]
    congr 1
    exact Fin.ext hi
  conv_lhs => rw [e]
  unfold landed
  refine (View.write_emb_of_mem _ _ (Finset.mem_univ _)).trans ((cast_eq _ _).trans ?_)
  exact (View.read_apply _ _).trans ((cast_eq _ _).trans (congrArg fx (src_emb L r k v h (i 1) (i 2))))

end Cert.KernelIdeal.Sc
end
-- ==== Proof.KIRound.lean ====
/- One round of a tile: sixteen targets are read, their blocks are copied, and the chosen lanes added up. -/
module

public import proofs.«01_k».proof.Proof.KIWin

@[expose] public section

set_option maxRecDepth 16384

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- A piece put back at new contents. -/
theorem rejoin {ℓ : Loc nD τ sig} {I S : Finset (Idx ℓ)} (hI : I ⊆ S) (q : PosShare TreeShare) (g f : Buf (Elt F) ℓ) :
    iprop((ℓ ↦[I]{q} g) ∗ (ℓ ↦[S \ I]{q} f)) ⊢ (ℓ ↦[S]{q} (I.piecewise g f) : sProp 𝕄) := by
  rw [pointsTo_congr (I := I) (f := g) (g := I.piecewise g f) fun i hi => (Finset.piecewise_eq_of_mem _ _ _ hi).symm,
    pointsTo_congr (I := S \ I) (f := f) (g := I.piecewise g f) fun i hi => (Finset.piecewise_eq_of_notMem _ _ _ (Finset.mem_sdiff.mp hi).2).symm]
  exact (pointsTo_split_subset hI).2

/-- A product over four is the four factors. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

variable (d : Dev nD) (L : grid1.Coords)

/-- The four quarters of a share of the table. -/
theorem quarters (q : PosShare TreeShare) (fx : Buf (Elt F) (xTLoc d L)) :
    (xTLoc d L ↦{q} fx : sProp 𝕄) ⊣⊢ iprop(((xTLoc d L ↦{qs q 0} fx) ∗ (xTLoc d L ↦{qs q 1} fx)) ∗ (xTLoc d L ↦{qs q 2} fx) ∗ (xTLoc d L ↦{qs q 3} fx)) := by
  constructor
  · refine (pointsTo_share (PosShare.mem_left_op_right q)).1.trans (BI.sep_mono ?_ ?_)
    · exact (pointsTo_share (PosShare.mem_left_op_right q.left)).1
    · exact (pointsTo_share (PosShare.mem_left_op_right q.right)).1
  · refine (BI.sep_mono ?_ ?_).trans (pointsTo_share (PosShare.mem_left_op_right q)).2
    · exact (pointsTo_share (PosShare.mem_left_op_right q.left)).2
    · exact (pointsTo_share (PosShare.mem_left_op_right q.right)).2

/-- The entry of the table a copy puts at an entry of the staging buffer. -/
def blk (fx : Buf (Elt F) (xTLoc d L)) (r : ℕ) (w : ℕ → BitVec 32) (h : ∀ k, Tile.Chk L r k (w k)) (i : S16x8x128.Idx) : Elt F .f32 :=
  fx (ix2 (⟨Tile.blkOff L r (i 0).val (w (i 0).val) 0 + (i 1).val, by have := (h (i 0).val).2 0; have := (i 1).isLt; simp at *; omega⟩ : Fin 4096)
    (⟨Tile.blkOff L r (i 0).val (w (i 0).val) 1 + (i 2).val, by have := (h (i 0).val).2 1; have := (i 2).isLt; simp at *; omega⟩ : Fin 16384) : S4096x16384.Idx)

/-- The first `n` rows of the staging buffer hold their blocks. -/
def Filled (fx : Buf (Elt F) (xTLoc d L)) (r : ℕ) (w : ℕ → BitVec 32) (h : ∀ k, Tile.Chk L r k (w k)) (n : ℕ) (f : Buf (Elt F) (bLoc d L)) : Prop :=
  ∀ i : S16x8x128.Idx, (i 0).val < n → f i = blk d L fx r w h i

/-- A landed copy puts the block's entries in its row of the staging buffer. -/
theorem landed_blk (fx : Buf (Elt F) (xTLoc d L)) (fb : Buf (Elt F) (bLoc d L)) (r k : ℕ) (w : ℕ → BitVec 32) (h : ∀ k, Tile.Chk L r k (w k))
    (i : S16x8x128.Idx) (hi : (i 0).val = k) : landed d L fx fb r k (w k) (h k) i = blk d L fx r w h i := by
  subst hi
  exact landed_apply d L fx fb r (i 0).val _ (h _) i (Nat.mod_eq_of_lt (i 0).isLt).symm

/-- Four more landed copies fill four more rows. -/
theorem filled_step (fx : Buf (Elt F) (xTLoc d L)) (r : ℕ) (w : ℕ → BitVec 32) (h : ∀ k, Tile.Chk L r k (w k)) (sb : ℕ) (hsb : sb < 4)
    (f : Buf (Elt F) (bLoc d L)) (hf : Filled d L fx r w h (4 * sb) f) :
    Filled d L fx r w h (4 * (sb + 1))
      ((win (4 * sb)).piecewise (landed d L fx f r (4 * sb) (w (4 * sb)) (h _))
        ((win (4 * sb + 1)).piecewise (landed d L fx f r (4 * sb + 1) (w (4 * sb + 1)) (h _))
          ((win (4 * sb + 2)).piecewise (landed d L fx f r (4 * sb + 2) (w (4 * sb + 2)) (h _))
            ((win (4 * sb + 3)).piecewise (landed d L fx f r (4 * sb + 3) (w (4 * sb + 3)) (h _)) f)))) := by
  intro i hi
  have hm : ∀ t, t < 4 → (i ∈ win (4 * sb + t) ↔ (i 0).val = 4 * sb + t) := fun t ht => by
    rw [mem_win, Nat.mod_eq_of_lt (by omega)]
  have h0 := hm 0 (by omega); have h1 := hm 1 (by omega); have h2 := hm 2 (by omega); have h3 := hm 3 (by omega)
  rw [Nat.add_zero] at h0
  simp only [Finset.piecewise, h0, h1, h2, h3]
  split_ifs with a0 a1 a2 a3
  · exact landed_blk d L fx f r _ w h i a0
  · exact landed_blk d L fx f r _ w h i a1
  · exact landed_blk d L fx f r _ w h i a2
  · exact landed_blk d L fx f r _ w h i a3
  · exact hf i (by omega)

/-- A batch fills four more rows of the staging buffer. -/
theorem batch_wp (q : PosShare TreeShare) (fx : Buf (Elt F) (xTLoc d L)) (f : Buf (Elt F) (bLoc d L)) (r sb : ℕ) (hsb : sb < 4)
    (t16 : IVec S16 32) (h : ∀ k, Tile.Chk L r k (Tile.word t16 k)) (hf : Filled d L fx r (Tile.word t16) h (4 * sb) f)
    (O : CellTallies nD τ sig (HIx 1)) (W : Waits sig (HIx 1)) :
    iprop(Transfers.MayWaits (thr d L) (default : HIx 1) O ∗ (bLoc d L ↦{fullShare} f : sProp 𝕄) ∗ (xTLoc d L ↦{q} fx)
        ∗ semVal (thr d L, .dma cc1_scratch3.sem) 0 ∗ owes (thr d L) O W)
      ⊢ wp frame (wpE (defs₀ (F := F)) 𝒱₀ (thr d L) none) Set.univ (Tile.batch L xV bV cc1_scratch3 t16 r sb)
          fun _ => iprop((∃ f' : Buf (Elt F) (bLoc d L), ⌜Filled d L fx r (Tile.word t16) h (4 * (sb + 1)) f'⌝ ∗ bLoc d L ↦{fullShare} f') ∗ (xTLoc d L ↦{q} fx)
            ∗ semVal (thr d L, .dma cc1_scratch3.sem) 0
            ∗ ∃ W', ⌜∀ p ∈ W', p ∈ W ∨ p.2 = none⌝ ∗ owes (thr d L) O W') := by
  have hw : ∀ t t' : ℕ, t < 4 → t' < 4 → t ≠ t' → Disjoint (α := Finset S16x8x128.Idx) (win (4 * sb + t)) (win (4 * sb + t')) := fun t t' ht ht' hne =>
    (Finset.disjoint_left (α := S16x8x128.Idx)).mpr fun i hi hi' => by
      rw [mem_win, Nat.mod_eq_of_lt (by omega)] at hi hi'; omega
  have s1 : win (4 * sb + 1) ⊆ Finset.univ \ win (4 * sb) := Finset.subset_sdiff.mpr ⟨Finset.subset_univ _, hw 1 0 (by omega) (by omega) (by omega)⟩
  have s2 : win (4 * sb + 2) ⊆ (Finset.univ \ win (4 * sb)) \ win (4 * sb + 1) :=
    Finset.subset_sdiff.mpr ⟨Finset.subset_sdiff.mpr ⟨Finset.subset_univ _, hw 2 0 (by omega) (by omega) (by omega)⟩, hw 2 1 (by omega) (by omega) (by omega)⟩
  have s3 : win (4 * sb + 3) ⊆ ((Finset.univ \ win (4 * sb)) \ win (4 * sb + 1)) \ win (4 * sb + 2) :=
    Finset.subset_sdiff.mpr ⟨Finset.subset_sdiff.mpr ⟨Finset.subset_sdiff.mpr ⟨Finset.subset_univ _, hw 3 0 (by omega) (by omega) (by omega)⟩,
      hw 3 1 (by omega) (by omega) (by omega)⟩, hw 3 2 (by omega) (by omega) (by omega)⟩
  have hx : ∀ k q, (xTLoc d L ↦{q} fx : sProp 𝕄) ⊣⊢ iprop(xPts d L r k (Tile.word t16 k) (h k) q fx
      ∗ xTLoc d L ↦[Finset.univ \ (Tile.src L xV r k (Tile.word t16 k) (h k)).view.set]{q} fx) := fun k q =>
    pointsTo_split_subset (Finset.subset_univ _)
  iintro ⟨#Hmw, Hb, Hx, Hs, HO⟩
  ihave Hb := (pointsTo_split_subset (ℓ := bLoc d L) (Finset.subset_univ (win (4 * sb)))).1 $$ Hb
  icases Hb with ⟨Hb0, Hb⟩
  ihave Hb := (pointsTo_split_subset (ℓ := bLoc d L) s1).1 $$ Hb
  icases Hb with ⟨Hb1, Hb⟩
  ihave Hb := (pointsTo_split_subset (ℓ := bLoc d L) s2).1 $$ Hb
  icases Hb with ⟨Hb2, Hb⟩
  ihave Hb := (pointsTo_split_subset (ℓ := bLoc d L) s3).1 $$ Hb
  icases Hb with ⟨Hb3, Hb⟩
  ihave Hx := (quarters d L q fx).1 $$ Hx
  icases Hx with ⟨⟨Hx0, Hx1⟩, Hx2, Hx3⟩
  ihave Hx0 := (hx (4 * sb) (qs q 0)).1 $$ Hx0
  icases Hx0 with ⟨Hx0, Hy0⟩
  ihave Hx1 := (hx (4 * sb + 1) (qs q 1)).1 $$ Hx1
  icases Hx1 with ⟨Hx1, Hy1⟩
  ihave Hx2 := (hx (4 * sb + 2) (qs q 2)).1 $$ Hx2
  icases Hx2 with ⟨Hx2, Hy2⟩
  ihave Hx3 := (hx (4 * sb + 3) (qs q 3)).1 $$ Hx3
  icases Hx3 with ⟨Hx3, Hy3⟩
  ihave Hw := (batch_pieces d L q fx f r sb t16 h O W) $$ [Hb0 Hb1 Hb2 Hb3 Hx0 Hx1 Hx2 Hx3 Hs HO]
  · isplitr; · iexact Hmw
    isplitl [Hb0 Hb1 Hb2 Hb3]
    · isplitl [Hb0]; · iexact Hb0
      isplitl [Hb1]; · iexact Hb1
      isplitl [Hb2]; · iexact Hb2
      iexact Hb3
    isplitl [Hx0 Hx1 Hx2 Hx3]
    · isplitl [Hx0]; · iexact Hx0
      isplitl [Hx1]; · iexact Hx1
      isplitl [Hx2]; · iexact Hx2
      iexact Hx3
    isplitl [Hs]; · iexact Hs
    iexact HO
  iapply (wp_wand frame _ _) $$ Hw
  iintro %_ ⟨HD, Hs, HO⟩
  ihave HD := (BIBase.Entails.of_eq (bigSep_fin4 (deliv d L q fx f r sb (Tile.word t16) h))) $$ HD
  icases HD with ⟨H0, H1, H2, H3⟩
  unfold deliv
  icases H0 with ⟨Hb0, Hx0⟩
  icases H1 with ⟨Hb1, Hx1⟩
  icases H2 with ⟨Hb2, Hx2⟩
  icases H3 with ⟨Hb3, Hx3⟩
  isplitl [Hb0 Hb1 Hb2 Hb3 Hb]
  · iexists _
    isplitr
    · ipureintro; exact filled_step d L fx r _ h sb hsb f hf
    iapply (rejoin (ℓ := bLoc d L) (Finset.subset_univ (win (4 * sb))) fullShare _ _)
    isplitl [Hb0]; · iexact Hb0
    iapply (rejoin (ℓ := bLoc d L) s1 fullShare _ _)
    isplitl [Hb1]; · iexact Hb1
    iapply (rejoin (ℓ := bLoc d L) s2 fullShare _ _)
    isplitl [Hb2]; · iexact Hb2
    iapply (rejoin (ℓ := bLoc d L) s3 fullShare _ _)
    isplitl [Hb3]; · iexact Hb3
    iexact Hb
  isplitl [Hx0 Hx1 Hx2 Hx3 Hy0 Hy1 Hy2 Hy3]
  · iapply (quarters d L q fx).2
    isplitl [Hx0 Hx1 Hy0 Hy1]
    · isplitl [Hx0 Hy0]
      · iapply (hx (4 * sb) (qs q 0)).2
        isplitl [Hx0]; · iexact Hx0
        iexact Hy0
      iapply (hx (4 * sb + 1) (qs q 1)).2
      isplitl [Hx1]; · iexact Hx1
      iexact Hy1
    isplitl [Hx2 Hy2]
    · iapply (hx (4 * sb + 2) (qs q 2)).2
      isplitl [Hx2]; · iexact Hx2
      iexact Hy2
    iapply (hx (4 * sb + 3) (qs q 3)).2
    isplitl [Hx3]; · iexact Hx3
    iexact Hy3
  isplitl [Hs]; · iexact Hs
  iexact HO

end Cert.KernelIdeal.Sc
end
-- ==== Proof.KIRow.lean ====
/- The values a tile adds up, and the loops that add them. -/
module

public import proofs.«01_k».proof.Proof.KIRound

@[expose] public section

set_option maxRecDepth 16384

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## Values -/

/-- A step taken at `0`, …, `n - 1`. -/
def iter {S : Type} (f : ℕ → S → S) : ℕ → S → S
  | 0, s => s
  | n + 1, s => f n (iter f n s)

/-- The number of the tile. -/
def wid (L : grid1.Coords) : ℕ := (L 1).val * 2 + (L 0).val

/-- There are thirty-two tiles. -/
theorem wid_lt (L : grid1.Coords) : wid L < 32 := by
  have h0 : (L 0).val < 2 := (L 0).isLt
  have h1 : (L 1).val < 16 := (L 1).isLt
  unfold wid; omega

/-- The table's entry at a row and a column. -/
def at2 (fx : FVec F S4096x16384 .f32) (a b : ℕ) : F .f32 := fx (ix2 (Fin.ofNat 4096 a) (Fin.ofNat 16384 b))

/-- The sixteen targets of round `r`. -/
def tgt (fg : IVec S4096 32) (w : ℕ) (r : ℕ) : IVec S16 32 :=
  fun i => fg (ix1 (Fin.ofNat 4096 (128 * w + 16 * (r % 8) + (i 0).val)))

/-- The `k`-th target of round `r`. -/
def tw (fg : IVec S4096 32) (w : ℕ) (r k : ℕ) : BitVec 32 :=
  fg (ix1 (Fin.ofNat 4096 (128 * w + 16 * (r % 8) + k % 16)))

/-- A segment of the table's row for the `k`-th target of round `r`. -/
def segV (fx : FVec F S4096x16384 .f32) (fg : IVec S4096 32) (w : ℕ) (r k c : ℕ) : Vec F S1x1x16 .f32 :=
  fun i => at2 fx (128 * w + 16 * (r % 8) + k % 16) ((tw fg w r k).toNat / 128 * 128 + 16 * (c % 8) + (i 2).val)

/-- What a row adds. -/
def rowV (fx : FVec F S4096x16384 .f32) (fg : IVec S4096 32) (w : ℕ) (r k : ℕ) (acc : FVec F S16 .f32) : FVec F S16 .f32 :=
  iter (fun c acc => Tile.addSeg (Tile.col (tw fg w r k)) c (segV fx fg w r k c) acc) 8 acc

/-- What a round adds. -/
def roundV (fx : FVec F S4096x16384 .f32) (fg : IVec S4096 32) (w : ℕ) (r : ℕ) (s : FVec F S16 .f32 × FVec F S16 .f32) :
    FVec F S16 .f32 × FVec F S16 .f32 :=
  (iter (rowV fx fg w r) 16 s.1, Tile.addCnt (tgt fg w r) s.2)

/-- What the tile adds up. -/
def tileV (fx : FVec F S4096x16384 .f32) (fg : IVec S4096 32) (w : ℕ) : FVec F S16 .f32 × FVec F S16 .f32 :=
  iter (roundV fx fg w) 8 (Tile.zeros, Tile.zeros)

/-- The `k`-th word of a round's targets. -/
theorem word_tgt (fg : IVec S4096 32) (w : ℕ) (r k : ℕ) : Tile.word (tgt fg w r) k = tw fg w r k := by
  unfold Tile.word tgt tw extractAt extractStridedSlice
  simp

/-- Clearing the low seven bits rounds down to a multiple of 128. -/
theorem mask_toNat (v : BitVec 32) : (v &&& 4294967168#32).toNat = v.toNat / 128 * 128 := by
  rw [BitVec.toNat_and]
  apply Nat.eq_of_testBit_eq
  intro i
  have e : (4294967168#32 : BitVec 32).toNat = (2 ^ 25 - 1) * 2 ^ 7 := by decide
  rw [Nat.testBit_and, e, show v.toNat / 128 * 128 = (v.toNat / 2 ^ 7) * 2 ^ 7 from rfl, Nat.testBit_mul_two_pow, Nat.testBit_mul_two_pow,
    Nat.testBit_div_two_pow, Nat.testBit_two_pow_sub_one]
  by_cases h7 : 7 ≤ i
  · rw [show i - 7 + 7 = i by omega]
    by_cases h32 : i < 32
    · simp [h7, show i - 7 < 25 by omega]
    · have : v.toNat.testBit i = false := Nat.testBit_lt_two_pow (lt_of_lt_of_le v.isLt (Nat.pow_le_pow_right (by omega) (by omega)))
      simp [this]
  · simp [h7]

/-- A tile's first row. -/
theorem base_toNat (L : grid1.Coords) : (Tile.base L).toNat = 128 * wid L := by
  have h0 : (L 0).val < 2 := (L 0).isLt
  have h1 : (L 1).val < 16 := (L 1).isLt
  unfold Tile.base wid
  simp only [Scalar.muli, Scalar.addi, IntOp.addi, IntOp.muli, BitVec.toNat_mul, BitVec.toNat_add, BitVec.toNat_ofNat]
  omega

/-- The first row of the block a copy reads, -/
theorem blkOff0 (L : grid1.Coords) (r k : ℕ) (v : BitVec 32) : Tile.blkOff L r k v 0 = 128 * wid L + 16 * (r % 8) + 8 * (k % 16 / 8) := by
  have := wid_lt L
  show (Scalar.addi (Scalar.addi (Tile.base L) _) _).toNat = _
  simp only [Scalar.addi, IntOp.addi, BitVec.toNat_add, BitVec.toNat_ofNat, base_toNat]
  omega

/-- and its first column. -/
theorem blkOff1 (L : grid1.Coords) (r k : ℕ) (v : BitVec 32) : Tile.blkOff L r k v 1 = v.toNat / 128 * 128 := mask_toNat v

/-- A target below 16384 passes the check of its copy. -/
theorem chk_of_lt (L : grid1.Coords) (r k : ℕ) (v : BitVec 32) (hv : v.toNat < 16384) : Tile.Chk L r k v := by
  have := wid_lt L
  refine ⟨?_, fun a => ?_⟩
  · rw [show (Scalar.andi v 4294967168#32).toNat = v.toNat / 128 * 128 from mask_toNat v]
    exact ⟨v.toNat / 128, by omega⟩
  · match a with
    | 0 => rw [blkOff0]; show _ + 8 ≤ 4096; omega
    | 1 => rw [blkOff1]; show _ + 128 ≤ 16384; omega

/-! ## The loops -/

variable (d : Dev nD) (L : grid1.Coords)

/-- The entry of a filled staging buffer. -/
theorem blk_eq (fx : Buf (Elt F) (xTLoc d L)) (fg : IVec S4096 32) (r : ℕ) (h : ∀ k, Tile.Chk L r k (Tile.word (tgt fg (wid L) r) k)) (k : ℕ) (b : Fin 128) :
    blk d L fx r (Tile.word (tgt fg (wid L) r)) h (ix3 (⟨k % 16, Nat.mod_lt _ (by decide)⟩ : Fin 16) (⟨k % 8, Nat.mod_lt _ (by decide)⟩ : Fin 8) b)
      = at2 fx (128 * wid L + 16 * (r % 8) + k % 16) ((tw fg (wid L) r k).toNat / 128 * 128 + b.val) := by
  have hw := wid_lt L
  have hc := (h (k % 16)).2 1
  unfold blk at2
  congr 1
  refine congrArg₂ ix2 (Fin.ext ?_) (Fin.ext ?_)
  · show Tile.blkOff L r (k % 16) _ 0 + k % 8 = _ % 4096
    rw [blkOff0]; omega
  · show Tile.blkOff L r (k % 16) (Tile.word _ (k % 16)) 1 + b.val = _ % 16384
    have e : Tile.word (tgt fg (wid L) r) (k % 16) = tw fg (wid L) r k := by rw [word_tgt]; unfold tw; rw [Nat.mod_mod]
    rw [e] at hc ⊢
    rw [blkOff1] at hc ⊢
    have : S8x128.size 1 = 128 := rfl
    have : S4096x16384.size 1 = 16384 := rfl
    have := b.isLt
    omega

/-- What a segment's load reads of a filled staging buffer. -/
theorem seg_read (fx : Buf (Elt F) (xTLoc d L)) (fg : IVec S4096 32) (r : ℕ) (h : ∀ k, Tile.Chk L r k (Tile.word (tgt fg (wid L) r) k))
    (f : Buf (Elt F) (bLoc d L)) (hf : Filled d L fx r (Tile.word (tgt fg (wid L) r)) h 16 f) (k c : ℕ) :
    (bV.access (Rect.unit (s := S16x8x128) ![k % 16, k % 8, 16 * (c % 8)] S1x1x16.size (Tile.inbSeg k c))).read (Elt F) f = segV fx fg (wid L) r k c := by
  funext i
  have hi2 : (i 2).val < 16 := (i 2).isLt
  have hi0 : (i 0).val < 1 := (i 0).isLt
  have hi1 : (i 1).val < 1 := (i 1).isLt
  have e : (Rect.unit (s := S16x8x128) ![k % 16, k % 8, 16 * (c % 8)] S1x1x16.size (Tile.inbSeg k c)).emb i
      = (ix3 (⟨k % 16, Nat.mod_lt _ (by decide)⟩ : Fin 16) (⟨k % 8, Nat.mod_lt _ (by decide)⟩ : Fin 8) (⟨16 * (c % 8) + (i 2).val, by omega⟩ : Fin 128) : S16x8x128.Idx) := by
    funext x
    match x with
    | 0 => exact Fin.ext (by simp [Rect.emb, Rect.unit]; omega)
    | 1 => exact Fin.ext (by simp [Rect.emb, Rect.unit]; omega)
    | 2 => exact Fin.ext (by simp [Rect.emb, Rect.unit])
  show f ((Rect.unit (s := S16x8x128) ![k % 16, k % 8, 16 * (c % 8)] S1x1x16.size (Tile.inbSeg k c)).emb i) = _
  rw [e, hf _ (Nat.mod_lt _ (by decide)), blk_eq]
  unfold segV
  rw [show (tw fg (wid L) r k).toNat / 128 * 128 + 16 * (c % 8) + (i 2).val = (tw fg (wid L) r k).toNat / 128 * 128 + (16 * (c % 8) + (i 2).val) from Nat.add_assoc _ _ _]

/-- A row read off a filled staging buffer. -/
theorem row_wp (fx : Buf (Elt F) (xTLoc d L)) (fg : IVec S4096 32) (r : ℕ) (h : ∀ k, Tile.Chk L r k (Tile.word (tgt fg (wid L) r) k))
    (f : Buf (Elt F) (bLoc d L)) (hf : Filled d L fx r (Tile.word (tgt fg (wid L) r)) h 16 f) (k : ℕ) (acc : FVec F S16 .f32) :
    (bLoc d L ↦{fullShare} f : sProp 𝕄)
      ⊢ wp frame (wpE (defs₀ (F := F)) 𝒱₀ (thr d L) none) Set.univ (Tile.row L bV (tgt fg (wid L) r) k acc)
          fun acc' => iprop(⌜acc' = rowV fx fg (wid L) r k acc⌝ ∗ bLoc d L ↦{fullShare} f) := by
  refine BIBase.Entails.trans ?_ (wp_loop (th := thr d L) (Tile.seg L bV (tgt fg (wid L) r) k)
    (fun c acc' => iprop(⌜acc' = iter (fun c acc => Tile.addSeg (Tile.col (tw fg (wid L) r k)) c (segV fx fg (wid L) r k c) acc) c acc⌝ ∗ bLoc d L ↦{fullShare} f)) 8
    (fun c acc' _ => ?_) 8 0 acc rfl)
  · iintro Hb
    isplitr; · ipureintro; rfl
    iexact Hb
  · iintro ⟨%e, Hb⟩
    iapply (wp_load_rect 𝒱₀ (thr d L) none Set.univ (m := bV) (S := Finset.univ)
      (r := Rect.unit (s := S16x8x128) ![k % 16, k % 8, 16 * (c % 8)] S1x1x16.size (Tile.inbSeg k c)) (f := f) (Finset.subset_univ _)) $$ Hb
    iintro Hb
    rw [seg_read d L fx fg r h f hf k c]
    rw [Prog.bind, wp_pure]
    imodintro
    isplitr
    · ipureintro; rw [e]; rfl
    iexact Hb

end Cert.KernelIdeal.Sc
end
-- ==== Proof.KIBody.lean ====
/- The whole task of a tile. -/
module

public import proofs.«01_k».proof.Proof.KIRow

@[expose] public section

set_option maxRecDepth 16384

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (d : Dev nD) (L : grid1.Coords)

/-- The tile's target buffer and the buffer of its two vectors. -/
abbrev tLoc : Loc nD τ sig := (thr d L).loc cc1_scratch0
abbrev aLoc : Loc nD τ sig := (thr d L).loc cc1_scratch2

/-- Waits recorded since `W`, none of them one the handshakes use. -/
abbrev owed (O : CellTallies nD τ sig (HIx 1)) (W : Waits sig (HIx 1)) : sProp 𝕄 :=
  iprop(∃ W', ⌜∀ p ∈ W', p ∈ W ∨ p.2 = none⌝ ∗ owes (thr d L) O W')

/-- The tile's targets have landed. -/
def Tgts (fg : IVec S4096 32) (ft : Buf (Elt F) (tLoc d L)) : Prop :=
  ∀ i : S128.Idx, ft i = fg (ix1 (Fin.ofNat 4096 (128 * wid L + (i 0).val)))

/-- The sixteen targets a round loads are the launch targets at its rows. -/
theorem tgt_read (fg : IVec S4096 32) (ft : Buf (Elt F) (tLoc d L)) (hft : Tgts d L fg ft) (r : ℕ) :
    (tV.access (Rect.unit (s := S128) ![16 * (r % 8)] S16.size (Tile.inbT r))).read (Elt F) ft = tgt fg (wid L) r := by
  funext i
  show ft ((Rect.unit (s := S128) ![16 * (r % 8)] S16.size (Tile.inbT r)).emb i) = _
  rw [hft]
  unfold tgt
  refine congrArg fg (congrArg ix1 (congrArg (Fin.ofNat 4096) ?_))
  simp [Rect.emb, Rect.unit]
  omega

/-- Targets that name columns pass the check of every copy. -/
theorem chk_tgt (fg : IVec S4096 32) (hg : ∀ i, (fg i).toNat < 16384) (r k : ℕ) : Tile.Chk L r k (Tile.word (tgt fg (wid L) r) k) := by
  rw [word_tgt]
  exact chk_of_lt L r k _ (hg _)

/-- The four batches of a round. -/
theorem batches_wp (q : PosShare TreeShare) (fx : Buf (Elt F) (xTLoc d L)) (r : ℕ) (t16 : IVec S16 32)
    (h : ∀ k, Tile.Chk L r k (Tile.word t16 k)) (O : CellTallies nD τ sig (HIx 1)) (W : Waits sig (HIx 1)) :
    iprop(Transfers.MayWaits (thr d L) (default : HIx 1) O ∗ (∃ f : Buf (Elt F) (bLoc d L), bLoc d L ↦{fullShare} f : sProp 𝕄) ∗ (xTLoc d L ↦{q} fx)
        ∗ semVal (thr d L, .dma cc1_scratch3.sem) 0 ∗ owed d L O W)
      ⊢ wp frame (wpE (defs₀ (F := F)) 𝒱₀ (thr d L) none) Set.univ (Tile.loop (fun sb (_ : PUnit.{1}) => Tile.batch L xV bV cc1_scratch3 t16 r sb) 4 0 ⟨⟩)
          fun _ => iprop(Transfers.MayWaits (thr d L) (default : HIx 1) O ∗ (∃ f' : Buf (Elt F) (bLoc d L), ⌜Filled d L fx r (Tile.word t16) h 16 f'⌝ ∗ bLoc d L ↦{fullShare} f') ∗ (xTLoc d L ↦{q} fx)
            ∗ semVal (thr d L, .dma cc1_scratch3.sem) 0 ∗ owed d L O W) := by
  refine BIBase.Entails.trans ?_ (wp_loop (th := thr d L) (fun sb (_ : PUnit.{1}) => Tile.batch L xV bV cc1_scratch3 t16 r sb)
    (fun sb _ => iprop(Transfers.MayWaits (thr d L) (default : HIx 1) O
      ∗ (∃ f' : Buf (Elt F) (bLoc d L), ⌜Filled d L fx r (Tile.word t16) h (4 * sb) f'⌝ ∗ bLoc d L ↦{fullShare} f') ∗ (xTLoc d L ↦{q} fx)
      ∗ semVal (thr d L, .dma cc1_scratch3.sem) 0 ∗ owed d L O W)) 4 (fun sb _ hsb => ?_) 4 0 ⟨⟩ rfl)
  · iintro ⟨#Hmw, ⟨%f, Hb⟩, H⟩
    isplitr; · iexact Hmw
    isplitl [Hb]
    · iexists f
      isplitr; · ipureintro; intro i hi; omega
      iexact Hb
    iexact H
  · iintro ⟨#Hmw, ⟨%f, %hf, Hb⟩, Hx, Hs, %W', %hW', HO⟩
    ihave Hw := (batch_wp d L q fx f r sb hsb t16 h hf O W') $$ [Hb Hx Hs HO]
    · isplitr; · iexact Hmw
      isplitl [Hb]; · iexact Hb
      isplitl [Hx]; · iexact Hx
      isplitl [Hs]; · iexact Hs
      iexact HO
    iapply (wp_wand frame _ _) $$ Hw
    iintro %_ ⟨Hb, Hx, Hs, %W'', %hW'', HO⟩
    isplitr; · iexact Hmw
    isplitl [Hb]; · iexact Hb
    isplitl [Hx]; · iexact Hx
    isplitl [Hs]; · iexact Hs
    iexists W''
    isplitr
    · ipureintro; intro p hp
      rcases hW'' p hp with h1 | h1
      · exact hW' p h1
      · exact .inr h1
    iexact HO

/-- The sixteen rows of a round. -/
theorem rows_wp (fx : Buf (Elt F) (xTLoc d L)) (fg : IVec S4096 32) (r : ℕ) (h : ∀ k, Tile.Chk L r k (Tile.word (tgt fg (wid L) r) k))
    (f : Buf (Elt F) (bLoc d L)) (hf : Filled d L fx r (Tile.word (tgt fg (wid L) r)) h 16 f) (acc : FVec F S16 .f32) :
    (bLoc d L ↦{fullShare} f : sProp 𝕄)
      ⊢ wp frame (wpE (defs₀ (F := F)) 𝒱₀ (thr d L) none) Set.univ (Tile.loop (Tile.row L bV (tgt fg (wid L) r)) 16 0 acc)
          fun acc' => iprop(⌜acc' = iter (rowV fx fg (wid L) r) 16 acc⌝ ∗ bLoc d L ↦{fullShare} f) := by
  refine BIBase.Entails.trans ?_ (wp_loop (th := thr d L) (Tile.row L bV (tgt fg (wid L) r))
    (fun k acc' => iprop(⌜acc' = iter (rowV fx fg (wid L) r) k acc⌝ ∗ bLoc d L ↦{fullShare} f)) 16 (fun k acc' _ => ?_) 16 0 acc rfl)
  · iintro Hb
    isplitr; · ipureintro; rfl
    iexact Hb
  · iintro ⟨%e, Hb⟩
    ihave Hw := (row_wp d L fx fg r h f hf k acc') $$ Hb
    iapply (wp_wand frame _ _) $$ Hw
    iintro %s' ⟨%e', Hb⟩
    isplitr; · ipureintro; rw [e', e]; rfl
    iexact Hb

/-- A round: sixteen targets read, their blocks copied, the chosen lanes added up. -/
theorem round_wp (q : PosShare TreeShare) (fx : Buf (Elt F) (xTLoc d L)) (fg : IVec S4096 32) (hg : ∀ i, (fg i).toNat < 16384)
    (ft : Buf (Elt F) (tLoc d L)) (hft : Tgts d L fg ft) (r : ℕ) (s : FVec F S16 .f32 × FVec F S16 .f32)
    (O : CellTallies nD τ sig (HIx 1)) (W : Waits sig (HIx 1)) :
    iprop(Transfers.MayWaits (thr d L) (default : HIx 1) O ∗ (tLoc d L ↦{fullShare} ft : sProp 𝕄) ∗ (∃ f : Buf (Elt F) (bLoc d L), bLoc d L ↦{fullShare} f : sProp 𝕄) ∗ (xTLoc d L ↦{q} fx)
        ∗ semVal (thr d L, .dma cc1_scratch3.sem) 0 ∗ owed d L O W)
      ⊢ wp frame (wpE (defs₀ (F := F)) 𝒱₀ (thr d L) none) Set.univ (Tile.round L xV tV bV cc1_scratch3 r s)
          fun s' => iprop(⌜s' = roundV fx fg (wid L) r s⌝ ∗ Transfers.MayWaits (thr d L) (default : HIx 1) O ∗ (tLoc d L ↦{fullShare} ft : sProp 𝕄) ∗ (∃ f : Buf (Elt F) (bLoc d L), bLoc d L ↦{fullShare} f : sProp 𝕄) ∗ (xTLoc d L ↦{q} fx)
            ∗ semVal (thr d L, .dma cc1_scratch3.sem) 0 ∗ owed d L O W) := by
  iintro ⟨#Hmw, Ht, Hb, Hx, Hs, HO⟩
  iapply (wp_load_rect 𝒱₀ (thr d L) none Set.univ (m := tV) (S := Finset.univ)
    (r := Rect.unit (s := S128) ![16 * (r % 8)] S16.size (Tile.inbT r)) (f := ft) (Finset.subset_univ _)) $$ Ht
  iintro Ht
  rw [tgt_read d L fg ft hft r, Prog.bind, shapeCast_self]
  rw [wp_bind]
  ihave Hw := (batches_wp d L q fx r (tgt fg (wid L) r) (chk_tgt L fg hg r) O W) $$ [Hb Hx Hs HO]
  · isplitr; · iexact Hmw
    isplitl [Hb]; · iexact Hb
    isplitl [Hx]; · iexact Hx
    isplitl [Hs]; · iexact Hs
    iexact HO
  iapply (wp_wand frame _ _) $$ Hw
  iintro %_ ⟨-, ⟨%f, %hf, Hb⟩, Hx, Hs, HO⟩
  rw [wp_bind]
  ihave Hw := (rows_wp d L fx fg r (chk_tgt L fg hg r) f hf s.1) $$ Hb
  iapply (wp_wand frame _ _) $$ Hw
  iintro %acc ⟨%hacc, Hb⟩
  rw [wp_pure]
  imodintro
  isplitr; · ipureintro; rw [hacc]; rfl
  isplitr; · iexact Hmw
  isplitl [Ht]; · iexact Ht
  isplitl [Hb]; · iexists f; iexact Hb
  isplitl [Hx]; · iexact Hx
  isplitl [Hs]; · iexact Hs
  iexact HO

/-- The eight rounds. -/
theorem rounds_wp (q : PosShare TreeShare) (fx : Buf (Elt F) (xTLoc d L)) (fg : IVec S4096 32) (hg : ∀ i, (fg i).toNat < 16384)
    (ft : Buf (Elt F) (tLoc d L)) (hft : Tgts d L fg ft) (s0 : FVec F S16 .f32 × FVec F S16 .f32)
    (O : CellTallies nD τ sig (HIx 1)) (W : Waits sig (HIx 1)) :
    iprop(Transfers.MayWaits (thr d L) (default : HIx 1) O ∗ (tLoc d L ↦{fullShare} ft : sProp 𝕄) ∗ (∃ f : Buf (Elt F) (bLoc d L), bLoc d L ↦{fullShare} f : sProp 𝕄) ∗ (xTLoc d L ↦{q} fx)
        ∗ semVal (thr d L, .dma cc1_scratch3.sem) 0 ∗ owed d L O W)
      ⊢ wp frame (wpE (defs₀ (F := F)) 𝒱₀ (thr d L) none) Set.univ (Tile.loop (Tile.round L xV tV bV cc1_scratch3) 8 0 s0)
          fun s' => iprop(⌜s' = iter (roundV fx fg (wid L)) 8 s0⌝ ∗ Transfers.MayWaits (thr d L) (default : HIx 1) O ∗ (tLoc d L ↦{fullShare} ft : sProp 𝕄) ∗ (∃ f : Buf (Elt F) (bLoc d L), bLoc d L ↦{fullShare} f : sProp 𝕄) ∗ (xTLoc d L ↦{q} fx)
            ∗ semVal (thr d L, .dma cc1_scratch3.sem) 0 ∗ owed d L O W) := by
  refine BIBase.Entails.trans ?_ (BIBase.Entails.trans (wp_loop (th := thr d L) (S := FVec F S16 .f32 × FVec F S16 .f32) (fun r s => Tile.round L xV tV bV cc1_scratch3 r s)
    (fun r s => iprop(⌜s = iter (roundV fx fg (wid L)) r s0⌝ ∗ Transfers.MayWaits (thr d L) (default : HIx 1) O ∗ (tLoc d L ↦{fullShare} ft : sProp 𝕄) ∗ (∃ f : Buf (Elt F) (bLoc d L), bLoc d L ↦{fullShare} f : sProp 𝕄) ∗ (xTLoc d L ↦{q} fx)
            ∗ semVal (thr d L, .dma cc1_scratch3.sem) 0 ∗ owed d L O W)) 8 (fun r s _ => ?_) 8 0 s0 (by rfl)) (BIBase.Entails.of_eq (by congr 1)))
  · iintro H
    isplitr; · ipureintro; rfl
    iexact H
  · iintro ⟨%e, H⟩
    ihave Hw := (round_wp d L q fx fg hg ft hft r s O W) $$ H
    iapply (wp_wand frame _ _) $$ Hw
    iintro %s' ⟨%e', H⟩
    isplitr; · ipureintro; rw [e', e, iter]
    iexact H

end Cert.KernelIdeal.Sc
end
-- ==== Proof.KIEnds.lean ====
/- The ends of a tile's task: its targets fetched, its two vectors written out. -/
module

public import proofs.«01_k».proof.Proof.KIBody

@[expose] public section

set_option maxRecDepth 16384

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (d : Dev nD) (L : grid1.Coords)

/-! ## The two copies of the tile's own buffers -/

/-- The tile's stretch of the targets, and its row of the results. -/
abbrev gRow : Memref sig .scVector .hbm S128 .i32 := gV.slice (Rect.unit (s := S4096) (k1_off1 L) S128.size (Facts₀.k1_off1_inb L)) (fun _ => rfl)
abbrev oRow : Memref sig .scVector .hbm S2x16 .f32 :=
  (oV.slice (Rect.unit (s := S32x2x16) (k1_off130 L) S1x2x16.size (Facts₀.k1_off130_inb L)) (fun _ => rfl)).squeeze S2x16 squeezes_S1x2x16_S2x16

/-- The targets' fetch. -/
theorem fetch_wp (q : PosShare TreeShare) (fg : Buf (Elt F) ((gV).view.loc (thr d L))) (ft : Buf (Elt F) ((tV).view.loc (thr d L)))
    (O : CellTallies nD τ sig (HIx 1)) (W : Waits sig (HIx 1)) :
    iprop(Transfers.MayWaits (thr d L) (default : HIx 1) O ∗ ((tV).view.loc (thr d L) ↦{fullShare} ft : sProp 𝕄) ∗ ((gV).view.loc (thr d L) ↦{q} fg)
        ∗ semVal (thr d L, .dma cc1_scoped0.sem) 0 ∗ owes (thr d L) O W)
      ⊢ wp frame (wpE (defs₀ (F := F)) 𝒱₀ (thr d L) none) Set.univ (Tile.fetch L gV tV (Memref.isWhole_whole _) cc1_scoped0)
          fun _ => iprop(((tV).view.loc (thr d L) ↦{fullShare} (View.write (Elt F) (tV).view ft ((gRow L).view.read (Elt F) fg) Finset.univ) : sProp 𝕄) ∗ ((gV).view.loc (thr d L) ↦{q} fg)
            ∗ semVal (thr d L, .dma cc1_scoped0.sem) 0 ∗ owed d L O W) := by
  unfold Tile.fetch
  iintro ⟨#Hmw, Ht, Hg, Hs, HO⟩
  sl_exec
  rw [wp_ret]
  imodintro
  isplitl [Ht]; · iexact Ht
  isplitl [Hg]; · iexact Hg
  isplitl [Hs]; · iexact Hs
  iexists _; isplitr
  swap; · iexact HO
  ipureintro; intro p hp
  rcases Finset.mem_insert.mp hp with hp | hp; · exact .inr (hp ▸ rfl)
  exact .inl hp

/-- What the fetch leaves is the tile's targets. -/
theorem tgts_fetched (fg : Buf (Elt F) ((gV).view.loc (thr d L))) (ft : Buf (Elt F) ((tV).view.loc (thr d L))) :
    Tgts d L fg (View.write (Elt F) (tV).view ft ((gRow L).view.read (Elt F) fg) Finset.univ) := by
  intro i
  rw [View.write_whole_univ]
  show fg ((Rect.unit (s := S4096) (k1_off1 L) S128.size (Facts₀.k1_off1_inb L)).emb i) = _
  refine congrArg fg ?_
  have hw := wid_lt L
  have hi : (i 0).val < 128 := (i 0).isLt
  have e : (k1_off1 L) 0 = 128 * wid L := base_toNat L
  funext x
  match x with
  | 0 =>
    refine Fin.ext ?_
    show _ = (128 * wid L + (i 0).val) % 4096
    simp [Rect.emb, Rect.unit, e]
    omega

/-- The two vectors as one pair of rows. -/
def pairAt (s : FVec F S16 .f32 × FVec F S16 .f32) (x : S2x16.Idx) : F .f32 := if (x 0).val = 0 then s.1 (ix1 (x 1)) else s.2 (ix1 (x 1))

/-- Row 0 of the pair. -/
theorem piece0 (s : FVec F S16 .f32 × FVec F S16 .f32) (y : S1x16.Idx) :
    shapeCast S1x16 s.1 shapeCasts_S16_S1x16 y = pairAt s ((Rect.unit (s := S2x16) ![0, 0] S1x16.size inb_S2x16_S1x16_0_0).emb y) := by
  have hy : (y 0).val < 1 := (y 0).isLt
  have e : ((Rect.unit (s := S2x16) ![0, 0] S1x16.size inb_S2x16_S1x16_0_0).emb y) = (ix2 (0 : Fin 2) (y 1) : S2x16.Idx) := by
    funext a
    match a with
    | 0 => exact Fin.ext (by simp [Rect.emb, Rect.unit]; omega)
    | 1 => exact Fin.ext (by simp [Rect.emb, Rect.unit])
  rw [e]
  refine Eq.trans (congrArg (shapeCast S1x16 s.1 shapeCasts_S16_S1x16) (eq_ix2 y)) ?_
  exact shapeCast_a_1a_apply (α := F .f32) s.1 shapeCasts_S16_S1x16 (y 0) (y 1)

/-- Row 1 of the pair. -/
theorem piece1 (s : FVec F S16 .f32 × FVec F S16 .f32) (y : S1x16.Idx) :
    shapeCast S1x16 s.2 shapeCasts_S16_S1x16 y = pairAt s ((Rect.unit (s := S2x16) ![1, 0] S1x16.size inb_S2x16_S1x16_1_0).emb y) := by
  have hy : (y 0).val < 1 := (y 0).isLt
  have e : ((Rect.unit (s := S2x16) ![1, 0] S1x16.size inb_S2x16_S1x16_1_0).emb y) = (ix2 (1 : Fin 2) (y 1) : S2x16.Idx) := by
    funext a
    match a with
    | 0 => exact Fin.ext (by simp [Rect.emb, Rect.unit]; omega)
    | 1 => exact Fin.ext (by simp [Rect.emb, Rect.unit])
  rw [e]
  refine Eq.trans (congrArg (shapeCast S1x16 s.2 shapeCasts_S16_S1x16) (eq_ix2 y)) ?_
  exact shapeCast_a_1a_apply (α := F .f32) s.2 shapeCasts_S16_S1x16 (y 0) (y 1)

/-- The result row after the write-out. -/
theorem out_apply (s : FVec F S16 .f32 × FVec F S16 .f32) (fo : Buf (Elt F) ((oRow L).view.loc (thr d L))) (fa : Buf (Elt F) ((aV).view.loc (thr d L)))
    (x : S2x16.Idx) :
    (oRow L).view.writes (Elt F) fo [⟨Rect.whole S2x16, ReadAs.same.apply (View.read (Elt F) aV.view (aV.view.writes (Elt F) fa
        [⟨Rect.unit ![1, 0] S1x16.size inb_S2x16_S1x16_1_0, shapeCast S1x16 s.2 shapeCasts_S16_S1x16⟩,
          ⟨Rect.unit ![0, 0] S1x16.size inb_S2x16_S1x16_0_0, shapeCast S1x16 s.1 shapeCasts_S16_S1x16⟩]))⟩] ((oRow L).view.emb x)
      = pairAt s x := by
  have h1 := View.read_writes_cons_emb (oRow L).view fo (Rect.whole S2x16) (ReadAs.same.apply (View.read (Elt F) aV.view (aV.view.writes (Elt F) fa
        [⟨Rect.unit ![1, 0] S1x16.size inb_S2x16_S1x16_1_0, shapeCast S1x16 s.2 shapeCasts_S16_S1x16⟩,
          ⟨Rect.unit ![0, 0] S1x16.size inb_S2x16_S1x16_0_0, shapeCast S1x16 s.1 shapeCasts_S16_S1x16⟩]))) [] x
  have h2 := View.read_writes_apply_of_pieces (Val := Elt F) aV.view fa (pairAt s)
    [⟨Rect.unit ![1, 0] S1x16.size inb_S2x16_S1x16_1_0, shapeCast S1x16 s.2 shapeCasts_S16_S1x16⟩,
          ⟨Rect.unit ![0, 0] S1x16.size inb_S2x16_S1x16_0_0, shapeCast S1x16 s.1 shapeCasts_S16_S1x16⟩] ?_ x ?_
  · rw [show (Rect.whole S2x16).emb x = x from Rect.emb_whole_apply S2x16 x] at h1
    exact ((View.read_apply _ _).trans (cast_eq _ _)).symm.trans (h1.trans h2)
  · intro p hp y
    rcases List.mem_cons.mp hp with rfl | hp'
    · exact piece1 s y
    · obtain rfl := List.mem_singleton.mp hp'
      exact piece0 s y
  · have hx : (x 0).val < 2 := (x 0).isLt
    have hx1 : (x 1).val < 16 := (x 1).isLt
    by_cases h0 : (x 0).val = 0
    · have hm : x ∈ (Rect.unit (s := S2x16) ![0, 0] S1x16.size inb_S2x16_S1x16_0_0).set := by
        rw [Rect.mem_set_unit]
        intro a
        match a with
        | 0 => exact ⟨Nat.zero_le _, by show (x 0).val < 0 + 1; omega⟩
        | 1 => exact ⟨Nat.zero_le _, by show (x 1).val < 0 + 16; omega⟩
      exact ⟨_, List.mem_cons_of_mem _ List.mem_cons_self, hm⟩
    · have hm : x ∈ (Rect.unit (s := S2x16) ![1, 0] S1x16.size inb_S2x16_S1x16_1_0).set := by
        rw [Rect.mem_set_unit]
        intro a
        match a with
        | 0 => exact ⟨by show 1 ≤ (x 0).val; omega, by show (x 0).val < 1 + 1; omega⟩
        | 1 => exact ⟨Nat.zero_le _, by show (x 1).val < 0 + 16; omega⟩
      exact ⟨_, List.mem_cons_self, hm⟩

/-- The two vectors written out. -/
theorem finish_wp (s : FVec F S16 .f32 × FVec F S16 .f32) (fo : Buf (Elt F) ((oRow L).view.loc (thr d L))) (fa : Buf (Elt F) ((aV).view.loc (thr d L)))
    (O : CellTallies nD τ sig (HIx 1)) (W : Waits sig (HIx 1)) :
    iprop(Transfers.MayWaits (thr d L) (default : HIx 1) O ∗ ((aV).view.loc (thr d L) ↦{fullShare} fa : sProp 𝕄)
        ∗ ((oRow L).view.loc (thr d L) ↦[(oRow L).view.set]{fullShare} fo)
        ∗ semVal (thr d L, .dma cc1_scoped1.sem) 0 ∗ owes (thr d L) O W)
      ⊢ wp frame (wpE (defs₀ (F := F)) 𝒱₀ (thr d L) none) Set.univ (Tile.finish L oV aV (Memref.isWhole_whole _) cc1_scoped1 s)
          fun _ => iprop((∃ f : Buf (Elt F) ((aV).view.loc (thr d L)), (aV).view.loc (thr d L) ↦{fullShare} f : sProp 𝕄)
            ∗ (∃ f : Buf (Elt F) ((oRow L).view.loc (thr d L)), ⌜∀ x, f ((oRow L).view.emb x) = pairAt s x⌝ ∗ (oRow L).view.loc (thr d L) ↦[(oRow L).view.set]{fullShare} f)
            ∗ semVal (thr d L, .dma cc1_scoped1.sem) 0 ∗ owed d L O W) := by
  unfold Tile.finish
  iintro ⟨#Hmw, Ha, Ho, Hs, HO⟩
  sl_exec
  rw [wp_ret]
  imodintro
  isplitl [Ha]; · iexists _; iexact Ha
  isplitl [Ho]
  · iexists _
    isplitr
    swap
    · iexact Ho
    ipureintro
    intro x
    delta finish_wp.sl.dma4 finish_wp.sl.Ha_2
    exact out_apply d L s fo fa x
  isplitl [Hs]; · iexact Hs
  iexists _; isplitr
  swap; · iexact HO
  ipureintro; intro p hp
  rcases Finset.mem_insert.mp hp with hp | hp; · exact .inr (hp ▸ rfl)
  exact .inl hp

end Cert.KernelIdeal.Sc
end
-- ==== Proof.KITask.lean ====
/- A tile's task, from its pieces of the operands to its row of the results. -/
module

public import proofs.«01_k».proof.Proof.KIEnds

@[expose] public section

set_option maxRecDepth 16384

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (d : Dev nD) (L : grid1.Coords)

/-! ## The pieces a tile works on -/

/-- The rows of the results: row `n` is tile `n`'s. -/
def oRowSet (n : ℕ) : Finset S32x2x16.Idx := Finset.univ.filter fun i => (i 0).val = n

/-- Entry `(a, b)` of the tile's row. -/
theorem oRow_emb (a : Fin 2) (b : Fin 16) : (oRow L).view.emb (ix2 a b) = (ix3 (⟨wid L, wid_lt L⟩ : Fin 32) a b : S32x2x16.Idx) := by
  show (Rect.unit (s := S32x2x16) (k1_off130 L) S1x2x16.size (Facts₀.k1_off130_inb L)).emb (Shape.reshapeEquiv _ (ix2 a b)) = _
  rw [reshapeEquiv_ix2_1ab]
  have e : (k1_off130 L) 0 = wid L := by
    have h0 : (L 0).val < 2 := (L 0).isLt
    have h1 : (L 1).val < 16 := (L 1).isLt
    show (Scalar.addi (Scalar.muli (BitVec.ofNat 32 (L 1).val) 2#32) (BitVec.ofNat 32 (L 0).val)).toNat = _
    unfold wid
    simp only [Scalar.muli, Scalar.addi, IntOp.addi, IntOp.muli, BitVec.toNat_mul, BitVec.toNat_add, BitVec.toNat_ofNat]
    omega
  have e1 : (k1_off130 L) 1 = 0 := rfl
  have e2 : (k1_off130 L) 2 = 0 := rfl
  funext x
  match x with
  | 0 => exact Fin.ext (by simp [Rect.emb, Rect.unit, e])
  | 1 => exact Fin.ext (by simp [Rect.emb, Rect.unit, e1])
  | 2 => exact Fin.ext (by simp [Rect.emb, Rect.unit, e2])

/-- The entries of a tile's row of the results, -/
theorem set_oRow : (oRow L).view.set = oRowSet (wid L) := by
  ext i
  unfold oRowSet
  rw [Finset.mem_filter]
  constructor
  · intro h
    obtain ⟨x, -, rfl⟩ := Finset.mem_map.mp h
    refine ⟨Finset.mem_univ _, ?_⟩
    rw [eq_ix2 x]
    exact congrArg (fun z : S32x2x16.Idx => (z 0).val) (oRow_emb L (x 0) (x 1))
  · intro h
    refine Finset.mem_map.mpr ⟨ix2 (i 1) (i 2), Finset.mem_univ _, ?_⟩
    refine (oRow_emb L (i 1) (i 2)).trans ?_
    conv_rhs => rw [eq_ix3 i]
    congr 1
    exact Fin.ext h.2.symm

/-- and holding the row is holding them. -/
theorem pts_oRow (f : Buf (Elt F) (oLoc d)) :
    ((oRow L).view.loc (thr d L) ↦[(oRow L).view.set]{fullShare} f : sProp 𝕄) = oLoc d ↦[oRowSet (wid L)]{fullShare} f := by
  rw [set_oRow]

/-- Every tile's results. -/
def outV (fx : FVec F S4096x16384 .f32) (fg : IVec S4096 32) : FVec F S32x2x16 .f32 :=
  fun i => pairAt (Tile.scaled (tileV fx fg (i 0).val)) (ix2 (i 1) (i 2))

/-! ## The tile's semaphores and buffers -/

abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

/-- A tile's three counters, taken out of all that it owns. -/
theorem ownSems0_V :
    (ownSems0 (thr d L) : sProp 𝕄)
      = iprop(semVal (cAcell d (cV L) (jV L)) 0 ∗ semVal (cBcell d (cV L) (jV L)) 0 ∗ semVal (cCcell d (cV L) (jV L)) 0
          ∗ bigSep ((((ownCells (thr d L)).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- A tile's three buffers, taken out of all that it owns. -/
theorem ownBufs_V :
    (ownBufs (thr d L) : sProp 𝕄)
      = iprop((∃ f, tLoc d L ↦{fullShare} f) ∗ (∃ f, bLoc d L ↦{fullShare} f) ∗ (∃ f, aLoc d L ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
    Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The task -/

/-- The task of a tile: from shares of the table and the targets and its row of the results, the row at what the tile
    adds up. -/
theorem tile_body (q q' : PosShare TreeShare) (fx : Buf (Elt F) (xLoc d)) (fg : Buf (Elt F) (gLoc d)) (hg : ∀ i : S4096.Idx, (fg i : BitVec 32).toNat < 16384)
    (fo : Buf (Elt F) (oLoc d)) (O : CellTallies nD τ sig (HIx 1)) (W : Waits sig (HIx 1)) (hO : ∀ g, O g none = 0) :
    iprop(levAts (K (F := F)).L (K (F := F)).lev ∗ emp
        ∗ ((xLoc d ↦{q} fx : sProp 𝕄) ∗ (gLoc d ↦{q'} fg) ∗ oLoc d ↦[oRowSet (wid L)]{fullShare} fo)
        ∗ scopedBufs (thr d L) ∗ scopedSems0 (thr d L) ∗ owes (thr d L) O W)
      ⊢ wp frame (wpE (defs₀ (F := F)) 𝒱₀ (thr d L) none) Set.univ
          (cc1__sc_gather L xV (Memref.isWhole_whole _) gV (Memref.isWhole_whole _) oV (Memref.isWhole_whole _)
            tV (Memref.isWhole_whole _) bV (Memref.isWhole_whole _) aV (Memref.isWhole_whole _) cc1_scratch3 cc1_scoped0 cc1_scoped1)
          fun _ => iprop(((xLoc d ↦{q} fx : sProp 𝕄) ∗ (gLoc d ↦{q'} fg) ∗ oLoc d ↦[oRowSet (wid L)]{fullShare} outV fx fg)
            ∗ scopedBufs (thr d L) ∗ scopedSems0 (thr d L)
            ∗ owed d L O W) := by
  rw [Tile.prog_eq]
  unfold Tile.prog
  rw [(K (F := F)).scopedBufs_V facts d (cV L) (jV L), SparseCore.Cfg.scopedSems0_V (Val := Elt F) d (cV L) (jV L), ownSems0_V, ownBufs_V]
  iintro ⟨#Hlv, -, ⟨Hx, Hg, Ho⟩, ⟨⟨%ft, Ht⟩, Hb, ⟨%fa, Ha⟩, Hbufs⟩, ⟨HsA, HsB, HsC, Hsems⟩, HO⟩
  ihave #Hmw := (show levAts (K (F := F)).L (K (F := F)).lev ⊢ Transfers.MayWaits (thr d L) (default : HIx 1) O from
    (K (F := F)).mayWaits_none (thr := thr d L) hO) $$ Hlv
  ihave Ho' := (BIBase.Entails.of_eq (pts_oRow (F := F) d L _).symm) $$ Ho
  rw [wp_bind]
  ihave Hw := (fetch_wp d L q' fg ft O W) $$ [Ht Hg HsB HO]
  · isplitr; · iexact Hmw
    isplitl [Ht]; · iexact Ht
    isplitl [Hg]; · iexact Hg
    isplitl [HsB]; · iexact HsB
    iexact HO
  iapply (wp_wand frame _ _) $$ Hw
  iintro %_ ⟨Ht, Hg, HsB, HO⟩
  rw [wp_bind]
  ihave Hw := (rounds_wp d L q fx fg hg _ (tgts_fetched d L fg ft) (Tile.zeros, Tile.zeros) O W) $$ [Ht Hb Hx HsA HO]
  · isplitr; · iexact Hmw
    isplitl [Ht]; · iexact Ht
    isplitl [Hb]; · iexact Hb
    isplitl [Hx]; · iexact Hx
    isplitl [HsA]; · iexact HsA
    iexact HO
  iapply (wp_wand frame _ _) $$ Hw
  iintro %s ⟨%hs, -, Ht, Hb, Hx, HsA, %W', %hW', HO⟩
  ihave Hw := (finish_wp d L (Tile.scaled s) fo fa O W') $$ [Ha Ho' HsC HO]
  · isplitr; · iexact Hmw
    isplitl [Ha]; · iexact Ha
    isplitl [Ho']; · iexact Ho'
    isplitl [HsC]; · iexact HsC
    iexact HO
  iapply (wp_wand frame _ _) $$ Hw
  iintro %_ ⟨Ha, ⟨%f, %hf, Ho'⟩, HsC, %W'', %hW'', HO⟩
  isplitl [Hx Hg Ho']
  · isplitl [Hx]; · iexact Hx
    isplitl [Hg]; · iexact Hg
    have e : ((oRow L).view.loc (thr d L) ↦[(oRow L).view.set]{fullShare} f : sProp 𝕄) = oLoc d ↦[oRowSet (wid L)]{fullShare} outV fx fg := by
      rw [pts_oRow]
      refine pointsTo_congr fun i hi => ?_
      have hi0 : (i 0).val = wid L := (Finset.mem_filter.mp hi).2
      have ei : (oRow L).view.emb (ix2 (i 1) (i 2)) = i := by
        refine (oRow_emb L (i 1) (i 2)).trans ?_
        conv_rhs => rw [eq_ix3 i]
        congr 1
        exact Fin.ext hi0.symm
      have h1 := hf (ix2 (i 1) (i 2))
      rw [ei, hs] at h1
      refine h1.trans ?_
      unfold outV
      rw [hi0]
      rfl
    iapply (BIBase.Entails.of_eq e); iexact Ho'
  isplitl [Ht Hb Ha Hbufs]
  · isplitl [Ht]; · iexists _; iexact Ht
    isplitl [Hb]; · iexact Hb
    isplitl [Ha]; · iexact Ha
    iexact Hbufs
  isplitl [HsA HsB HsC Hsems]
  · isplitl [HsA]; · iexact HsA
    isplitl [HsB]; · iexact HsB
    isplitl [HsC]; · iexact HsC
    iexact Hsems
  iexists W''
  isplitr
  · ipureintro; intro p hp
    rcases hW'' p hp with h1 | h1
    · exact hW' p h1
    · exact .inr h1
  iexact HO

end Cert.KernelIdeal.Sc
end
-- ==== Proof.KIShare.lean ====
/- How the SparseCore call's operands go out to the tiles and come back. -/
module

public import proofs.«01_k».proof.Proof.KITask
public import Idealize.ShloMosaic.Lib.Transfers

@[expose] public section

set_option maxRecDepth 16384

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (d : Dev nD)

/-! ## A tile's part -/

/-- The tile of a SparseCore and a subcore. -/
def tileOf (c : Fin 2) (i : Fin 16) : Fin 32 := ⟨i.val * 2 + c.val, by omega⟩

/-- A tile's share of what all of them read. -/
def tileShare (n : Fin 32) : PosShare TreeShare := Transfers.dealOf fullShare (Finset.univ : Finset (Fin 32)) n

/-- A tile's part of the call: shares of the table and the targets, and its row of the results at `fo`. -/
def part (fo : Buf (Elt F) (oLoc d)) (n : Fin 32) : sProp 𝕄 :=
  iprop((xLoc d ↦{tileShare n} m (xLoc d) : sProp 𝕄) ∗ (gLoc d ↦{tileShare n} m (gLoc d)) ∗ oLoc d ↦[oRowSet n.val]{fullShare} fo)

/-- The results that all tiles leave. -/
def scOut : Buf (Elt F) (oLoc d) := outV (m (xLoc d)) (m (gLoc d))

/-- The tiles' rows of the results are disjoint, -/
theorem oRows_disjoint : ∀ a ∈ (Finset.univ : Finset (Fin 32)), ∀ b ∈ (Finset.univ : Finset (Fin 32)), a ≠ b → Disjoint (oRowSet a.val) (oRowSet b.val) := by
  intro a _ b _ h
  rw [Finset.disjoint_left]
  intro i hi hj
  exact h (Fin.ext ((Finset.mem_filter.mp hi).2.symm.trans (Finset.mem_filter.mp hj).2))

/-- and together they are all of the results. -/
theorem oRows_cover : (Finset.univ : Finset (Fin 32)).biUnion (fun n => oRowSet n.val) = Finset.univ := by
  ext i
  simp only [Finset.mem_biUnion, Finset.mem_univ, true_and, iff_true]
  exact ⟨⟨(i 0).val, (i 0).isLt⟩, Finset.mem_filter.mpr ⟨Finset.mem_univ _, rfl⟩⟩

/-- The three arrays, whole, are the tiles' parts. -/
theorem parts_eq (fo : Buf (Elt F) (oLoc d)) :
    iprop((xLoc d ↦{fullShare} m (xLoc d) : sProp 𝕄) ∗ (gLoc d ↦{fullShare} m (gLoc d)) ∗ oLoc d ↦{fullShare} fo)
      = bigSep Finset.univ (part m d fo) := by
  unfold part tileShare
  rw [bigSep_sep', bigSep_sep', ← Transfers.pointsTo_deal _ ⟨0, Finset.mem_univ _⟩, ← Transfers.pointsTo_deal _ ⟨0, Finset.mem_univ _⟩,
    ← pointsTo_biUnion Finset.univ (ℓ := oLoc d) (fun n : Fin 32 => oRowSet n.val) oRows_disjoint, oRows_cover]

/-- All tiles, SparseCore by SparseCore. -/
theorem bigSep_tiles (Φ : Fin 32 → sProp 𝕄) :
    bigSep Finset.univ Φ = bigSep Finset.univ fun c : Fin 2 => bigSep Finset.univ fun i : Fin 16 => Φ (tileOf c i) := by
  rw [bigSep_univ_comm, ← bigSep_univ_prod (fun p : Fin 16 × Fin 2 => Φ (tileOf p.2 p.1)),
    bigSep_univ_equiv (finProdFinEquiv (m := 16) (n := 2)) Φ]
  refine bigSep_congr fun p _ => congrArg Φ (Fin.ext ?_)
  show p.2.val + 2 * p.1.val = p.1.val * 2 + p.2.val
  omega

/-! ## What the handshakes carry -/

/-- A SparseCore takes its sixteen tiles' parts and hands each its own; they come back with the results in place. -/
def P : (K (F := F)).Pay (nD := nD) (Val := Elt F) (Name := ℕ) (U := UU) where
  st := fun q d c => match q with | 0 => bigSep Finset.univ fun i : Fin 16 => part m d (m (oLoc d)) (tileOf c i)
  dn := fun q d c => match q with | 0 => bigSep Finset.univ fun i : Fin 16 => part m d (scOut m d) (tileOf c i)
  go := fun q d c i => match q with | 0 => part m d (m (oLoc d)) (tileOf c i)
  td := fun q d c i => match q with | 0 => part m d (scOut m d) (tileOf c i)
  x := fun _ _ => iprop(emp)

instance part_storable (fo : Buf (Elt F) (oLoc d)) (n : Fin 32) : BI.Storable (upEmb : UEmb _ 𝕄) (part m d fo n) :=
  (inferInstance : BI.Storable (upEmb : UEmb _ 𝕄)
    iprop((xLoc d ↦{tileShare n} m (xLoc d) : sProp 𝕄) ∗ (gLoc d ↦{tileShare n} m (gLoc d)) ∗ oLoc d ↦[oRowSet n.val]{fullShare} fo))

instance P_storable : (P (F := F) m).IsStorable where
  st q d c := match q with | 0 => (inferInstance : BI.Storable (upEmb : UEmb _ 𝕄) (bigSep Finset.univ fun i : Fin 16 => part m d (m (oLoc d)) (tileOf c i)))
  dn q d c := match q with | 0 => (inferInstance : BI.Storable (upEmb : UEmb _ 𝕄) (bigSep Finset.univ fun i : Fin 16 => part m d (scOut m d) (tileOf c i)))
  go q d c i := match q with | 0 => part_storable m d _ _
  td q d c i := match q with | 0 => part_storable m d _ _

/-- A core's part of the call is its tiles' parts, before and after. -/
theorem vecSplit : (K (F := F)).VecSplit' (P m) 0 := by
  intro d c
  show (bigSep Finset.univ fun i : Fin 16 => part m d (m (oLoc d)) (tileOf c i)) ⊢ |={Set.univ}=> iprop(
      (bigSep Finset.univ fun i : Fin 16 => part m d (m (oLoc d)) (tileOf c i))
      ∗ ((bigSep Finset.univ fun i : Fin 16 => part m d (scOut m d) (tileOf c i))
          -∗ (bigSep Finset.univ fun i : Fin 16 => part m d (scOut m d) (tileOf c i))))
  iintro H; imodintro
  isplitl [H]; · iexact H
  iintro H; iexact H

/-! ## A tile's obligation -/

/-- The tile's place in the mesh. -/
def coordsV (c : Fin (grid1.bound 0)) (s : Fin (grid1.bound 1)) : grid1.Coords :=
  fun | 0 => c | 1 => s | ⟨_ + 2, h⟩ => absurd h (Nat.not_lt.2 (Nat.le_add_left _ _))

/-- The program that a tile runs. -/
theorem defs₀_vector (c : Fin τ.nSC) (s : Fin τ.nSub) :
    defs₀ (F := F) (.scVector c s) 1 ()
      = SparseCore.onTile hcore1 hsub1 (fun c s => cc1__sc_gather (coordsV c s) xV (Memref.isWhole_whole _) gV (Memref.isWhole_whole _) oV (Memref.isWhole_whole _)
            tV (Memref.isWhole_whole _) bV (Memref.isWhole_whole _) aV (Memref.isWhole_whole _) cc1_scratch3 cc1_scoped0 cc1_scoped1) ⟨⟩ c s := rfl

/-- The record of waits, weakened to what the launch asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch memory's targets name columns. -/
def TgtsOK : Prop := ∀ (d : Dev nD) (i : S4096.Idx), (m (gLoc d) i : BitVec 32).toNat < 16384

/-- The task of a tile, from its part of the call to the same part with its row of the results in place. -/
theorem tile_part (hpre : TgtsOK m) (L : grid1.Coords) (n : Fin 32) (hn : wid L = n.val) (O : CellTallies nD τ sig (HIx 1)) (W : Waits sig (HIx 1))
    (hO : ∀ g, O g none = 0) (q : Fin 1) :
    iprop(levAts (K (F := F)).L (K (F := F)).lev ∗ emp ∗ part m d (m (oLoc d)) n
        ∗ scopedBufs (thr d L) ∗ scopedSems0 (thr d L) ∗ owes (thr d L) O W)
      ⊢ wp frame (wpE (defs₀ (F := F)) 𝒱₀ (thr d L) none) Set.univ
          (cc1__sc_gather L xV (Memref.isWhole_whole _) gV (Memref.isWhole_whole _) oV (Memref.isWhole_whole _)
            tV (Memref.isWhole_whole _) bV (Memref.isWhole_whole _) aV (Memref.isWhole_whole _) cc1_scratch3 cc1_scoped0 cc1_scoped1)
          fun _ => iprop(part m d (scOut m d) n ∗ scopedBufs (thr d L) ∗ scopedSems0 (thr d L)
            ∗ ∃ W', ⌜∀ p ∈ W', p ∈ W ∨ p.2 = none ∨ p.2 = some q⌝ ∗ owes (thr d L) O W') := by
  have h := tile_body d L (tileShare n) (tileShare n) (m (xLoc d)) (m (gLoc d)) (hpre d) (m (oLoc d)) O W hO
  rw [hn] at h
  exact h.trans (wp_mono frame _ _ fun _ => obl_post)

attribute [local irreducible] cc1__sc_gather in
/-- Every tile meets its part of the call. -/
theorem tileObl (hpre : TgtsOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_part m d hpre (coordsV ⟨_, hci.1⟩ ⟨_, hci.2⟩) (tileOf c i) rfl O W hO 0
  have e1 : (P m).go 0 d c i = part m d (m (oLoc d)) (tileOf c i) := rfl
  have e2 : (P m).td 0 d c i = part m d (scOut m d) (tileOf c i) := rfl
  rw [e1, e2]
  have e3 : thr d (coordsV ⟨_, hci.1⟩ ⟨_, hci.2⟩) = V d ((K (F := F)).core 0 c) ((K (F := F)).sub 0 i) := rfl
  have e4 : (P m).x 0 (V d ((K (F := F)).core 0 c) ((K (F := F)).sub 0 i)) = iprop(emp) := rfl
  rw [e4]
  refine BI.Entails.trans ?_ (BI.Entails.trans h ?_)
  · exact BI.Entails.refl _
  · refine wp_mono frame _ _ fun _ => ?_
    exact BI.Entails.refl _

end Cert.KernelIdeal.Sc
end
-- ==== Proof.KITc.lean ====
/- The dense kernel on the TensorCore: what its body does at one grid point. -/
module

public import proofs.«01_k».proof.Proof.KITask
public import proofs.«01_k».proof.Proof.Gen.KernelIdeal.Launch
public import proofs.«01_k».proof.Proof.Gen.KernelIdeal.Points
public import proofs.«01_k».proof.Proof.Gen.KernelIdeal.Skeleton
public import Idealize.ShloMosaic.Lib.VecWindow

@[expose] public section

set_option maxRecDepth 16384

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- The body starts its running sum at the first grid point. -/
abbrev startsAt (i : grid0.Coords) : Prop := (Scalar.cmpi .ne (Scalar.extui (Scalar.cmpi .eq (BitVec.ofNat 32 (i 0).val) 0#32)) 0#32) = 1#1

/-- That point is the one numbered zero. -/
theorem startsAt_iff (t : Fin cfg0.N) : startsAt (grid0.coords t) ↔ t.val = 0 := by
  have ht : t.val < 16 := Nat.lt_of_lt_of_eq t.isLt N_0
  have e0 : (grid0.coords t 0).val = t.val / 1 % 16 := Pipeline.Grid.coords_val t 0 (by decide) rfl
  simp only [startsAt, e0, Nat.div_one, Nat.mod_eq_of_lt ht]
  generalize t.val = n at ht
  interval_cases n <;> decide

/-- A word of scalar memory, as the block the window holds. -/
abbrev cellOfWord (z : F .f32) : Vec F S1x1 .f32 := fun _ => z

variable (d : Dev nD) (i : grid0.Coords)
  (M1 : Memref sig .tc .vmem S1x1x256 .i32) (h1 : M1.IsWhole) (M2 : Memref sig .tc .vmem S256x16384 .f32) (h2 : M2.IsWhole)
  (M3 : Memref sig .tc .smem S1x1 .f32) (h3 : M3.IsWhole) (x1 : Vec F S1x1x256 .i32) (x2 : Vec F S256x16384 .f32)

/-- At a later point the body adds the block's part to the running sum. -/
theorem tc_later (hc : ¬ startsAt i) (z : F .f32) :
    iprop((owns (T d) M1 fullShare x1 : sProp 𝕄) ∗ owns (T d) M2 fullShare x2 ∗ owns (T d) M3 fullShare (cellOfWord z))
      ⊢ wp frame (wpE (defs₀ (F := F)) 𝒱₀ (T d) none) Set.univ (cc0__tc_body i M1 h1 M2 h2 M3 h3) fun _ =>
        iprop(owns (T d) M1 fullShare x1 ∗ owns (T d) M2 fullShare x2 ∗ owns (T d) M3 fullShare (cellOfWord (k0_pay1 x2 x1 z))) := by
  simp only [cc0__tc_body_eq_skeleton]; unfold cc0__tc_body_skel
  unfold owns
  iintro ⟨⟨%f0, %hf0, H0⟩, ⟨%f1, %hf1, H1⟩, ⟨%f2, %hf2, H2⟩⟩
  sl_exec (disch := first | sl_exact hc)
  sl_step
  delta tc_later.sl.r
  isplitl [H0]
  · iexists f0; isplitr; · ipureintro; exact hf0
    iexact H0
  isplitl [H1]
  · iexists f1; isplitr; · ipureintro; exact hf1
    iexact H1
  iexists _; isplitr
  swap; · iexact H2
  ipureintro
  have e1 := View.readAt_full (Val := Elt F) M1.view f0 inb_S1x1x256_S1x1x256_0_0_0
  have e2 := View.readAt_full (Val := Elt F) M2.view f1 inb_S256x16384_S256x16384_0_0
  have e3 := View.readAt_full (Val := Elt F) M3.view f2 inb_S1x1_S1x1_0_0
  refine (View.read_writes_full M3.view _ _ _ _).trans ?_
  rw [e1, e2, e3, hf0, hf1, hf2]
  rfl

/-- At the first point the body puts the block's part, whatever the word held. -/
theorem tc_first (hc : startsAt i) (x3 : Vec F S1x1 .f32) :
    iprop((owns (T d) M1 fullShare x1 : sProp 𝕄) ∗ owns (T d) M2 fullShare x2 ∗ owns (T d) M3 fullShare x3)
      ⊢ wp frame (wpE (defs₀ (F := F)) 𝒱₀ (T d) none) Set.univ (cc0__tc_body i M1 h1 M2 h2 M3 h3) fun _ =>
        iprop(owns (T d) M1 fullShare x1 ∗ owns (T d) M2 fullShare x2
          ∗ owns (T d) M3 fullShare (cellOfWord (k0_pay1 x2 x1 (Scalar.ofBits .f32 0x00000000#32)))) := by
  simp only [cc0__tc_body_eq_skeleton]; unfold cc0__tc_body_skel
  unfold owns
  iintro ⟨⟨%f0, %hf0, H0⟩, ⟨%f1, %hf1, H1⟩, ⟨%f2, %hf2, H2⟩⟩
  sl_exec (disch := first | sl_exact hc)
  sl_step
  isplitl [H0]
  · iexists f0; isplitr; · ipureintro; exact hf0
    iexact H0
  isplitl [H1]
  · iexists f1; isplitr; · ipureintro; exact hf1
    iexact H1
  iexists _; isplitr
  swap; · iexact H2
  ipureintro
  have e1 := View.readAt_full (Val := Elt F) M1.view f0 inb_S1x1x256_S1x1x256_0_0_0
  have e2 := View.readAt_full (Val := Elt F) M2.view f1 inb_S256x16384_S256x16384_0_0
  refine (View.read_writes_full M3.view _ _ _ _).trans ?_
  rw [e1, e2, hf0, hf1]
  rfl

end Cert.KernelIdeal.Sc
end
-- ==== Proof.KIRegion.lean ====
/- The dense kernel's grid: the running sum point by point, and the whole call on the TensorCore. -/
module

public import proofs.«01_k».proof.Proof.KITc
public import Idealize.ShloMosaic.Lib.Pipeline.Frame
public import Idealize.ShloMosaic.Lib.Pipeline.RegionsLoop

@[expose] public section

set_option maxRecDepth 16384

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- Block `t` of the array window `w` is cut from, when the buffers hold `Wv`. -/
def blkOf (Wv : Valuation τ sig (Elt F)) (w : Fin cfg0.W) (t : Fin cfg0.N) : ((cfg0.win w).xblock (cfg0.grid.coords t)).Idx → Elt F (cfg0.win w).elt :=
  ((cfg0.win w).blk t).view.read (Elt F) (Wv (Proc.devRef .tc (Pipeline.arrRef spec0 w)))

/-- The running sum after `n` grid points. -/
def accV (Wv : Valuation τ sig (Elt F)) : ℕ → F .f32
  | 0 => Scalar.ofBits .f32 0x00000000#32
  | n + 1 => if h : n < cfg0.N then k0_pay1 (blkOf Wv 1 ⟨n, h⟩) (blkOf Wv 0 ⟨n, h⟩) (accV Wv n) else accV Wv n

/-- The running sum, one grid point further. -/
theorem accV_succ (Wv : Valuation τ sig (Elt F)) (t : Fin cfg0.N) :
    accV Wv (t.val + 1) = k0_pay1 (blkOf Wv 1 t) (blkOf Wv 0 t) (accV Wv t.val) := by
  rw [accV, dif_pos t.isLt]

variable (Wv : Dev nD → Valuation τ sig (Elt F)) (b : ℕ)

/-- What the windows hold point by point, and what the core still owes throughout. -/
def tcDat (d : Dev nD) : Dat τ (Elt F) (HIx 1) ℕ UU ℕ cfg0 d where
  A w := Wv d (Proc.devRef .tc (Pipeline.arrRef spec0 w))
  after w t := match w with
    | ⟨0, _⟩ => blkOf (Wv d) 0 t
    | ⟨1, _⟩ => blkOf (Wv d) 1 t
    | ⟨2, _⟩ => cellOfWord (accV (Wv d) (t.val + 1))
  Φ _ := BI.emp
  q _ := fullShare
  owed _ := (K (F := F)).Otc d 0
  recorded _ := {p | (K (F := F)).lev (T d, p.1) p.2 ≤ b}

/-- The same, for the one pipeline of the program. -/
def tcDats (_ : Fin 1) (d : Dev nD) : Dat τ (Elt F) (HIx 1) ℕ UU ℕ cfg0 d := tcDat Wv b d

/-- At every point the first window holds that point's targets, -/
theorem before_tgt (d : Dev nD) (t : Fin cfg0.N) (e) : (tcDat Wv b d).before 0 t e = blkOf (Wv d) 0 t := by
  unfold Dat.before; rw [if_pos (fetch0_0 t)]; rfl

/-- and the second that point's rows of the table. -/
theorem before_x (d : Dev nD) (t : Fin cfg0.N) (e) : (tcDat Wv b d).before 1 t e = blkOf (Wv d) 1 t := by
  unfold Dat.before; rw [if_pos (fetch0_1 t)]; rfl

/-- Between two points the running sum stays in its word. -/
theorem before_acc (d : Dev nD) (t : Fin cfg0.N) (ht : t.val ≠ 0) (e) :
    (tcDat Wv b d).before 2 t e = cellOfWord (accV (Wv d) t.val) := by
  have hN : t.val < 16 := lt_of_lt_of_eq t.isLt N_0
  rw [Dat.before_out_kept _ 2 rfl t (by omega) (Bool.eq_false_iff.mpr fun h => by have := (flush0_2 _).mp h; dsimp only at this; omega)
    (fun _ => rfl) (fun _ _ => rfl)]
  show cellOfWord (accV (Wv d) (t.val - 1 + 1)) = _
  rw [Nat.sub_add_cancel (by omega)]

/-- The body does its step at every point. -/
theorem tc_body (d : Dev nD) : BodyObligation (tcDat Wv b d) (defs₀ (F := F)) 𝒱₀ none Set.univ := fun t => by
  rw [bigSep_W0, bigSep_W0]
  simp only [before_tgt, before_x]
  have hrow : defs₀ (F := F) .tc cfg0.body (cfg0.bodyArgs t (cfg0.slots t)) = bodyAt0 t := rfl
  rw [hrow, show (tcDat Wv b d).Φ t.succ = (tcDat Wv b d).Φ t.castSucc from rfl,
    show (tcDat Wv b d).owesAt none t.succ = (tcDat Wv b d).owesAt none t.castSucc from rfl]
  iintro ⟨HΦ, Ho, ⟨%e0, H0⟩, ⟨%e1, H1⟩, ⟨%e2, H2⟩⟩
  by_cases hs : startsAt (grid0.coords t)
  · have h0 := (startsAt_iff t).mp hs
    ihave Hw := (tc_first d (grid0.coords t) _ (hstage0_0 ((cfg0.slots t 0).cast nbuf0_0)) _ (hstage0_1 ((cfg0.slots t 1).cast nbuf0_1)) _
      (hstage0_2 ((cfg0.slots t 2).cast nbuf0_2)) (blkOf (Wv d) 0 t) (blkOf (Wv d) 1 t) hs _) $$ [H0 H1 H2]
    · isplitl [H0]; · iexact H0
      isplitl [H1]; · iexact H1
      iexact H2
    iapply (wp_wand frame _ _) $$ Hw
    iintro %_ ⟨H0, H1, H2⟩
    isplitl [HΦ]; · iexact HΦ
    isplitl [Ho]; · iexact Ho
    isplitl [H0]; · iexact H0
    isplitl [H1]; · iexact H1
    have e : cellOfWord (accV (Wv d) (t.val + 1)) = cellOfWord (k0_pay1 (blkOf (Wv d) 1 t) (blkOf (Wv d) 0 t) (Scalar.ofBits .f32 0x00000000#32)) := by
      rw [accV_succ, h0]; rfl
    rw [show (tcDat Wv b d).after 2 t = cellOfWord (accV (Wv d) (t.val + 1)) from rfl, e]
    iexact H2
  · have h0 : t.val ≠ 0 := fun h => hs ((startsAt_iff t).mpr h)
    rw [before_acc Wv b d t h0]
    ihave Hw := (tc_later d (grid0.coords t) _ (hstage0_0 ((cfg0.slots t 0).cast nbuf0_0)) _ (hstage0_1 ((cfg0.slots t 1).cast nbuf0_1)) _
      (hstage0_2 ((cfg0.slots t 2).cast nbuf0_2)) (blkOf (Wv d) 0 t) (blkOf (Wv d) 1 t) hs (accV (Wv d) t.val)) $$ [H0 H1 H2]
    · isplitl [H0]; · iexact H0
      isplitl [H1]; · iexact H1
      iexact H2
    iapply (wp_wand frame _ _) $$ Hw
    iintro %_ ⟨H0, H1, H2⟩
    isplitl [HΦ]; · iexact HΦ
    isplitl [Ho]; · iexact Ho
    isplitl [H0]; · iexact H0
    isplitl [H1]; · iexact H1
    rw [show (tcDat Wv b d).after 2 t = cellOfWord (accV (Wv d) (t.val + 1)) from rfl, accV_succ]
    iexact H2

/-- What the TensorCore owes is all of handshakes of SparseCore calls. -/
theorem Otc_none (d : Dev nD) (n : ℕ) (g : GSem nD τ sig) : (K (F := F)).Otc d n g none = 0 := by
  by_contra h
  have := SparseCore.Cfg.lev_of_Otc_pos (Nat.pos_of_ne_zero h)
  simp only [SparseCore.Cfg.lev] at this
  omega

/-- The program's pipeline prefetches nothing. -/
abbrev adm : (p : Fin 1) → (pcfgs (F := F) p).Adm := fun p => (cfgs p).toPCfg_adm

/-- The buffers after the dense kernel: the result's word at the whole sum, the rest as before. -/
def afterTc (d : Dev nD) : Valuation τ sig (Elt F) :=
  Function.update (Wv d) (Proc.devRef .tc main_v1) ((tcDat Wv b d).arrAt 2 cfg0.N)

/-- The dense kernel's result is its output window's final array, -/
theorem afterTc_v1 (d : Dev nD) : afterTc Wv b d (Proc.devRef .tc main_v1) = (tcDat Wv b d).arrAt 2 cfg0.N :=
  Function.update_self _ _ _

/-- and every other buffer is as before. -/
theorem afterTc_ne (d : Dev nD) {r : DevRef τ sig} (h : r ≠ Proc.devRef .tc main_v1) : afterTc Wv b d r = Wv d r :=
  Function.update_of_ne h _ _

/-- What the core owes and what its waits recorded, between the calls. -/
abbrev owedTc (d : Dev nD) : sProp 𝕄 :=
  iprop(∃ W, ⌜(K (F := F)).WBelow (T d) W b⌝ ∗ owes (T d) ((K (F := F)).Otc d 0) W)

set_option backward.isDefEq.respectTransparency.types false in
/-- The dense kernel's call: from the unscoped buffers at `Wv` to the same with the sum in its result. -/
def tcReg : Pipeline.RegionSeg (pcfgs (F := F)) adm (tcDats Wv b) none defs₀ 𝒱₀ (K (F := F)).L (K (F := F)).lev 0 where
  win := winFacts0.to₀
  block_pos := block_pos0
  stage_whole := stage_whole0
  K := PEmpty
  osem k := k.elim
  ho := Pipeline.OwnSemFacts.none _
  hbody d := (tc_body Wv b d).loose
  hwaits d := Pipeline.cellsWaits_intro _ _ _ _ _ fun _ _ _ => (K (F := F)).mayWait_none _ (Otc_none d 0)
  pre d := iprop(unscopedBufs d (fun r => Wv d (Proc.devRef .tc r)) ∗ owedTc b d)
  post d := iprop(unscopedBufs d (fun r => afterTc Wv b d (Proc.devRef .tc r)) ∗ owedTc b d)
  X _ := BI.emp
  Y _ := BI.emp
  Z d := Pipeline.unscopedRest spec0 d (fun r => Wv d (Proc.devRef .tc r))
  hentry d := by
    rw [Pipeline.ownSems0_none]
    have hsplit := Pipeline.arrays_of_unscopedBufs (p := 0) (pcfgs (F := F)) adm (tcDats Wv b) winFacts0 arr_whole0 d
      ((tcDats Wv b 0 d).share_full fun _ => rfl) (fun r => Wv d (Proc.devRef .tc r)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (tcDats Wv b 0 d).Φ 0 = BI.emp from rfl]
    have hs := scopedRest0_eq (Ix := HIx 1) (Val := Elt F) (Name := ℕ) (U := UU) (Lvl := ℕ) d
    iintro ⟨-, -, Hr⟩
    ihave Hr := (BIBase.Entails.of_eq hs) $$ Hr
    iexact Hr
  hout d := by
    have hs := scopedRest0_eq (Ix := HIx 1) (Val := Elt F) (Name := ℕ) (U := UU) (Lvl := ℕ) d
    rw [Pipeline.ownSems0_none, show (tcDats Wv b 0 d).Φ (Fin.last _) = BI.emp from rfl]
    iintro -
    isplitr; · iempintro
    isplitr; · iempintro
    iapply (BIBase.Entails.of_eq hs.symm)
    iempintro
  hexit d := by
    have hjoin := Pipeline.unscopedBufs_of_arrays (p := 0) (pcfgs (F := F)) adm (Ix := HIx 1) (Name := ℕ) (U := UU) (Lvl := ℕ) winFacts0 arr_whole0 d
      (tcDats Wv b) ((tcDats Wv b 0 d).share_full fun _ => rfl) (fun r => Wv d (Proc.devRef .tc r)) (fun r => afterTc Wv b d (Proc.devRef .tc r))
      ((tcDats Wv b 0 d).arrAt · cfg0.N)
      (fun w => by
        fin_cases w
        · exact ((tcDats Wv b 0 d).arrAt_in 0 rfl _).trans (afterTc_ne Wv b d (by decide)).symm
        · exact ((tcDats Wv b 0 d).arrAt_in 1 rfl _).trans (afterTc_ne Wv b d (by decide)).symm
        · exact (afterTc_v1 Wv b d).symm)
      (fun r hr => afterTc_ne Wv b d fun h => hr (Proc.devRef_injective _ h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.KernelIdeal.Sc
end
-- ==== Proof.KIMain.lean ====
/- The whole program's run: the launch, @main on the TensorCore, and the memory at the end. -/
module

public import proofs.«01_k».proof.Proof.KIShare
public import proofs.«01_k».proof.Proof.KIRegion

@[expose] public section

set_option maxRecDepth 16384

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (cellsGhost toksInit pin ucRefs)
open Idealize.ShloMosaic.StableHlo (held after seq)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## @main, call by call -/

/-- The targets, arranged for the dense kernel. -/
abbrev opTgt : HloOp τ sig (Elt F) := StableHlo.reshape main_arg1 main_v0 (rfl : (.i32 : EltTy) = .i32) shapeCasts_S4096_S16x1x256

/-- What the host does with the two kernels' results. -/
abbrev hostOps : List (HloOp τ sig (Elt F)) :=
  [StableHlo.unary main_v2 main_v3 ((extractStridedSlice S32x1x16 ![0, 0, 0] · slices_S32x2x16_S32x1x16_0_0_0) : (⟨S32x2x16, .f32⟩ : BufTy).Contents (Elt F) → (⟨S32x1x16, .f32⟩ : BufTy).Contents (Elt F)),
   StableHlo.reshape main_v3 main_v4 (rfl : (.f32 : EltTy) = .f32) shapeCasts_S32x1x16_S32x16,
   StableHlo.nullary main_cst (constant S_ .f32 0x00000000#32),
   StableHlo.binary main_v4 main_cst main_v5 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.unary main_v2 main_v6 ((extractStridedSlice S32x1x16 ![0, 1, 0] · slices_S32x2x16_S32x1x16_0_1_0) : (⟨S32x2x16, .f32⟩ : BufTy).Contents (Elt F) → (⟨S32x1x16, .f32⟩ : BufTy).Contents (Elt F)),
   StableHlo.reshape main_v6 main_v7 (rfl : (.f32 : EltTy) = .f32) shapeCasts_S32x1x16_S32x16,
   StableHlo.nullary main_cst_0 (constant S_ .f32 0x00000000#32),
   StableHlo.binary main_v7 main_cst_0 main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.reshape main_v1 main_v9 (rfl : (.f32 : EltTy) = .f32) shapeCasts_S1x1_S_,
   StableHlo.binary main_v8 main_v9 main_v10 (subf : (⟨S_, .f32⟩ : BufTy).Contents (Elt F) → (⟨S_, .f32⟩ : BufTy).Contents (Elt F) → (⟨S_, .f32⟩ : BufTy).Contents (Elt F)),
   StableHlo.binary main_v10 main_v5 main_v11 (subf : (⟨S_, .f32⟩ : BufTy).Contents (Elt F) → (⟨S_, .f32⟩ : BufTy).Contents (Elt F) → (⟨S_, .f32⟩ : BufTy).Contents (Elt F))]

/-- The host's last operations name TensorCore buffers outside the calls' scopes, -/
theorem hostOps_bufs : ∀ op ∈ (hostOps : List (HloOp τ sig (Elt F))), op.bufs ⊆ ucRefs τ sig := by
  intro op h
  simp only [List.mem_cons, List.mem_nil_iff, or_false] at h
  rcases h with rfl | rfl | rfl | rfl | rfl | rfl | rfl | rfl | rfl | rfl | rfl <;>
    simp only [StableHlo.nullary_bufs, StableHlo.unary_bufs, StableHlo.binary_bufs, StableHlo.reshape_bufs] <;> decide

/-- and choose no contents. -/
theorem hostOps_fresh : ∀ op ∈ (hostOps : List (HloOp τ sig (Elt F))), op.fresh = ∅ := by
  intro op h
  simp only [List.mem_cons, List.mem_nil_iff, or_false] at h
  rcases h with rfl | rfl | rfl | rfl | rfl | rfl | rfl | rfl | rfl | rfl | rfl <;> rfl

/-- The arrangement of the targets touches buffers of the device alone. -/
theorem opTgt_bufs : (opTgt (F := F)).bufs ⊆ ucRefs τ sig := by
  simp only [StableHlo.reshape_bufs]; decide

/-- @main: the arrangement of the targets, the dense kernel, the SparseCore call, the host's last operations. -/
theorem main_eq (d : Dev nD) : main (F := F) d = (hlo rfl opTgt (fun _ => (.ret ⟨⟩ : Prog (TpuEff nD τ sig (Elt F) (SparseCore.Sig (ΛP (F := F)) 1) .tc) PUnit)) >>= fun _ =>
    Prog.lift (.customCall (SparseCore.inner (Pipeline.entry 0)) ()) >>= fun _ => sc.run d 0 >>= fun _ => seq hostOps >>= fun _ => pure ⟨⟩) := rfl

/-! ## The buffers' contents along it -/

/-- At the launch; -/
def W0 (d : Dev nD) : Valuation τ sig (Elt F) := fun b => m (d, b)
/-- with the targets arranged; -/
def W1 (d : Dev nD) : Valuation τ sig (Elt F) := opTgt.result (W0 m d)
/-- after the dense kernel; -/
def W2 (d : Dev nD) : Valuation τ sig (Elt F) := afterTc (W1 m) 0 d
/-- after the SparseCore call; -/
def W3 (d : Dev nD) : Valuation τ sig (Elt F) := Function.update (W2 m d) (Proc.devRef .tc main_v2) (scOut m d)
/-- at the end. -/
def W4 (d : Dev nD) : Valuation τ sig (Elt F) := after hostOps (W3 m d)

/-- A buffer that nothing before the SparseCore call writes still has its launch contents. -/
theorem W2_launch (d : Dev nD) {r : Ref sig .tc} (h0 : r ≠ main_v0) (h1 : r ≠ main_v1) :
    W2 m d (Proc.devRef .tc r) = m (d, Proc.devRef .tc r) := by
  unfold W2
  rw [afterTc_ne _ _ _ (StableHlo.devRef_ne_of_ne h1)]
  unfold W1
  rw [StableHlo.reshape_result_ne (h := h0)]
  rfl

/-- A buffer that neither call writes holds its launch contents after both. -/
theorem W3_launch (d : Dev nD) {r : Ref sig .tc} (h0 : r ≠ main_v0) (h1 : r ≠ main_v1) (h2 : r ≠ main_v2) :
    W3 m d (Proc.devRef .tc r) = m (d, Proc.devRef .tc r) :=
  (Function.update_of_ne (StableHlo.devRef_ne_of_ne h2) _ _).trans (W2_launch m d h0 h1)

/-- The arguments are never written. -/
theorem W4_arg0 (d : Dev nD) : W4 m d (Proc.devRef .tc main_arg0) = m (xLoc d) := by
  refine Eq.trans ?_ (W3_launch m d (r := main_arg0) (by decide) (by decide) (by decide))
  unfold W4; after_results
/-- The targets end as launched. -/
theorem W4_arg1 (d : Dev nD) : W4 m d (Proc.devRef .tc main_arg1) = m (gLoc d) := by
  refine Eq.trans ?_ (W3_launch m d (r := main_arg1) (by decide) (by decide) (by decide))
  unfold W4; after_results

/-! ## The launch element of the ghost state -/

def u₀ : UU := (initOf (K (F := F)).hsCells (K (F := F)).hsToks,
  (initOf (Pipeline.cells cfgs Gen.cellOf_inj) (Pipeline.launchToks cfgs Gen.cellOf_inj), 1))

/-- The grid pipeline's ghost state on a device. -/
abbrev G (d : Dev nD) : sProp 𝕄 :=
  iprop((cellsGhost (pin (pcfgs (F := F)) adm) EP 0 d : sProp 𝕄) ∗ toksInit (pin (pcfgs (F := F)) adm) EP 0 d)

/-- Any number of empty parts is empty. -/
theorem bigSep_nothing {I : Type} (s : Finset I) : (bigSep s fun _ => iprop(emp)) = (iprop(emp) : sProp 𝕄) := bigSep_emp_const s

/-- The ghost state at the launch, dealt out: the call's, the grid pipeline's on each device, and nothing else. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR := (own_pair_emb embR _ _) $$ HR
  icases HR with ⟨HP, -⟩
  ihave HP := (Pipeline.fund_ghost (pin (pcfgs (F := F)) adm) EP Gen.cellOf_inj) $$ HP
  imod HP
  icases HP with ⟨Hc, Ht⟩
  imodintro
  isplitl [HH]; · iexact HH
  isplitl [Hc Ht]
  · rw [bigSep_sep']
    have hc : (bigSep Finset.univ fun c : Dev nD => bigSep Finset.univ fun p : Fin 1 => (cellsGhost (pin (pcfgs (F := F)) adm) EP p c : sProp 𝕄))
        = bigSep Finset.univ fun c => cellsGhost (pin (pcfgs (F := F)) adm) EP 0 c := bigSep_congr fun _ _ => bigSep_univ_of_subsingleton (0 : Fin 1)
    have ht : (bigSep Finset.univ fun c : Dev nD => bigSep Finset.univ fun p : Fin 1 => (toksInit (pin (pcfgs (F := F)) adm) EP p c : sProp 𝕄))
        = bigSep Finset.univ fun c => toksInit (pin (pcfgs (F := F)) adm) EP 0 c := bigSep_congr fun _ _ => bigSep_univ_of_subsingleton (0 : Fin 1)
    ihave Hc := (BIBase.Entails.of_eq hc) $$ Hc
    ihave Ht := (BIBase.Entails.of_eq ht) $$ Ht
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

/-- Between the calls the core's debts can be taken out of its state and put back. -/
theorem tcSt_owed (d : Dev nD) :
    ((K (F := F)).tcSt EH d 0 : sProp 𝕄) ⊢ iprop(owedTc 0 d ∗ (owedTc 0 d -∗ (K (F := F)).tcSt EH d 0)) := by
  unfold SparseCore.Cfg.tcSt
  iintro ⟨HO, Hr⟩
  isplitl [HO]; · iexact HO
  iintro HO
  isplitl [HO]; · iexact HO
  iexact Hr

/-- The dense kernel's call, in the program without the SparseCore calls. -/
abbrev entryProg : Prog (TpuEff nD τ sig (Elt F) (ΛP (F := F)) .tc) PUnit := .op (.customCall (Pipeline.entry 0) ()) .ret

/-- What the dense kernel's call takes of the core. -/
abbrev tcPre (Wv : Dev nD → Valuation τ sig (Elt F)) (b : ℕ) (d : Dev nD) (Φ : PUnit → sProp 𝕄) : sProp 𝕄 :=
  iprop((iprop(boundary (T d) ∗ unscopedBufs d (fun r => afterTc Wv b d (Proc.devRef .tc r)) ∗ owedTc b d) -∗ Φ ⟨⟩)
        ∗ boundary (T d) ∗ (unscopedBufs d (fun r => Wv d (Proc.devRef .tc r)) ∗ owedTc b d) ∗ levAts (K (F := F)).L (K (F := F)).lev ∗ G d)

set_option backward.isDefEq.respectTransparency.types false in
/-- The dense kernel's program, entered once, leaves the buffers as `afterTc` says. -/
theorem tc_entry [∀ e, Nonempty (Elt F e)] (Wv : Dev nD → Valuation τ sig (Elt F)) (b : ℕ) (d : Dev nD) (Φ : PUnit → sProp 𝕄) :
    tcPre Wv b d Φ ⊢ wp frame (wpE (D (F := F)) 𝒱 (T d) none) Set.univ entryProg Φ := by
  have h := Pipeline.RegionSeg.wp (pcfgs (F := F)) adm (tcDats Wv b) none Gen.cellOf_inj EP defs₀ 𝒱₀ (K (F := F)).L (K (F := F)).lev
    (tcReg Wv b) d none (fun _ h => nomatch h) (α := PUnit) .ret Φ
  refine BIBase.Entails.trans ?_ h
  iintro ⟨Hk, Hb, Hp, Hl, Hc, Ht⟩
  isplitl [Hk]
  · iintro H
    rw [wp_ret]; imodintro
    iapply Hk; iexact H
  isplitl [Hb]; · iexact Hb
  isplitl [Hp]
  · iapply (BIBase.Entails.of_eq (show iprop(unscopedBufs d (fun r => Wv d (Proc.devRef .tc r)) ∗ owedTc b d) = (tcReg Wv b).pre d from rfl)); iexact Hp
  isplitl [Hl]; · iexact Hl
  isplitl [Hc] <;> iassumption

/-- The dense kernel's call, as @main makes it. -/
theorem tc_call [∀ e, Nonempty (Elt F e)] (Wv : Dev nD → Valuation τ sig (Elt F)) (b : ℕ) (d : Dev nD) (Φ : PUnit → sProp 𝕄) :
    tcPre Wv b d Φ
      ⊢ wp frame (wpE ((K (F := F)).defs (D (F := F))) 𝒱 (T d) none) Set.univ (Prog.lift (.customCall (SparseCore.inner (Pipeline.entry 0)) ())) Φ :=
  (tc_entry Wv b d Φ).trans ((K (F := F)).wp_liftProg (D (F := F)) 𝒱 (T d) Set.univ none entryProg Φ)

/-- The SparseCore call's three arrays. -/
abbrev scRefs : Finset (DevRef τ sig) := {Proc.devRef .tc main_arg0, Proc.devRef .tc main_arg1, Proc.devRef .tc main_v2}

/-- Holding the call's three arrays is holding each. -/
theorem held_scRefs (d : Dev nD) (V : Valuation τ sig (Elt F)) :
    (held (d.tc : Thread nD τ) scRefs V : sProp 𝕄) = iprop((xLoc d ↦{fullShare} V (Proc.devRef .tc main_arg0)) ∗ (gLoc d ↦{fullShare} V (Proc.devRef .tc main_arg1))
      ∗ oLoc d ↦{fullShare} V (Proc.devRef .tc main_v2)) := by
  unfold held
  rw [SparseCore.bigSep_insert' (by decide), SparseCore.bigSep_insert' (by decide), bigSep_singleton]

/-- The call's operands, taken out of the buffers. -/
theorem st0_eq (d : Dev nD) : (held (d.tc : Thread nD τ) scRefs (W2 m d) : sProp 𝕄) = bigSep Finset.univ fun c : Fin ((K (F := F)).nCore 0) => (P m).st 0 d c := by
  rw [held_scRefs, W2_launch m d (by decide) (by decide), W2_launch m d (by decide) (by decide), W2_launch m d (by decide) (by decide)]
  exact (parts_eq m d (m (oLoc d))).trans (bigSep_tiles _)

/-- Its results, put back. -/
theorem dn0_eq (d : Dev nD) : (bigSep Finset.univ fun c : Fin ((K (F := F)).nCore 0) => (P m).dn 0 d c) = (held (d.tc : Thread nD τ) scRefs (W3 m d) : sProp 𝕄) := by
  rw [held_scRefs, W3_launch m d (by decide) (by decide) (by decide), W3_launch m d (by decide) (by decide) (by decide),
    show W3 m d (Proc.devRef .tc main_v2) = scOut m d from Function.update_self _ _ _]
  exact ((parts_eq m d (scOut m d)).trans (bigSep_tiles _)).symm

/-- The buffers that the call does not take are unchanged by it. -/
theorem held_rest (d : Dev nD) : (held (d.tc : Thread nD τ) (ucRefs τ sig \ scRefs) (W2 m d) : sProp 𝕄) = held (d.tc : Thread nD τ) (ucRefs τ sig \ scRefs) (W3 m d) :=
  StableHlo.held_congr _ fun b hb => (Function.update_of_ne (fun h => (Finset.mem_sdiff.mp hb).2 (by rw [h]; decide)) _ _).symm

abbrev FIN (d : Dev nD) : sProp 𝕄 := held (d.tc : Thread nD τ) (ucRefs τ sig) (W4 m d)

set_option backward.isDefEq.respectTransparency.types false in
/-- @main on a device's TensorCore: every buffer ends at the contents computed above. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have e0 : (unscopedBufs d (fun b => m ((SparseCore.T d).loc b)) : sProp 𝕄) = held (d.tc : Thread nD τ) (ucRefs τ sig) (W0 m d) :=
    Pipeline.unscopedBufs_held d (W0 m d)
  rw [e0, main_eq, wp_bind]
  iintro ⟨#Hctx, Hst, ⟨Hb, Hh, Hts, -⟩, HG⟩
  -- the targets
  iapply (StableHlo.wp_hlo_within 𝒱 (SparseCore.T d) none Set.univ (S := ucRefs τ sig) opTgt_bufs (V := W0 m d)) $$ [Hb Hh]
  · isplitl [Hb] <;> iassumption
  iintro ⟨Hb, Hh⟩
  rw [wp_ret]; imodintro
  -- the dense kernel
  rw [wp_bind]
  ihave Ho := (tcSt_owed d) $$ Hst
  icases Ho with ⟨HO, Hst⟩
  ihave Hlev := (SparseCore.Cfg.ctx_levAts κ) $$ Hctx
  iapply (tc_call (W1 m) 0 d _) $$ [Hb Hh HO Hlev HG Hst Hts]
  isplitl [Hst Hts]
  swap
  · isplitl [Hb]; · iexact Hb
    isplitl [Hh HO]
    · isplitl [Hh]
      · iapply (BIBase.Entails.of_eq (Pipeline.unscopedBufs_held d (W1 m d)).symm); iexact Hh
      · iexact HO
    isplitl [Hlev]; · iexact Hlev
    iexact HG
  iintro ⟨Hb, Hu, HO⟩
  ihave Hst := Hst $$ HO
  have e2 : (unscopedBufs d (fun r => afterTc (W1 m) 0 d (Proc.devRef .tc r)) : sProp 𝕄) = held (d.tc : Thread nD τ) (ucRefs τ sig) (W2 m d) :=
    Pipeline.unscopedBufs_held d (W2 m d)
  ihave Hh := (BIBase.Entails.of_eq e2) $$ Hu
  -- the SparseCore call
  rw [wp_bind]
  ihave Hh := (BIBase.Entails.of_eq (StableHlo.held_sub_split (d.tc : Thread nD τ) (T := scRefs) (S := ucRefs τ sig) (by decide) (W2 m d))) $$ Hh
  icases Hh with ⟨Hsc, Hrest⟩
  iapply ((K (F := F)).wp_run (D (F := F)) 𝒱 (EH := EH) (P := P m) κ d 0) $$ [Hst Hsc Hrest Hb Hts]
  isplitr; · iexact Hctx
  isplitl [Hst]; · iexact Hst
  isplitl [Hsc]
  · iapply (BIBase.Entails.of_eq (st0_eq m d)); iexact Hsc
  iintro ⟨Hst, Hdn⟩
  ihave Hsc := (BIBase.Entails.of_eq (dn0_eq m d)) $$ Hdn
  ihave Hrest := (BIBase.Entails.of_eq (held_rest m d)) $$ Hrest
  -- the host
  iapply (StableHlo.wp_seq 𝒱 none Set.univ d (ucRefs τ sig) (fun _ => pure ⟨⟩) hostOps hostOps_bufs hostOps_fresh (W3 m d)) $$ [Hb Hsc Hrest]
  · isplitl [Hb]; · iexact Hb
    iapply (BIBase.Entails.of_eq (StableHlo.held_sub_split (d.tc : Thread nD τ) (T := scRefs) (S := ucRefs τ sig) (by decide) (W3 m d)).symm)
    isplitl [Hsc] <;> iassumption
  iintro ⟨Hb, Hh⟩
  rw [wp_pure]; imodintro
  isplitl [Hst]; · iexact Hst
  isplitl [Hh]; · iexact Hh
  isplitl [Hb] <;> iassumption

/-- The end of the memory: the arguments as launched, the result computed. -/
def fq (d : Dev nD) (s' : Phys nD τ sig (Elt F)) : Prop :=
  (s'.mem.mem (xLoc d) = m (xLoc d) ∧ s'.mem.mem (gLoc d) = m (gLoc d)) ∧ s'.mem.mem ((SparseCore.T d).loc main_v11) = W4 m d (Proc.devRef .tc main_v11)

/-- A held buffer's contents are the memory's. -/
theorem held_agree (d : Dev nD) (V : Valuation τ sig (Elt F)) (S : Finset (DevRef τ sig)) (b : DevRef τ sig) (hb : b ∈ S) (s' : Phys nD τ sig (Elt F)) :
    iprop((held (d.tc : Thread nD τ) S V : sProp 𝕄) ∗ SI s') ⊢ (⌜s'.mem.mem (d, b) = V b⌝ : sProp 𝕄) := by
  rw [StableHlo.held_sub_split (d.tc : Thread nD τ) (T := {b}) (Finset.singleton_subset_iff.mpr hb) V]
  unfold held
  rw [bigSep_singleton]
  iintro ⟨⟨H, -⟩, HSI⟩
  ihave H := (SI_pointsTo_agree (st := s') (ℓ := (d, b)) (I := Finset.univ) (q := fullShare) (f := V b)) $$ [HSI H]
  · isplitl [HSI] <;> iassumption
  icases H with %h
  ipureintro; exact funext fun i => h i (Finset.mem_univ i)

/-- What @main holds at its end fixes the memory. -/
theorem hfin (d : Dev nD) (s' : Phys nD τ sig (Elt F)) : iprop(FIN m d ∗ SI s') ⊢ (⌜fq m d s'⌝ : sProp 𝕄) := by
  iintro H
  ihave H := (persistent_entails_right (held_agree d (W4 m d) (ucRefs τ sig) (Proc.devRef .tc main_arg0) (by decide) s')) $$ H
  icases H with ⟨%h0, H⟩
  ihave H := (persistent_entails_right (held_agree d (W4 m d) (ucRefs τ sig) (Proc.devRef .tc main_arg1) (by decide) s')) $$ H
  icases H with ⟨%h1, H⟩
  ihave H := (held_agree d (W4 m d) (ucRefs τ sig) (Proc.devRef .tc main_v11) (by decide) s') $$ H
  icases H with %h2
  ipureintro
  exact ⟨⟨h0.trans (W4_arg0 m d), h1.trans (W4_arg1 m d)⟩, h2⟩

/-! ## The program's run -/

/-- What the run ends in. -/
def QC : PUnit × MemSt nD τ sig (Elt F) → Prop := fun r =>
  (∀ d : Dev nD, (r.2.mem (xLoc d) = m (xLoc d) ∧ r.2.mem (gLoc d) = m (gLoc d)) ∧ r.2.mem ((SparseCore.T d).loc main_v11) = W4 m d (Proc.devRef .tc main_v11))
    ∧ r.2.sem = fun _ => 0

/-- From targets that name columns, the program ends with its arguments as they were, its result as computed, and every semaphore at zero. -/
theorem run_main [∀ e, Nonempty (Elt F e)] (hpre : TgtsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.KernelIdeal.Sc
end
-- ==== Proof.Pre.lean ====
/- What the precondition says of the two arguments: finite logits, and every target a class. -/
module

public import proofs.«01_k».proof.Proof.Gen.Pre_inputs_ok
public import Idealize.ShloMosaic.Lib.ReduceAll
public import Idealize.ShloMosaic.Lib.ValueIdx
public import Idealize.ShloMosaic.Lib.WordCmp
public import Idealize.ShloMosaic.PureOps.Ideal

@[expose] public section

noncomputable section

namespace Cert.Pre_inputs_ok.Read

open Cert.Pre_inputs_ok Cert.Pre_inputs_ok.Gen
open Idealize.ShloMosaic Idealize.ShloMosaic.ValueIdx

/-- A word that is at least 0 and less than 16384 as a signed number is less than 16384 as an unsigned one. -/
theorem word_in_range (t : BitVec 32) (e : IntOp.andi (IntOp.cmpi .sge t 0#32) (IntOp.cmpi .slt t 16384#32) = 1#1) : t.toNat < 16384 := by
  obtain ⟨e0, e1⟩ := IntOp.andi_eq_one.mp e
  simp only [IntOp.cmpi, WordCmp.ofBool_eq_one_iff, BitVec.sle_eq_decide, BitVec.slt_eq_decide, decide_eq_true_eq, BitVec.toInt_eq_toNat_cond,
    BitVec.toNat_ofNat, Nat.reducePow, Nat.reduceMod] at e0 e1
  omega

/-- A tensor of rank 0 has one position. -/
instance : Subsingleton S_.Idx := ⟨fun a b => funext fun k => k.elim0⟩

/-- Under the precondition every target is below 16384, at either reading of the floats. -/
theorem targets {F : FTy → Type} [FloatOps F] (x : FVec F S4096x16384 .f32) (g : IVec S4096 32) (h : fn (F := F) x g = fun _ => 1#1)
    (i : S4096.Idx) : (g i).toNat < 16384 := by
  have e := congrFun h (fun k => k.elim0)
  have e2 := (IntOp.andi_eq_one.mp e).2
  exact word_in_range (g i) (Host.reduce_andi_all _ _ _ _ _ e2 i)

/-- Under the precondition every logit is a real number. -/
theorem finite (x : FVec Ideal S4096x16384 .f32) (g : IVec S4096 32) (h : fn (F := Ideal) x g = fun _ => 1#1)
    (i : S4096x16384.Idx) : ∃ r : ℝ, x i = ((r : EReal) : Ideal .f32) := by
  have e := congrFun h (fun k => k.elim0)
  have e1 := Host.reduce_andi_all _ _ _ _ _ (IntOp.andi_eq_one.mp e).1 i
  have htop : Ideal.ofBits .f32 0x7F800000#32 = ⊤ := by simp [Ideal.ofBits, Ideal.ieee]
  have e3 : Ideal.cmp .olt (max (x i : EReal) (-(x i : EReal))) (Ideal.ofBits .f32 0x7F800000#32) = 1#1 := e1
  rw [htop] at e3
  have hlt : max (x i : EReal) (-(x i : EReal)) < ⊤ := by
    simpa only [Ideal.cmp, WordCmp.ofBool_eq_one_iff, decide_eq_true_eq] using e3
  rw [max_lt_iff] at hlt
  have h1 : (x i : EReal) ≠ ⊤ := hlt.1.ne
  have h2 : (x i : EReal) ≠ ⊥ := fun hb => hlt.2.ne (by simp [hb])
  exact ⟨(x i : EReal).toReal, (EReal.coe_toReal h1 h2).symm⟩

end Cert.Pre_inputs_ok.Read

end
-- ==== Proof.Frames.lean ====
/- The runs the claims speak of: each program terminates, leaves its arguments as they were and every counter at zero. -/
module

public import proofs.«01_k».proof.Defs
public import proofs.«01_k».proof.Proof.KMain
public import proofs.«01_k».proof.Proof.KIMain
public import proofs.«01_k».proof.Proof.Gen.Reference.Run
public import proofs.«01_k».proof.Proof.Gen.ReferenceIdeal.Run
public import proofs.«01_k».proof.Proof.Pre
public import Idealize.ShloMosaic.Adequacy
public import Idealize.ShloMosaic.Init

@[expose] public section

noncomputable section

namespace Cert.Proof

open Idealize.ShloMosaic Idealize.SL.Sem

/-- Under the precondition the program's targets name classes. -/
theorem targets_of_pre (m : (ℓ : Loc Cert.Kernel.nD Cert.Kernel.τ Cert.Kernel.sig) → Buf (Elt Bits) ℓ) (h : Cert.Pre_Kernel m) :
    Cert.Kernel.Sc.TgtsOK m := fun d i => Cert.Pre_inputs_ok.Read.targets _ _ (h d) i

/-- The same of the program read over the extended reals. -/
theorem targets_of_pre_ideal (m : (ℓ : Loc Cert.KernelIdeal.nD Cert.KernelIdeal.τ Cert.KernelIdeal.sig) → Buf (Elt Ideal) ℓ)
    (h : Cert.Pre_KernelIdeal m) : Cert.KernelIdeal.Sc.TgtsOK m := fun d i => Cert.Pre_inputs_ok.Read.targets _ _ (h d) i

/-- The whole kernel, at its word formats. -/
theorem frame_kernel : Cert.quiescent_Kernel := fun m ρ hpre =>
  (θ_run Cert.Kernel.defs _ _).mono (fun _ h => ⟨fun c => (h.1 c).1, h.2⟩) (Cert.Kernel.Sc.run_main (F := Bits) m ρ (targets_of_pre m hpre))

/-- The whole kernel, over the extended reals. -/
theorem frame_kernel_ideal : Cert.quiescent_KernelIdeal := fun m ρ hpre =>
  (θ_run Cert.KernelIdeal.defs _ _).mono (fun _ h => ⟨fun c => (h.1 c).1, h.2⟩)
    (Cert.KernelIdeal.Sc.run_main (F := Ideal) m ρ (targets_of_pre_ideal m hpre))

/-- The reference over the extended reals; it declares no counter. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference at its word formats. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Each named constant reads, at the word format, the literal the kernel prints in its place. -/
theorem preserves_kernel : Cert.preserves_Kernel_KernelIdeal :=
  ⟨IdealRules.named_const.statement Cert.KernelIdeal.κ "smooth" .f32 0x36CCD333#32 _ rfl,
    IdealRules.named_const.statement Cert.KernelIdeal.κ "conf_less_smooth" .f32 0x3F666600#32 _ rfl,
    IdealRules.named_const.statement Cert.KernelIdeal.κ "row_const" .f32 0xBFA5D22F#32 _ rfl⟩

end Cert.Proof

end
-- ==== Proof.Sums.lean ====
/- The loss as a sum of real numbers: the reference's sum over all entries, row by row in the kernel's form. -/
module

public import Mathlib.Analysis.SpecialFunctions.Log.Basic
public import Mathlib.Algebra.BigOperators.Intervals
public import Mathlib.Data.EReal.Operations

@[expose] public section

noncomputable section

namespace Cert.Loss

open Finset

/-- The smoothing mass of one class. -/
def sv : ℝ := 1 / 163820
/-- What a target's own entry weighs beyond it. -/
def gw : ℝ := 147437 / 163820
/-- The constant part of a counted row. -/
def rc : ℝ := (1 / 10) * Real.log (387420489 / 163820000000000)

/-- The constant part of a row, as 16382 smoothed classes and the target. -/
theorem rc_eq : rc = 16382 * (sv * Real.log sv) + (sv + gw) * Real.log (sv + gw) := by
  have h9 : sv + gw = 9 / 10 := by norm_num [sv, gw]
  have e : (387420489 / 163820000000000 : ℝ) = (9 / 10 : ℝ) ^ 9 * sv := by norm_num [sv]
  have hs : sv ≠ 0 := by norm_num [sv]
  rw [rc, h9, e, Real.log_mul (by norm_num) hs, Real.log_pow]
  have : 16382 * sv = 1 / 10 := by norm_num [sv]
  push_cast
  linear_combination (-Real.log sv) * this

/-- One entry of the reference's divergence: row target `t`, class `b`, logit `y`. -/
def entry (t b : ℕ) (y : ℝ) : ℝ :=
  if t = 0 ∨ b = 0 then 0 else if b = t then (sv + gw) * (Real.log (sv + gw) - y) else sv * (Real.log sv - y)

/-- A row of the reference's divergence, in the kernel's form. -/
theorem row_sum (t : ℕ) (ht : t < 16384) (y : ℕ → ℝ) :
    ∑ b ∈ range 16384, entry t b (y b)
      = if t ≠ 0 then rc - sv * (∑ b ∈ range 16384, y b - y 0) - gw * y t else 0 := by
  by_cases h : t = 0
  · simp [h, entry]
  rw [if_pos h]
  have e : ∀ b, entry t b (y b) = (sv * Real.log sv - sv * y b) - (if b = 0 then sv * Real.log sv - sv * y 0 else 0)
      + (if b = t then (sv + gw) * (Real.log (sv + gw) - y t) - sv * (Real.log sv - y t) else 0) := by
    intro b
    unfold entry
    by_cases h0 : b = 0
    · subst h0; simp [Ne.symm h]
    · by_cases h1 : b = t
      · subst h1; simp [h]; ring
      · simp [h, h0, h1]; ring
  rw [sum_congr rfl fun b _ => e b, sum_add_distrib, sum_sub_distrib, sum_ite_eq' , sum_ite_eq', if_pos (by simp), if_pos (by simpa using ht),
    sum_sub_distrib, sum_const, card_range, ← mul_sum, rc_eq]
  push_cast [nsmul_eq_mul]
  ring

/-- A sum over `n` groups of `k` is the sum over all. -/
theorem sum_groups (n k : ℕ) (f : ℕ → ℝ) : ∑ i ∈ range n, ∑ j ∈ range k, f (k * i + j) = ∑ a ∈ range (k * n), f a := by
  induction n with
  | zero => simp
  | succ n ih => rw [sum_range_succ, ih, Nat.mul_succ, sum_range_add]

/-- The lane and the segment that hold a target's entry are one pair of the 16 and 8. -/
theorem sum_lanes (t : ℕ) (y : ℝ) :
    ∑ l ∈ range 16, ∑ c ∈ range 8, (if t ≠ 0 ∧ t % 128 = 16 * c + l then y else 0) = if t ≠ 0 then y else 0 := by
  rw [sum_comm]
  by_cases h : t = 0
  · simp [h]
  simp only [ne_eq, h, not_false_eq_true, true_and, if_true]
  rw [sum_groups 8 16 (fun a => if t % 128 = a then y else 0), sum_ite_eq, if_pos (by simp; omega)]

/-- A sum over subcores, rounds and lanes is a sum over the rows. -/
theorem sum_rows (f : ℕ → ℝ) : ∑ w ∈ range 32, ∑ r ∈ range 8, ∑ l ∈ range 16, f (128 * w + 16 * r + l) = ∑ a ∈ range 4096, f a := by
  have e : ∀ w r l, 128 * w + 16 * r + l = 16 * (8 * w + r) + l := fun w r l => by ring
  simp only [e]
  rw [sum_groups 32 8 (fun b => ∑ l ∈ range 16, f (16 * b + l)), sum_groups (8 * 32) 16 f]

/-- What the kernel returns is what the reference returns: the counted rows times the row constant, less the dense
part, less the gathered entries times the target's extra weight. -/
theorem total (T : ℕ → ℕ) (X : ℕ → ℕ → ℝ) (hT : ∀ a, T a < 16384) :
    (∑ w ∈ range 32, ∑ l ∈ range 16, (∑ r ∈ range 8, (if T (128 * w + 16 * r + l) ≠ 0 then 1 else 0)) * rc)
      - (∑ t ∈ range 16, sv * ∑ j ∈ range 256, (if T (256 * t + j) ≠ 0 then ∑ k ∈ range 16384, X (256 * t + j) k - X (256 * t + j) 0 else 0))
      - (∑ w ∈ range 32, ∑ l ∈ range 16, (∑ r ∈ range 8, ∑ k ∈ range 16, ∑ c ∈ range 8,
          (if T (128 * w + 16 * r + k) ≠ 0 ∧ T (128 * w + 16 * r + k) % 128 = 16 * c + l then X (128 * w + 16 * r + k) (T (128 * w + 16 * r + k)) else 0)) * gw)
    = ∑ a ∈ range 4096, ∑ b ∈ range 16384, entry (T a) b (X a b) := by
  have hA : ∑ w ∈ range 32, ∑ l ∈ range 16, (∑ r ∈ range 8, (if T (128 * w + 16 * r + l) ≠ 0 then (1 : ℝ) else 0)) * rc
      = ∑ a ∈ range 4096, (if T a ≠ 0 then 1 else 0) * rc := by
    rw [← sum_rows (fun a => (if T a ≠ 0 then (1 : ℝ) else 0) * rc)]
    refine sum_congr rfl fun w _ => ?_
    rw [sum_comm (s := range 8)]
    exact sum_congr rfl fun l _ => sum_mul ..
  have hB : ∑ t ∈ range 16, sv * ∑ j ∈ range 256, (if T (256 * t + j) ≠ 0 then ∑ k ∈ range 16384, X (256 * t + j) k - X (256 * t + j) 0 else 0)
      = ∑ a ∈ range 4096, sv * (if T a ≠ 0 then ∑ k ∈ range 16384, X a k - X a 0 else 0) := by
    rw [← mul_sum, ← mul_sum, sum_groups 16 256 (fun a => if T a ≠ 0 then ∑ k ∈ range 16384, X a k - X a 0 else 0)]
  have hC : ∑ w ∈ range 32, ∑ l ∈ range 16, (∑ r ∈ range 8, ∑ k ∈ range 16, ∑ c ∈ range 8,
          (if T (128 * w + 16 * r + k) ≠ 0 ∧ T (128 * w + 16 * r + k) % 128 = 16 * c + l then X (128 * w + 16 * r + k) (T (128 * w + 16 * r + k)) else 0)) * gw
      = ∑ a ∈ range 4096, (if T a ≠ 0 then X a (T a) else 0) * gw := by
    rw [← sum_rows (fun a => (if T a ≠ 0 then X a (T a) else 0) * gw)]
    refine sum_congr rfl fun w _ => ?_
    rw [← sum_mul, sum_comm, sum_mul]
    refine sum_congr rfl fun r _ => ?_
    rw [sum_comm, sum_mul]
    refine sum_congr rfl fun k _ => ?_
    rw [sum_lanes]
  rw [hA, hB, hC, ← sum_sub_distrib, ← sum_sub_distrib]
  refine sum_congr rfl fun a _ => ?_
  rw [row_sum (T a) (hT a) (X a)]
  by_cases h : T a ≠ 0
  · rw [if_pos h, if_pos h, if_pos h, if_pos h]
    ring
  · rw [if_neg h, if_neg h, if_neg h, if_neg h]
    ring

/-- A sum of real numbers, read in the extended reals. -/
theorem coe_sum_fin (n : ℕ) (f : ℕ → ℝ) : ∑ k : Fin n, ((f k : ℝ) : EReal) = ((∑ k ∈ range n, f k : ℝ) : EReal) := by
  rw [← Fin.sum_univ_eq_sum_range f n]
  exact (map_sum (⟨⟨Real.toEReal, EReal.coe_zero⟩, EReal.coe_add⟩ : ℝ →+ EReal) (fun k : Fin n => f k) Finset.univ).symm

end Cert.Loss

end
-- ==== Proof.VTile.lean ====
/- What a tile adds up, over the extended reals: per lane, a sum of real numbers. -/
module

public import proofs.«01_k».proof.Proof.KIRow
public import proofs.«01_k».proof.Proof.Sums
public import Idealize.ShloMosaic.PureOps.Ideal
public import Idealize.ShloMosaic.PureOps.Ideal.Laws
public import Idealize.ShloMosaic.Lib.Affine
public import Idealize.ShloMosaic.Lib.IdealHost
public import Idealize.ShloMosaic.Lib.WordCmp
public import Idealize.ShloMosaic.Lib.Pointwise

@[expose] public section

noncomputable section

namespace Cert.KernelIdeal.Val

open Cert.KernelIdeal Cert.KernelIdeal.Gen Cert.KernelIdeal.Sc
open Idealize.ShloMosaic
open Idealize.ShloMosaic.ValueIdx hiding ix1 ix2 ix3
open Finset

/-- The word zero is the number zero. -/
theorem ofBits0 : Idealize.ShloMosaic.Ideal.ofBits .f32 0x00000000#32 = 0 := Idealize.ShloMosaic.Ideal.ofBits_zero_f32

/-- Adding one term to each lane at every step adds the terms' sum. -/
theorem iter_add (f : ℕ → FVec Ideal S16 .f32 → FVec Ideal S16 .f32) (γ : ℕ → ℕ → ℝ) (n : ℕ)
    (hf : ∀ k, k < n → ∀ (s : FVec Ideal S16 .f32) (σ : ℕ → ℝ), (∀ l : Fin 16, s (ix1 l) = ((σ l : ℝ) : EReal)) →
      ∀ l : Fin 16, f k s (ix1 l) = ((σ l + γ k l : ℝ) : EReal))
    (s : FVec Ideal S16 .f32) (σ : ℕ → ℝ) (hs : ∀ l : Fin 16, s (ix1 l) = ((σ l : ℝ) : EReal)) (l : Fin 16) :
    iter f n s (ix1 l) = ((σ l + ∑ k ∈ range n, γ k l : ℝ) : EReal) := by
  induction n generalizing l with
  | zero => simpa [iter] using hs l
  | succ n ih =>
    have h := hf n (Nat.lt_succ_self n) (iter f n s) (fun l => σ l + ∑ k ∈ range n, γ k l)
      (fun l => ih (fun k hk => hf k (Nat.lt_succ_of_lt hk)) l) l
    rw [sum_range_succ, ← add_assoc]
    exact h

/-- The low seven bits. -/
theorem and127 (v : BitVec 32) : (v &&& 127#32).toNat = v.toNat % 128 := by
  have e : (127#32 : BitVec 32).toNat = 2 ^ 7 - 1 := by decide
  rw [BitVec.toNat_and, e, Nat.and_two_pow_sub_one_eq_mod]

/-- The chosen column: within the target's block, or for the padding target a word that is no column. -/
theorem col_eq (v : BitVec 32) : Tile.col v = if v.toNat ≠ 0 then v &&& 127#32 else 4294966272#32 := by
  unfold Tile.col Scalar.select Scalar.andi IntOp.andi Scalar.cmpi
  refine if_congr ?_ rfl rfl
  show IntOp.cmpi .ne v 0#32 = 1#1 ↔ _
  rw [IntOp.cmpi_ne, ne_eq, ← BitVec.toNat_inj, BitVec.toNat_ofNat, Nat.zero_mod]

/-- In a padding row no lane meets the column. -/
theorem lane_none (c l : ℕ) (hl : l < 16) : BitVec.ofNat 32 l ≠ 4294966272#32 - BitVec.ofNat 32 (16 * (c % 8)) := by
  rw [ne_eq, ← BitVec.toNat_inj, BitVec.toNat_sub, BitVec.toNat_ofNat, BitVec.toNat_ofNat, BitVec.toNat_ofNat]
  omega

/-- Otherwise the column's own lane of its own segment meets it, and no other. -/
theorem lane_some (w : BitVec 32) (hw : w.toNat < 128) (c l : ℕ) (hc : c < 8) (hl : l < 16) :
    BitVec.ofNat 32 l = w - BitVec.ofNat 32 (16 * (c % 8)) ↔ w.toNat = 16 * c + l := by
  rw [← BitVec.toNat_inj, BitVec.toNat_sub, BitVec.toNat_ofNat, BitVec.toNat_ofNat]
  omega

/-- The words compared: lane `l` is the chosen one of segment `c` exactly when the target's column, within its block, is there. -/
theorem lane_eq (v : BitVec 32) (c l : ℕ) (hc : c < 8) (hl : l < 16) :
    IntOp.cmpi .eq (BitVec.ofNat 32 l) (Scalar.subi (Tile.col v) (BitVec.ofNat 32 (16 * (c % 8)))) = 1#1
      ↔ (v.toNat ≠ 0 ∧ v.toNat % 128 = 16 * c + l) := by
  rw [IntOp.cmpi_eq, col_eq, Scalar.subi, IntOp.subi]
  by_cases h : v.toNat = 0
  · rw [if_neg (not_not.mpr h)]
    exact ⟨fun e => absurd e (lane_none c l hl), fun e => absurd h e.1⟩
  · rw [if_pos h, lane_some _ (by rw [and127]; omega) c l hc hl, and127]
    exact ⟨fun e => ⟨h, e⟩, fun e => e.2⟩

/-- The number in a lane. -/
theorem lanes_apply (l : Fin 16) : Tile.lanes (ix1 l) = BitVec.ofNat 32 l := by
  unfold Tile.lanes
  simp only [pointwise, List.foldl_cons, List.foldl_nil, Nat.zero_mul, Nat.zero_add]

/-- One segment adds a target's entry to its lane. -/
theorem addSeg_val (v : BitVec 32) (c : ℕ) (hc : c < 8) (sg : Vec Ideal S1x1x16 .f32) (y : ℝ)
    (hsg : ∀ l : Fin 16, v.toNat % 128 = 16 * c + l → sg (ix3 0 0 l) = ((y : ℝ) : EReal))
    (s : FVec Ideal S16 .f32) (σ : ℕ → ℝ) (hs : ∀ l : Fin 16, s (ix1 l) = ((σ l : ℝ) : EReal)) (l : Fin 16) :
    Tile.addSeg (Tile.col v) c sg s (ix1 l)
      = ((σ l + (if v.toNat ≠ 0 ∧ v.toNat % 128 = 16 * c + l then y else 0) : ℝ) : EReal) := by
  have e : Tile.addSeg (Tile.col v) c sg s (ix1 l)
      = (s (ix1 l) : EReal) + (if IntOp.cmpi .eq (BitVec.ofNat 32 l) (Scalar.subi (Tile.col v) (BitVec.ofNat 32 (16 * (c % 8)))) = 1#1
          then shapeCast S16 sg shapeCasts_S1x1x16_S16 (ix1 l) else Ideal.ofBits .f32 0x00000000#32 : EReal) := by
    rw [← lanes_apply l]
    rfl
  have e3 : shapeCast S16 sg shapeCasts_S1x1x16_S16 (ix1 l) = sg (ix3 0 0 l) := by
    simp only [pointwise]
  rw [e, hs, e3, ofBits0]
  by_cases h : v.toNat ≠ 0 ∧ v.toNat % 128 = 16 * c + l
  · rw [if_pos ((lane_eq v c l hc l.isLt).mpr h), if_pos h, hsg l h.2, ← EReal.coe_add]
  · rw [if_neg (fun e => h ((lane_eq v c l hc l.isLt).mp e)), if_neg h, ← EReal.coe_zero, ← EReal.coe_add]

/-- A logit, as a real number. -/
def X (fx : FVec Ideal S4096x16384 .f32) (a b : ℕ) : ℝ := EReal.toReal (at2 fx a b)

/-- A target, as a number. -/
def T (fg : IVec S4096 32) (a : ℕ) : ℕ := (fg (ValueIdx.ix1 (Fin.ofNat 4096 a))).toNat

/-- Every logit is a real number. -/
def Reals (fx : FVec Ideal S4096x16384 .f32) : Prop := ∀ a b, at2 fx a b = ((X fx a b : ℝ) : EReal)

variable (fx : FVec Ideal S4096x16384 .f32) (fg : IVec S4096 32)

/-- What a segment of a row adds to a lane. -/
def pick (a l c : ℕ) : ℝ := if T fg a ≠ 0 ∧ T fg a % 128 = 16 * c + l then X fx a (T fg a) else 0

/-- A row adds its segments' picks. -/
theorem rowV_val (hx : Reals fx) (w r k : ℕ) (hr : r < 8) (hk : k < 16) (s : FVec Ideal S16 .f32) (σ : ℕ → ℝ)
    (hs : ∀ l : Fin 16, s (ix1 l) = ((σ l : ℝ) : EReal)) (l : Fin 16) :
    rowV fx fg w r k s (ix1 l) = ((σ l + ∑ c ∈ range 8, pick fx fg (128 * w + 16 * r + k) l c : ℝ) : EReal) := by
  have er : r % 8 = r := Nat.mod_eq_of_lt hr
  have ek : k % 16 = k := Nat.mod_eq_of_lt hk
  refine iter_add _ (fun c l => pick fx fg (128 * w + 16 * r + k) l c) 8 (fun c hc s σ hs l => ?_) s σ hs l
  have ht : (tw fg w r k).toNat = T fg (128 * w + 16 * r + k) := by unfold tw T; rw [er, ek]
  unfold pick
  rw [← ht]
  refine addSeg_val _ c hc _ _ (fun l hl => ?_) s σ hs l
  show at2 fx (128 * w + 16 * (r % 8) + k % 16) ((tw fg w r k).toNat / 128 * 128 + 16 * (c % 8) + l.val) = _
  rw [er, ek, hx, show (tw fg w r k).toNat / 128 * 128 + 16 * (c % 8) + l.val = (tw fg w r k).toNat by omega]

/-- A round counts the lanes whose target is not the padding. -/
theorem addCnt_val (w r : ℕ) (hr : r < 8) (s : FVec Ideal S16 .f32) (σ : ℕ → ℝ)
    (hs : ∀ l : Fin 16, s (ix1 l) = ((σ l : ℝ) : EReal)) (l : Fin 16) :
    Tile.addCnt (tgt fg w r) s (ix1 l) = ((σ l + (if T fg (128 * w + 16 * r + l) ≠ 0 then 1 else 0) : ℝ) : EReal) := by
  have e : Tile.addCnt (tgt fg w r) s (ix1 l) = (s (ix1 l) : EReal) + (if IntOp.cmpi .ne (tgt fg w r (ix1 l)) 0#32 = 1#1
      then Idealize.ShloMosaic.Ideal.ofBits .f32 0x3F800000#32 else Idealize.ShloMosaic.Ideal.ofBits .f32 0x00000000#32 : EReal) := rfl
  have et : (tgt fg w r (ix1 l)).toNat = T fg (128 * w + 16 * r + l) := by
    show (fg (ValueIdx.ix1 (Fin.ofNat 4096 (128 * w + 16 * (r % 8) + l.val)))).toNat = _
    rw [Nat.mod_eq_of_lt hr]
    rfl
  have ec : IntOp.cmpi .ne (tgt fg w r (ix1 l)) 0#32 = 1#1 ↔ T fg (128 * w + 16 * r + l) ≠ 0 := by
    rw [IntOp.cmpi_ne, ne_eq, ← BitVec.toNat_inj, et, BitVec.toNat_ofNat, Nat.zero_mod]
  rw [e, hs, ofBits0, Idealize.ShloMosaic.Ideal.ofBits_one_f32]
  by_cases h : T fg (128 * w + 16 * r + l) ≠ 0
  · rw [if_pos (ec.mpr h), if_pos h, ← EReal.coe_one, ← EReal.coe_add]
  · rw [if_neg (fun e => h (ec.mp e)), if_neg h, ← EReal.coe_zero, ← EReal.coe_add]

/-- Two states stepped side by side go their own ways. -/
theorem iter_pair {A B : Type} (f : ℕ → A → A) (g : ℕ → B → B) (n : ℕ) (s : A × B) :
    iter (fun k s => (f k s.1, g k s.2)) n s = (iter f n s.1, iter g n s.2) := by
  induction n with
  | zero => rfl
  | succ n ih => simp only [iter, ih]

/-- So do the two running vectors of a tile. -/
theorem tileV_eq (w : ℕ) :
    tileV fx fg w = (iter (fun r => iter (rowV fx fg w r) 16) 8 Tile.zeros, iter (fun r => Tile.addCnt (tgt fg w r)) 8 Tile.zeros) :=
  iter_pair (fun r => iter (rowV fx fg w r) 16) (fun r => Tile.addCnt (tgt fg w r)) 8 (Tile.zeros, Tile.zeros)

/-- The sums start at zero. -/
theorem zeros_val (l : Fin 16) : (Tile.zeros : FVec Ideal S16 .f32) (ix1 l) = (((fun _ => 0 : ℕ → ℝ) l : ℝ) : EReal) :=
  ofBits0.trans EReal.coe_zero.symm

/-- The gathered logits of a tile, lane by lane. -/
theorem tileV_gathered (hx : Reals fx) (w : ℕ) (l : Fin 16) :
    (tileV fx fg w).1 (ix1 l)
      = ((∑ r ∈ range 8, ∑ k ∈ range 16, ∑ c ∈ range 8, pick fx fg (128 * w + 16 * r + k) l c : ℝ) : EReal) := by
  rw [tileV_eq]
  have h := iter_add (fun r => iter (rowV fx fg w r) 16) (fun r l => ∑ k ∈ range 16, ∑ c ∈ range 8, pick fx fg (128 * w + 16 * r + k) l c) 8
    (fun r hr s σ hs l => iter_add (rowV fx fg w r) (fun k l => ∑ c ∈ range 8, pick fx fg (128 * w + 16 * r + k) l c) 16
      (fun k hk s σ hs l => rowV_val fx fg hx w r k hr hk s σ hs l) s σ hs l) Tile.zeros (fun _ => 0) zeros_val l
  rw [zero_add] at h
  exact h

/-- The counted rows of a tile, lane by lane. -/
theorem tileV_counted (w : ℕ) (l : Fin 16) :
    (tileV fx fg w).2 (ix1 l) = ((∑ r ∈ range 8, (if T fg (128 * w + 16 * r + l) ≠ 0 then 1 else 0) : ℝ) : EReal) := by
  rw [tileV_eq]
  have h := iter_add (fun r => Tile.addCnt (tgt fg w r)) (fun r l => if T fg (128 * w + 16 * r + l) ≠ 0 then 1 else 0) 8
    (fun r hr s σ hs l => addCnt_val fg w r hr s σ hs l) Tile.zeros (fun _ => 0) zeros_val l
  rw [zero_add] at h
  exact h

end Cert.KernelIdeal.Val

end
-- ==== Proof.VTc.lean ====
/- What the dense kernel adds up, over the extended reals. -/
module

public import proofs.«01_k».proof.Proof.KIMain
public import proofs.«01_k».proof.Proof.VTile

@[expose] public section

set_option maxRecDepth 16384

noncomputable section

namespace Cert.KernelIdeal.Val

open Cert.KernelIdeal Cert.KernelIdeal.Gen Cert.KernelIdeal.Sc
open Idealize.ShloMosaic
open Idealize.ShloMosaic.ValueIdx hiding ix1 ix2 ix3
open Finset

/-- The part of one block of rows, before any reading of the floats as real numbers. -/
theorem pay_eq (x2 : Vec Ideal S256x16384 .f32) (x1 : Vec Ideal S1x1x256 .i32) (z : Ideal .f32) :
    k0_pay1 x2 x1 z = (z : EReal) + (Named.named κ "smooth" 0x36CCD333#32 : Ideal .f32)
      * ∑ j : Fin 256, (if IntOp.cmpi .ne (x1 (ix3 0 0 j)) 0#32 = 1#1 then (∑ k : Fin 16384, x2 (ix2 j k)) - x2 (ix2 j 0) else 0 : EReal) := by
  unfold k0_pay1
  simp only [pointwise]
  refine congrArg (fun y : EReal => (z : EReal) + (Named.named κ "smooth" 0x36CCD333#32 : Ideal .f32) * y) (sum_congr rfl fun j _ => ?_)
  have e : ∀ h, (⟨(![0, 0] : Fin 2 → ℕ) 0 + j.val, h⟩ : Fin 256) = j := fun h => Fin.ext (Nat.zero_add _)
  rw [e]
  rfl

/-- The dense kernel's scale. -/
theorem smooth_eq : (Named.named κ "smooth" 0x36CCD333#32 : Ideal .f32) = ((Cert.Loss.sv : ℝ) : EReal) := rfl

/-- The part of one block whose entries are real numbers. -/
theorem pay_val (x2 : Vec Ideal S256x16384 .f32) (x1 : Vec Ideal S1x1x256 .i32) (z : ℝ) (Y : ℕ → ℕ → ℝ) (U : ℕ → ℕ)
    (h2 : ∀ (j : Fin 256) (k : Fin 16384), x2 (ix2 j k) = ((Y j k : ℝ) : EReal)) (h1 : ∀ j : Fin 256, (x1 (ix3 0 0 j) : BitVec 32).toNat = U j) :
    k0_pay1 x2 x1 ((z : ℝ) : EReal)
      = ((z + Cert.Loss.sv * ∑ j ∈ range 256, (if U j ≠ 0 then ∑ k ∈ range 16384, Y j k - Y j 0 else 0) : ℝ) : EReal) := by
  rw [pay_eq, smooth_eq]
  have e : ∀ j : Fin 256, (if IntOp.cmpi .ne (x1 (ix3 0 0 j)) 0#32 = 1#1 then (∑ k : Fin 16384, x2 (ix2 j k)) - x2 (ix2 j 0) else 0 : EReal)
      = (((fun j => if U j ≠ 0 then ∑ k ∈ range 16384, Y j k - Y j 0 else 0 : ℕ → ℝ) j : ℝ) : EReal) := by
    intro j
    have ec : IntOp.cmpi .ne (x1 (ix3 0 0 j) : BitVec 32) 0#32 = 1#1 ↔ U j ≠ 0 := by
      rw [IntOp.cmpi_ne, ne_eq, ← BitVec.toNat_inj, h1, BitVec.toNat_ofNat, Nat.zero_mod]
    by_cases h : U j ≠ 0
    · rw [if_pos (ec.mpr h), sum_congr rfl fun k _ => h2 j k, Cert.Loss.coe_sum_fin 16384 (Y j), h2]
      exact (EReal.coe_sub _ _).symm.trans (congrArg _ (if_pos h).symm)
    · rw [if_neg (fun e => h (ec.mp e))]
      exact EReal.coe_zero.symm.trans (congrArg _ (if_neg h).symm)
  rw [sum_congr rfl fun j _ => e j, Cert.Loss.coe_sum_fin 256 (fun j => if U j ≠ 0 then ∑ k ∈ range 16384, Y j k - Y j 0 else 0), ← EReal.coe_mul, ← EReal.coe_add]

/-- The blocks of the logits are cut row-wise, -/
theorem idx1 : ∀ t : Fin cfg0.N, win0_1.index t (0 : Fin 2) = t.val ∧ win0_1.index t (1 : Fin 2) = 0 :=
  (by decide +kernel : ∀ t : Fin grid0.N, _)
/-- and so are those of the targets. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The result is one block. -/
theorem idx2 : ∀ t : Fin cfg0.N, win0_2.index t (0 : Fin 2) = 0 ∧ win0_2.index t (1 : Fin 2) = 0 :=
  (by decide +kernel : ∀ t : Fin grid0.N, _)

/-- There are sixteen blocks. -/
theorem t_lt (t : Fin cfg0.N) : t.val < 16 := Nat.lt_of_lt_of_eq t.isLt N_0

/-- Where an entry of a block of logits lies. -/
theorem emb1 (t : Fin cfg0.N) (j : Fin 256) (k : Fin 16384) :
    ((cfg0.win 1).blk t).view.emb (ix2 j k : S256x16384.Idx) = (ix2 ⟨256 * t.val + j.val, by have := t_lt t; omega⟩ k : S4096x16384.Idx) := by
  obtain ⟨e0, e1⟩ := idx1 t
  funext a; apply Fin.ext
  match a with
  | ⟨0, _⟩ => show win0_1.index t (0 : Fin 2) * 256 + 1 * j.val = 256 * t.val + j.val; omega
  | ⟨1, _⟩ => show win0_1.index t (1 : Fin 2) * 16384 + 1 * k.val = k.val; omega

/-- Where an entry of a block of targets lies. -/
theorem emb0 (t : Fin cfg0.N) (j : Fin 256) :
    ((cfg0.win 0).blk t).view.emb (ix3 0 0 j : S1x1x256.Idx) = (ix3 ⟨t.val, t_lt t⟩ 0 j : S16x1x256.Idx) := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 256 + 1 * j.val = j.val; omega

variable (m : (ℓ : Loc nD τ sig) → Buf (Elt Ideal) ℓ) (d : Dev nD)

/-- The logits a block holds. -/
theorem blk1 (t : Fin cfg0.N) (j : Fin 256) (k : Fin 16384) :
    (blkOf (W1 m d) 1 t : Vec Ideal S256x16384 .f32) (ix2 j k) = (at2 (F := Ideal) (m (xLoc d)) (256 * t.val + j.val) k.val : Ideal .f32) := by
  have hx : W1 m d (Proc.devRef .tc main_arg0) = m (xLoc d) := by
    unfold W1
    rw [StableHlo.reshape_result_ne (h := by decide)]
    rfl
  show W1 m d (Proc.devRef .tc main_arg0) (((cfg0.win 1).blk t).view.emb (ix2 j k : S256x16384.Idx)) = _
  rw [emb1, hx, ix2_eq_valueIdx]
  unfold at2
  have := t_lt t
  congr 2
  · exact Fin.ext (Nat.mod_eq_of_lt (by omega)).symm
  · exact Fin.ext (Nat.mod_eq_of_lt (by omega)).symm

/-- The targets a block holds. -/
theorem blk0 (t : Fin cfg0.N) (j : Fin 256) :
    (blkOf (W1 m d) 0 t (ix3 0 0 j : S1x1x256.Idx) : BitVec 32).toNat = T (m (gLoc d)) (256 * t.val + j.val) := by
  have hg : W1 m d (Proc.devRef .tc main_v0) = shapeCast S16x1x256 (m (gLoc d)) shapeCasts_S4096_S16x1x256 := by
    unfold W1
    exact StableHlo.reshape_result ..
  show (W1 m d (Proc.devRef .tc main_v0) (((cfg0.win 0).blk t).view.emb (ix3 0 0 j : S1x1x256.Idx)) : BitVec 32).toNat = _
  rw [emb0, hg]
  simp only [pointwise]
  unfold T
  rw [ix1_eq_valueIdx]
  have := t_lt t
  congr 3
  exact Fin.ext ((by show t.val * 256 + j.val = _; omega : t.val * 256 + j.val = 256 * t.val + j.val).trans (Nat.mod_eq_of_lt (by omega)).symm)

/-- The dense part: over the rows so far whose target is not the padding class, the smoothing share times the
logits of the classes other than the padding class. -/
theorem accV_val (hx : Reals (m (xLoc d))) : ∀ n, n ≤ 16 → accV (W1 m d) n
    = ((∑ t ∈ range n, Cert.Loss.sv * ∑ j ∈ range 256, (if T (m (gLoc d)) (256 * t + j) ≠ 0
        then ∑ k ∈ range 16384, X (m (xLoc d)) (256 * t + j) k - X (m (xLoc d)) (256 * t + j) 0 else 0) : ℝ) : EReal)
  | 0, _ => by
    rw [range_zero, sum_empty]
    exact Idealize.ShloMosaic.Ideal.ofBits_zero_f32
  | n + 1, h => by
    have hn : n < cfg0.N := Nat.lt_of_lt_of_eq (by omega) N_0.symm
    rw [accV_succ (W1 m d) ⟨n, hn⟩, accV_val hx n (by omega), sum_range_succ]
    exact pay_val _ _ _ (fun j k => X (m (xLoc d)) (256 * n + j) k) (fun j => T (m (gLoc d)) (256 * n + j))
      (fun j k => (blk1 m d ⟨n, hn⟩ j k).trans (hx _ _)) (fun j => blk0 m d ⟨n, hn⟩ j)

/-- What the dense kernel leaves in its result. -/
theorem dense_out (b : ℕ) : (tcDat (W1 m) b d).arrAt 2 cfg0.N = cellOfWord (accV (W1 m d) 16) := by
  refine Pipeline.Dat.arrAt_eq_of_cover _ 2 _ (fun t ht => ?_) (fun i => ?_)
  · have e : t.val + 1 = 16 := by have := (flush0_2 t).mp ht; have := t_lt t; omega
    show (cfg0.win 2).cut (grid0.coords t) (cellOfWord (accV (W1 m d) (t.val + 1))) = _
    rw [e]
    rfl
  · have h15 : 15 < cfg0.N := Nat.lt_of_lt_of_eq (by omega) N_0.symm
    refine ⟨⟨15, h15⟩, (flush0_2 _).mpr rfl, ?_⟩
    show i ∈ ((View.whole main_v1).slice (win0_2.rect ⟨15, h15⟩)).set
    rw [View.set_slice_whole, Rect.mem_set_unit]
    obtain ⟨e0, e1⟩ := idx2 ⟨15, h15⟩
    have i0 : (i (0 : Fin 2)).val < 1 := (i (0 : Fin 2)).isLt
    have i1 : (i (1 : Fin 2)).val < 1 := (i (1 : Fin 2)).isLt
    intro a
    match a with
    | ⟨0, _⟩ =>
      show win0_2.index ⟨15, h15⟩ (0 : Fin 2) * 1 ≤ (i (0 : Fin 2)).val ∧ (i (0 : Fin 2)).val < win0_2.index ⟨15, h15⟩ (0 : Fin 2) * 1 + 1
      omega
    | ⟨1, _⟩ =>
      show win0_2.index ⟨15, h15⟩ (1 : Fin 2) * 1 ≤ (i (1 : Fin 2)).val ∧ (i (1 : Fin 2)).val < win0_2.index ⟨15, h15⟩ (1 : Fin 2) * 1 + 1
      omega

end Cert.KernelIdeal.Val

end
-- ==== Proof.VHost.lean ====
/- The kernel's result over the extended reals: what is left of it after the host's sums. -/
module

public import proofs.«01_k».proof.Proof.VTc

@[expose] public section

set_option maxRecDepth 16384

noncomputable section

namespace Cert.KernelIdeal.Val

open Cert.KernelIdeal Cert.KernelIdeal.Gen Cert.KernelIdeal.Sc
open Idealize.ShloMosaic Idealize.ShloMosaic.StableHlo
open Idealize.ShloMosaic.ValueIdx hiding ix1 ix2 ix3
open Finset

/-- The host's sums of the two kernels' results. -/
def joined (v1 : Vec Ideal S1x1 .f32) (v2 : Vec Ideal S32x2x16 .f32) : Vec Ideal S_ .f32 :=
  subf (subf (Host.reduceAdd (shapeCast S32x16 (extractStridedSlice S32x1x16 ![0, 1, 0] v2 slices_S32x2x16_S32x1x16_0_1_0) shapeCasts_S32x1x16_S32x16) (constant (F := Ideal) S_ .f32 0x00000000#32) reducesTo_S32x16_S_d0_1 h_S_)
      (shapeCast S_ v1 shapeCasts_S1x1_S_))
    (Host.reduceAdd (shapeCast S32x16 (extractStridedSlice S32x1x16 ![0, 0, 0] v2 slices_S32x2x16_S32x1x16_0_0_0) shapeCasts_S32x1x16_S32x16) (constant (F := Ideal) S_ .f32 0x00000000#32) reducesTo_S32x16_S_d0_1 h_S_)

variable (m : (ℓ : Loc nD τ sig) → Buf (Elt Ideal) ℓ) (d : Dev nD)

/-- The host's operations after the kernels are those. -/
theorem W4_out : W4 m d (Proc.devRef .tc main_v11) = joined (W3 m d (Proc.devRef .tc main_v1)) (W3 m d (Proc.devRef .tc main_v2)) := by
  unfold W4 joined
  after_results
  rfl

/-- Those sums, written out. -/
theorem joined_val (z : EReal) (v2 : Vec Ideal S32x2x16 .f32) (j : S_.Idx) :
    joined (fun _ => z) v2 j = ((∑ w : Fin 32, ∑ l : Fin 16, v2 (ix3 w 1 l)) - z - ∑ w : Fin 32, ∑ l : Fin 16, v2 (ix3 w 0 l) : EReal) := by
  unfold joined
  simp only [pointwise]
  have e32 : ∀ (w : Fin 32) (h), (⟨0 + w.val, h⟩ : Fin 32) = w := fun w h => Fin.ext (Nat.zero_add _)
  have e16 : ∀ (l : Fin 16) (h), (⟨0 + l.val, h⟩ : Fin 16) = l := fun l h => Fin.ext (Nat.zero_add _)
  rw [zero_add, zero_add]
  refine congrArg₂ (fun a b : EReal => a - z - b) ?_ ?_
  · exact sum_congr rfl fun w _ => sum_congr rfl fun l _ => congrArg₂ (fun a b => v2 (ix3 a 1 b)) (e32 w _) (e16 l _)
  · exact sum_congr rfl fun w _ => sum_congr rfl fun l _ => congrArg₂ (fun a b => v2 (ix3 a 0 b)) (e32 w _) (e16 l _)

/-- The counts' vectors after scaling, -/
theorem out_counted (fx : FVec Ideal S4096x16384 .f32) (fg : IVec S4096 32) (w : Fin 32) (l : Fin 16) :
    outV fx fg (ix3 w 1 l) = (((∑ r ∈ range 8, (if T fg (128 * w + 16 * r + l) ≠ 0 then 1 else 0)) * Cert.Loss.rc : ℝ) : EReal) := by
  show (tileV fx fg w.val).2 (ix1 l) * ((Cert.Loss.rc : ℝ) : EReal) = _
  rw [tileV_counted, EReal.coe_mul]

/-- and the gathered entries'. -/
theorem out_gathered (fx : FVec Ideal S4096x16384 .f32) (fg : IVec S4096 32) (hx : Reals fx) (w : Fin 32) (l : Fin 16) :
    outV fx fg (ix3 w 0 l) = (((∑ r ∈ range 8, ∑ k ∈ range 16, ∑ c ∈ range 8, pick fx fg (128 * w + 16 * r + k) l c) * Cert.Loss.gw : ℝ) : EReal) := by
  show (tileV fx fg w.val).1 (ix1 l) * ((Cert.Loss.gw : ℝ) : EReal) = _
  rw [tileV_gathered _ _ hx, EReal.coe_mul]

/-- The counts' sum over all subcores and lanes, -/
theorem sum_counted (fx : FVec Ideal S4096x16384 .f32) (fg : IVec S4096 32) :
    ∑ w : Fin 32, ∑ l : Fin 16, (outV fx fg (ix3 w 1 l) : EReal)
      = ((∑ w ∈ range 32, ∑ l ∈ range 16, (∑ r ∈ range 8, (if T fg (128 * w + 16 * r + l) ≠ 0 then 1 else 0)) * Cert.Loss.rc : ℝ) : EReal) := by
  rw [← Cert.Loss.coe_sum_fin 32 (fun w => ∑ l ∈ range 16, (∑ r ∈ range 8, (if T fg (128 * w + 16 * r + l) ≠ 0 then 1 else 0)) * Cert.Loss.rc)]
  refine sum_congr rfl fun w _ => ?_
  rw [← Cert.Loss.coe_sum_fin 16 (fun l => (∑ r ∈ range 8, (if T fg (128 * w + 16 * r + l) ≠ 0 then 1 else 0)) * Cert.Loss.rc)]
  exact sum_congr rfl fun l _ => out_counted fx fg w l

/-- and the gathered entries'. -/
theorem sum_gathered (fx : FVec Ideal S4096x16384 .f32) (fg : IVec S4096 32) (hx : Reals fx) :
    ∑ w : Fin 32, ∑ l : Fin 16, (outV fx fg (ix3 w 0 l) : EReal)
      = ((∑ w ∈ range 32, ∑ l ∈ range 16, (∑ r ∈ range 8, ∑ k ∈ range 16, ∑ c ∈ range 8, pick fx fg (128 * w + 16 * r + k) l c) * Cert.Loss.gw : ℝ) : EReal) := by
  rw [← Cert.Loss.coe_sum_fin 32 (fun w => ∑ l ∈ range 16, (∑ r ∈ range 8, ∑ k ∈ range 16, ∑ c ∈ range 8, pick fx fg (128 * w + 16 * r + k) l c) * Cert.Loss.gw)]
  refine sum_congr rfl fun w _ => ?_
  rw [← Cert.Loss.coe_sum_fin 16 (fun l => (∑ r ∈ range 8, ∑ k ∈ range 16, ∑ c ∈ range 8, pick fx fg (128 * w + 16 * r + k) l c) * Cert.Loss.gw)]
  exact sum_congr rfl fun l _ => out_gathered fx fg hx w l

/-- The host's operations on what the two kernels leave. -/
theorem joined_total (fx : FVec Ideal S4096x16384 .f32) (fg : IVec S4096 32) (hx : Reals fx) (hT : ∀ a, T fg a < 16384) (z : Ideal .f32)
    (hz : z = ((∑ t ∈ range 16, Cert.Loss.sv * ∑ j ∈ range 256, (if T fg (256 * t + j) ≠ 0
        then ∑ k ∈ range 16384, X fx (256 * t + j) k - X fx (256 * t + j) 0 else 0) : ℝ) : EReal)) :
    joined (fun _ => z) (outV fx fg) = fun _ => ((∑ a ∈ range 4096, ∑ b ∈ range 16384, Cert.Loss.entry (T fg a) b (X fx a b) : ℝ) : EReal) := by
  funext j
  rw [joined_val, sum_counted, sum_gathered fx fg hx, hz, ← EReal.coe_sub, ← EReal.coe_sub]
  exact congrArg _ (Cert.Loss.total (T fg) (X fx) hT)

/-- The kernel's result as the reference's sum of real numbers. -/
theorem kernel_val (hx : Reals (m (xLoc d))) (hT : ∀ a, T (m (gLoc d)) a < 16384) :
    W4 m d (Proc.devRef .tc main_v11) = fun _ => ((∑ a ∈ range 4096, ∑ b ∈ range 16384, Cert.Loss.entry (T (m (gLoc d)) a) b (X (m (xLoc d)) a b) : ℝ) : EReal) := by
  have h1 : W3 m d (Proc.devRef .tc main_v1) = cellOfWord (accV (W1 m d) 16) :=
    (Function.update_of_ne (StableHlo.devRef_ne_of_ne (by decide)) _ _).trans ((afterTc_v1 (W1 m) 0 d).trans (dense_out m d 0))
  have h2 : W3 m d (Proc.devRef .tc main_v2) = scOut m d := Function.update_self _ _ _
  refine (W4_out m d).trans ?_
  rw [h1, h2]
  exact joined_total (m (xLoc d)) (m (gLoc d)) hx hT (accV (W1 m d) 16) (accV_val m d hx 16 le_rfl)

end Cert.KernelIdeal.Val
-- ==== Proof.VRef.lean ====
module

public import proofs.«01_k».proof.Proof.Gen.ReferenceIdeal.Run
public import proofs.«01_k».proof.Proof.Sums
public import Idealize.ShloMosaic.Lib.IdealHost
public import Idealize.ShloMosaic.Lib.Pointwise
public import Idealize.ShloMosaic.Lib.Routing.OpsSet
public import Idealize.ShloMosaic.Lib.Routing.OpsOne
public import Idealize.ShloMosaic.Lib.Affine

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.ValueIdx hiding ix1 ix2 ix3
open Finset

/-- The pairs of row and target the reference scatters at. -/
def pairs (g : IVec S4096 32) : IVec S4096x2 32 :=
  concatenate S4096x2 1 [⟨S4096x1, (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)))⟩, ⟨S4096x1, (broadcastInDim S4096x1 ![0] bcast_S4096_S4096x1_0 (select (cmpi .slt g (broadcastInDim S4096 ![] bcast_S_S4096 (constantI S_ 32 0#32))) (addi g (broadcastInDim S4096 ![] bcast_S_S4096 (constantI S_ 32 16384#32))) g))⟩] concatenates_S4096x1_S4096x1_S4096x2_d1

/-- The smoothed distribution before the padding class is cleared. -/
def raw (g : IVec S4096 32) : Vec Ideal S4096x16384 .f32 :=
  Host.scatter scatter_S4096x16384_S4096x2_S4096_n_01_01_1 (fun _ b => b) (broadcastInDim S4096x16384 ![] bcast_S_S4096x16384 (Host.divf (Host.divf (constant (F := Ideal) S_ .f32 0x3F800000#32) (constant (F := Ideal) S_ .f32 0x41200000#32)) (constant (F := Ideal) S_ .f32 0x467FF800#32))) (pairs g) (broadcastInDim S4096 ![] bcast_S_S4096 (subf (constant (F := Ideal) S_ .f32 0x3F800000#32) (Host.divf (constant (F := Ideal) S_ .f32 0x3F800000#32) (constant (F := Ideal) S_ .f32 0x41200000#32))))

/-- The smoothed distribution: the padding class has no probability, and a row whose target is the padding class is all zero. -/
def dist (g : IVec S4096 32) : Vec Ideal S4096x16384 .f32 :=
  select (broadcastInDim S4096x16384 ![0, 1] bcast_S4096x1_S4096x16384_0_1 (broadcastInDim S4096x1 ![0] bcast_S4096_S4096x1_0 (cmpi .eq g (broadcastInDim S4096 ![] bcast_S_S4096 (constantI S_ 32 0#32))))) (broadcastInDim S4096x16384 ![] bcast_S_S4096x16384 (id (constant (F := Ideal) S_ .f32 0x00000000#32))) (Host.scatter scatter_S4096x16384_S1_S4096_0_1_1_0 (fun _ b => b) (raw g) (broadcastInDim S1 ![] bcast_S_S1 (constantI S_ 32 0#32)) (broadcastInDim S4096 ![] bcast_S_S4096 (constant (F := Ideal) S_ .f32 0x00000000#32)))

/-- Probability times log-probability less logit, where there is any probability. -/
def terms (x p : Vec Ideal S4096x16384 .f32) : Vec Ideal S4096x16384 .f32 :=
  select (cmpf .ogt p (broadcastInDim S4096x16384 ![] bcast_S_S4096x16384 (constant (F := Ideal) S_ .f32 0x00000000#32)))
    (mulf p (subf (Host.log (select (cmpf .ogt p (broadcastInDim S4096x16384 ![] bcast_S_S4096x16384 (constant (F := Ideal) S_ .f32 0x00000000#32))) p (broadcastInDim S4096x16384 ![] bcast_S_S4096x16384 (id (constant (F := Ideal) S_ .f32 0x3F800000#32))))) x))
    (broadcastInDim S4096x16384 ![] bcast_S_S4096x16384 (id (constant (F := Ideal) S_ .f32 0x00000000#32)))

/-- The reference's result: the sum of those terms. -/
theorem res_eq (m : (ℓ : Loc nD τ sig) → Buf (Elt Ideal) ℓ) (c : Dev nD) :
    Value.res_main_v36 m c = (Host.reduceAdd (terms (m ((c.tc : Thread nD τ).loc main_arg0)) (dist (m ((c.tc : Thread nD τ).loc main_arg1)))) (constant (F := Ideal) S_ .f32 0x00000000#32) reducesTo_S4096x16384_S_d0_1 h_S_ : Vec Ideal S_ .f32) := by
  unfold Value.res_main_v36 terms dist raw pairs
  rfl

/-- The first of two columns side by side, -/
theorem cols0 (a b : IVec S4096x1 32) (h) (k : Fin 4096) : concatenate S4096x2 1 [⟨S4096x1, a⟩, ⟨S4096x1, b⟩] h (ix2 k 0) = a (ix2 k 0) := by
  simp only [pointwise]
  rfl
/-- and the second. -/
theorem cols1 (a b : IVec S4096x1 32) (h) (k : Fin 4096) : concatenate S4096x2 1 [⟨S4096x1, a⟩, ⟨S4096x1, b⟩] h (ix2 k 1) = b (ix2 k 0) := by
  refine congrArg b (funext fun x => ?_)
  match x with
  | ⟨0, _⟩ => exact Fin.ext rfl
  | ⟨1, _⟩ => exact Fin.ext rfl

/-- A vector as one column. -/
theorem col_at (a : IVec S4096 32) (k : Fin 4096) : broadcastInDim S4096x1 ![0] bcast_S4096_S4096x1_0 a (ix2 k 0) = a (ix1 k) := by
  simp only [pointwise]
  rfl

/-- The first word of a pair is the row, -/
theorem pairs0 (g : IVec S4096 32) (k : Fin 4096) : (pairs g (ix2 k 0)).toInt = k.val := by
  unfold pairs
  have h := k.isLt
  rw [cols0, col_at]
  show (Scalar.select (IntOp.cmpi .slt (BitVec.ofNat 32 k.val) 0#32) _ (BitVec.ofNat 32 k.val)).toInt = _
  rw [Routing.wrap_of_lt _ _ (by rw [BitVec.toNat_ofNat]; omega), StableHlo.Predicate.toInt_ofNat_small _ (by omega)]

/-- and the second is the target. -/
theorem pairs1 (g : IVec S4096 32) (k : Fin 4096) (h : (g (ix1 k)).toNat < 16384) : (pairs g (ix2 k 1)).toInt = (g (ix1 k)).toNat := by
  unfold pairs
  rw [cols1, col_at]
  show (Scalar.select (IntOp.cmpi .slt (g (ix1 k)) 0#32) _ (g (ix1 k))).toInt = _
  rw [Routing.wrap_of_lt _ _ (by omega), BitVec.toInt_eq_toNat_of_lt (by omega)]

/-- The update of row `k` lands at the entry its two words name. -/
theorem lands (idx : IVec S4096x2 32) (k r : Fin 4096) (c : Fin 16384) :
    scatter_S4096x16384_S4096x2_S4096_n_01_01_1.resultIdx? (ix1 k) idx = some (ix2 r c) ↔ (idx (ix2 k 0)).toInt = r.val ∧ (idx (ix2 k 1)).toInt = c.val := by
  have hs0 : ∀ h, scatter_S4096x16384_S4096x2_S4096_n_01_01_1.siIdx (ix1 k) ⟨0, h⟩ = ix2 k 0 := fun h => by
    funext b
    match b with
    | ⟨0, _⟩ => exact Fin.ext rfl
    | ⟨1, _⟩ => exact Fin.ext rfl
  have hs1 : ∀ h, scatter_S4096x16384_S4096x2_S4096_n_01_01_1.siIdx (ix1 k) ⟨1, h⟩ = ix2 k 1 := fun h => by
    funext b
    match b with
    | ⟨0, _⟩ => exact Fin.ext rfl
    | ⟨1, _⟩ => exact Fin.ext rfl
  have e0 : scatter_S4096x16384_S4096x2_S4096_n_01_01_1.start (ix1 k) idx 0 = (idx (ix2 k 0)).toInt := by
    rw [← hs0 (by decide)]
    rfl
  have e1 : scatter_S4096x16384_S4096x2_S4096_n_01_01_1.start (ix1 k) idx 1 = (idx (ix2 k 1)).toInt := by
    rw [← hs1 (by decide)]
    rfl
  have w0 : scatter_S4096x16384_S4096x2_S4096_n_01_01_1.window (ix1 k) 0 = 0 := rfl
  have w1 : scatter_S4096x16384_S4096x2_S4096_n_01_01_1.window (ix1 k) 1 = 0 := rfl
  rw [show (some (ix2 r c) = some (ValueIdx.ix2 r c)) from rfl, Routing.resultIdx?_ix2, e0, e1, w0, w1]
  omega

/-- A vector spread along the rows of a matrix. -/
theorem mask_at (a : IVec S4096 1) (r : Fin 4096) (c : Fin 16384) :
    broadcastInDim S4096x16384 ![0, 1] bcast_S4096x1_S4096x16384_0_1 (broadcastInDim S4096x1 ![0] bcast_S4096_S4096x1_0 a) (ix2 r c) = a (ix1 r) := by
  simp only [pointwise]
  rfl

/-- The constant ten, -/
theorem ten_f32 : Idealize.ShloMosaic.Ideal.ofBits .f32 0x41200000#32 = ((10 : ℝ) : EReal) := by
  simp [Idealize.ShloMosaic.Ideal.ofBits, Idealize.ShloMosaic.Ideal.ieee, -EReal.coe_mul]; norm_num

/-- and the number of classes that are neither the target nor the padding class. -/
theorem others_f32 : Idealize.ShloMosaic.Ideal.ofBits .f32 0x467FF800#32 = ((16382 : ℝ) : EReal) := by
  simp [Idealize.ShloMosaic.Ideal.ofBits, Idealize.ShloMosaic.Ideal.ieee, -EReal.coe_mul]; norm_num

/-- One tenth, -/
theorem tenth : Idealize.ShloMosaic.Ideal.div (1 : EReal) ((10 : ℝ) : EReal) = ((1 / 10 : ℝ) : EReal) := by
  rw [Idealize.ShloMosaic.Ideal.div_coe (by norm_num), one_mul]

/-- shared by the classes that are neither the target nor the padding class. -/
theorem share : Idealize.ShloMosaic.Ideal.div ((1 / 10 : ℝ) : EReal) ((16382 : ℝ) : EReal) = ((Cert.Loss.sv : ℝ) : EReal) := by
  rw [Idealize.ShloMosaic.Ideal.div_coe (by norm_num), ← EReal.coe_mul]
  congr 1
  unfold Cert.Loss.sv
  norm_num

/-- The rest is the target's. -/
theorem rest : (1 : EReal) - ((1 / 10 : ℝ) : EReal) = ((Cert.Loss.sv + Cert.Loss.gw : ℝ) : EReal) := by
  rw [← EReal.coe_one, ← EReal.coe_sub]
  congr 1
  unfold Cert.Loss.sv Cert.Loss.gw
  norm_num

/-- The distribution before the padding class is cleared, entry by entry. -/
theorem raw_at (g : IVec S4096 32) (r : Fin 4096) (c : Fin 16384) (hg : ∀ k : Fin 4096, (g (ix1 k)).toNat < 16384) :
    raw g (ix2 r c) = if c.val = (g (ix1 r)).toNat then ((Cert.Loss.sv + Cert.Loss.gw : ℝ) : EReal) else ((Cert.Loss.sv : ℝ) : EReal) := by
  have hl : ∀ k : S4096.Idx, scatter_S4096x16384_S4096x2_S4096_n_01_01_1.resultIdx? k (pairs g) = some (ix2 r c) ↔ k 0 = r ∧ c.val = (g (ix1 r)).toNat := fun k => by
    obtain ⟨k, rfl⟩ : ∃ k' : Fin 4096, k = ix1 k' := ⟨k 0, ValueIdx.eq_ix1 k⟩
    rw [lands, pairs0, pairs1 g k (hg k)]
    show _ ↔ k = r ∧ _
    constructor
    · rintro ⟨a, b⟩
      obtain rfl : k = r := Fin.ext (by omega)
      exact ⟨rfl, by omega⟩
    · rintro ⟨rfl, b⟩
      exact ⟨rfl, by omega⟩
  unfold raw
  by_cases h : c.val = (g (ix1 r)).toNat
  · rw [if_pos h]
    refine Routing.scatter_set_hit _ _ _ _ _ _ (fun k _ => ?_) (ix1 r) ((hl _).mpr ⟨rfl, h⟩)
    show (Idealize.ShloMosaic.Ideal.ofBits .f32 0x3F800000#32 : EReal) - Idealize.ShloMosaic.Ideal.div (Idealize.ShloMosaic.Ideal.ofBits .f32 0x3F800000#32) (Idealize.ShloMosaic.Ideal.ofBits .f32 0x41200000#32) = _
    rw [Idealize.ShloMosaic.Ideal.ofBits_one_f32, ten_f32, tenth, rest]
  · rw [if_neg h, Routing.scatter_set_miss _ _ _ _ _ (fun k hk => h ((hl k).mp hk).2)]
    show Idealize.ShloMosaic.Ideal.div (Idealize.ShloMosaic.Ideal.div (Idealize.ShloMosaic.Ideal.ofBits .f32 0x3F800000#32) (Idealize.ShloMosaic.Ideal.ofBits .f32 0x41200000#32)) (Idealize.ShloMosaic.Ideal.ofBits .f32 0x467FF800#32) = _
    rw [Idealize.ShloMosaic.Ideal.ofBits_one_f32, ten_f32, others_f32, tenth, share]

/-- The distribution, entry by entry. -/
theorem dist_at (g : IVec S4096 32) (r : Fin 4096) (c : Fin 16384) (hg : ∀ k : Fin 4096, (g (ix1 k)).toNat < 16384) :
    dist g (ix2 r c) = if (g (ix1 r)).toNat = 0 ∨ c.val = 0 then (0 : EReal)
      else if c.val = (g (ix1 r)).toNat then ((Cert.Loss.sv + Cert.Loss.gw : ℝ) : EReal) else ((Cert.Loss.sv : ℝ) : EReal) := by
  have hz : (g (ix1 r) : BitVec 32) = 0#32 ↔ (g (ix1 r)).toNat = 0 := by
    rw [← BitVec.toNat_inj, BitVec.toNat_ofNat, Nat.zero_mod]
  have hl : ∀ k : S4096.Idx, scatter_S4096x16384_S1_S4096_0_1_1_0.resultIdx? k (broadcastInDim S1 ![] bcast_S_S1 (constantI S_ 32 0#32)) = some (ix2 r c) ↔ k 0 = r ∧ c = 0 := fun k => by
    obtain ⟨k, rfl⟩ : ∃ k' : Fin 4096, k = ix1 k' := ⟨k 0, ValueIdx.eq_ix1 k⟩
    exact Routing.lands_col _ rfl rfl _ 0 rfl k r c
  have hc : (c = 0) ↔ c.val = 0 := Fin.ext_iff
  unfold dist
  rw [select_apply, mask_at]
  show Scalar.select (IntOp.cmpi .eq (g (ix1 r)) 0#32) (Idealize.ShloMosaic.Ideal.ofBits .f32 0x00000000#32) (Host.scatter scatter_S4096x16384_S1_S4096_0_1_1_0 (fun _ b => b) (raw g) (broadcastInDim S1 ![] bcast_S_S1 (constantI S_ 32 0#32)) (broadcastInDim S4096 ![] bcast_S_S4096 (constant (F := Ideal) S_ .f32 0x00000000#32)) (ix2 r c)) = _
  have hq : IntOp.cmpi .eq (g (ix1 r) : BitVec 32) 0#32 = 1 ↔ (g (ix1 r)).toNat = 0 := (IntOp.cmpi_eq ..).trans hz
  unfold Scalar.select
  by_cases h0 : (g (ix1 r)).toNat = 0
  · rw [if_pos (hq.mpr h0), if_pos (Or.inl h0), Idealize.ShloMosaic.Ideal.ofBits_zero_f32]
  · rw [if_neg (fun e => h0 (hq.mp e))]
    by_cases h1 : c.val = 0
    · rw [if_pos (Or.inr h1)]
      refine Routing.scatter_set_hit _ _ _ _ _ _ (fun k _ => ?_) (ix1 r) ((hl _).mpr ⟨rfl, hc.mpr h1⟩)
      exact Idealize.ShloMosaic.Ideal.ofBits_zero_f32
    · rw [if_neg (by omega), Routing.scatter_set_miss _ _ _ _ _ (fun k hk => h1 (hc.mp ((hl k).mp hk).2)), raw_at g r c hg]

/-- One term of the sum. -/
theorem terms_at (x p : Vec Ideal S4096x16384 .f32) (r : Fin 4096) (c : Fin 16384) (P Y : ℝ) (hp : p (ix2 r c) = ((P : ℝ) : EReal)) (hx : x (ix2 r c) = ((Y : ℝ) : EReal)) :
    terms x p (ix2 r c) = ((if 0 < P then P * (Real.log P - Y) else 0 : ℝ) : EReal) := by
  unfold terms
  show Scalar.select (Idealize.ShloMosaic.Ideal.cmp .ogt (p (ix2 r c)) (Idealize.ShloMosaic.Ideal.ofBits .f32 0x00000000#32))
    (p (ix2 r c) * (Idealize.ShloMosaic.Ideal.log (Scalar.select (Idealize.ShloMosaic.Ideal.cmp .ogt (p (ix2 r c)) (Idealize.ShloMosaic.Ideal.ofBits .f32 0x00000000#32)) (p (ix2 r c)) (Idealize.ShloMosaic.Ideal.ofBits .f32 0x3F800000#32)) - x (ix2 r c)) : EReal)
    (Idealize.ShloMosaic.Ideal.ofBits .f32 0x00000000#32) = _
  rw [hp, hx, Idealize.ShloMosaic.Ideal.ofBits_zero_f32, Idealize.ShloMosaic.Ideal.ofBits_one_f32]
  have hq : Idealize.ShloMosaic.Ideal.cmp .ogt ((P : ℝ) : EReal) 0 = 1 ↔ 0 < P :=
    (WordCmp.ofBool_eq_one_iff _).trans (decide_eq_true_iff.trans EReal.coe_pos)
  unfold Scalar.select
  by_cases h : 0 < P
  · rw [if_pos (hq.mpr h), if_pos (hq.mpr h), if_pos h, Idealize.ShloMosaic.Ideal.log_coe, if_neg (not_le.mpr h), ← EReal.coe_sub, ← EReal.coe_mul]
  · rw [if_neg (fun e => h (hq.mp e)), if_neg h, EReal.coe_zero]

/-- The reference's result as a sum of real numbers. -/
theorem reference_val (x : Vec Ideal S4096x16384 .f32) (g : IVec S4096 32) (T : ℕ → ℕ) (Y : ℕ → ℕ → ℝ)
    (hT : ∀ r : Fin 4096, (g (ix1 r)).toNat = T r) (hlt : ∀ r, T r < 16384) (hY : ∀ (r : Fin 4096) (c : Fin 16384), x (ix2 r c) = ((Y r c : ℝ) : EReal)) :
    (Host.reduceAdd (terms x (dist g)) (constant (F := Ideal) S_ .f32 0x00000000#32) reducesTo_S4096x16384_S_d0_1 h_S_ : Vec Ideal S_ .f32)
      = fun _ => ((∑ a ∈ range 4096, ∑ b ∈ range 16384, Cert.Loss.entry (T a) b (Y a b) : ℝ) : EReal) := by
  have ht : ∀ (r : Fin 4096) (c : Fin 16384), terms x (dist g) (ix2 r c) = ((Cert.Loss.entry (T r) c (Y r c) : ℝ) : EReal) := fun r c => by
    have hd := dist_at g r c (fun k => (hT k).symm ▸ hlt k)
    rw [hT] at hd
    unfold Cert.Loss.entry
    have hs : 0 < Cert.Loss.sv := by unfold Cert.Loss.sv; norm_num
    have hs' : 0 < Cert.Loss.sv + Cert.Loss.gw := by unfold Cert.Loss.sv Cert.Loss.gw; norm_num
    by_cases h0 : T r = 0 ∨ c.val = 0
    · rw [if_pos h0] at hd
      rw [terms_at x _ r c 0 _ hd (hY r c), if_neg (lt_irrefl _), if_pos h0]
    · rw [if_neg h0] at hd
      by_cases h1 : c.val = T r
      · rw [if_pos h1] at hd
        rw [terms_at x _ r c _ _ hd (hY r c), if_pos hs', if_neg h0, if_pos h1]
      · rw [if_neg h1] at hd
        rw [terms_at x _ r c _ _ hd (hY r c), if_pos hs, if_neg h0, if_neg h1]
  funext j
  simp only [pointwise]
  rw [zero_add, sum_congr rfl fun r _ => (sum_congr rfl fun c _ => ht r c).trans (Cert.Loss.coe_sum_fin 16384 (fun c => Cert.Loss.entry (T r) c (Y r c)))]
  exact Cert.Loss.coe_sum_fin 4096 (fun r => ∑ c ∈ range 16384, Cert.Loss.entry (T r) c (Y r c))

end Cert.ReferenceIdeal.Val
-- ==== Proof.Value.lean ====
/- The value claim: over the extended reals the kernel returns what the reference returns. -/
module

public import proofs.«01_k».proof.Proof.Frames
public import proofs.«01_k».proof.Proof.VHost
public import proofs.«01_k».proof.Proof.VRef

@[expose] public section

noncomputable section

namespace Cert.Proof

open Idealize.ShloMosaic Idealize.SL.Sem Finset
open Cert.KernelIdeal.Val (X T Reals)

/-- The reference's run under the precondition. -/
theorem frame_reference_ideal_pre : Cert.quiescent_ReferenceIdeal_pre_inputs_ok := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A position below the extent, read back from its number. -/
theorem fin_back (n : ℕ) [NeZero n] (r : Fin n) : Fin.ofNat n r.val = r := Fin.ext (Nat.mod_eq_of_lt r.isLt)

/-- Under the precondition the logits are real numbers. -/
theorem reals_of_pre (x : FVec Ideal Cert.KernelIdeal.S4096x16384 .f32) (h : ∀ i, ∃ r : ℝ, x i = ((r : EReal) : Ideal .f32)) : Reals x := fun a b => by
  obtain ⟨r, hr⟩ := h (ValueIdx.ix2 (Fin.ofNat 4096 a) (Fin.ofNat 16384 b))
  have e : Cert.KernelIdeal.Sc.at2 x a b = ((r : ℝ) : EReal) := hr
  unfold X
  rw [e, EReal.toReal_coe]

/-- The reference's result, in the kernel's readings of the two arguments. -/
theorem reference_out (x : FVec Ideal Cert.KernelIdeal.S4096x16384 .f32) (g : IVec Cert.KernelIdeal.S4096 32) (hx : Reals x) (hT : ∀ i, (g i).toNat < 16384)
    (m : (ℓ : Loc Cert.ReferenceIdeal.nD Cert.ReferenceIdeal.τ Cert.ReferenceIdeal.sig) → Buf (Elt Ideal) ℓ) (c : Dev Cert.ReferenceIdeal.nD)
    (h0 : m ((c.tc : Thread Cert.ReferenceIdeal.nD Cert.ReferenceIdeal.τ).loc Cert.ReferenceIdeal.main_arg0) = x)
    (h1 : m ((c.tc : Thread Cert.ReferenceIdeal.nD Cert.ReferenceIdeal.τ).loc Cert.ReferenceIdeal.main_arg1) = g) :
    Cert.ReferenceIdeal.Value.res_main_v36 m c = fun _ => ((∑ a ∈ range 4096, ∑ b ∈ range 16384, Cert.Loss.entry (T g a) b (X x a b) : ℝ) : EReal) := by
  refine (Cert.ReferenceIdeal.Val.res_eq m c).trans ?_
  rw [h0, h1]
  refine Cert.ReferenceIdeal.Val.reference_val x g (T g) (X x) (fun r => ?_) (fun r => hT _) (fun r c => ?_)
  · unfold Cert.KernelIdeal.Val.T
    rw [fin_back]
    rfl
  · refine Eq.trans ?_ (hx r.val c.val)
    unfold Cert.KernelIdeal.Sc.at2
    rw [fin_back, fin_back]
    rfl

/-- The kernel and the reference return the same extended real. -/
theorem algebraic : Cert.algebraic_KernelIdeal_ReferenceIdeal := by
  intro m ρ m' ρ' hpre hagree
  have hx : ∀ d : Dev Cert.KernelIdeal.nD, Reals (m (Cert.KernelIdeal.Sc.xLoc d)) := fun d => reals_of_pre _ (Cert.Pre_inputs_ok.Read.finite _ _ (hpre d))
  have hT := targets_of_pre_ideal m hpre
  refine ⟨fun d _ => ((∑ a ∈ range 4096, ∑ b ∈ range 16384,
      Cert.Loss.entry (T (m (Cert.KernelIdeal.Sc.gLoc d)) a) b (X (m (Cert.KernelIdeal.Sc.xLoc d)) a b) : ℝ) : EReal), ?_, ?_⟩
  · exact (θ_run Cert.KernelIdeal.defs _ _).mono (fun _ h d => ⟨(h.1 d).2.trans (Cert.KernelIdeal.Val.kernel_val m d (hx d) fun _ => hT d _), (h.1 d).1⟩)
      (Cert.KernelIdeal.Sc.run_main (F := Ideal) m ρ hT)
  · exact (θ_run Cert.ReferenceIdeal.defs _ _).mono
      (fun _ h d => ⟨(h d).1.trans (reference_out _ _ (hx d) (fun i => hT d i) m' d (hagree d).1 (hagree d).2), (h d).2⟩)
      (Cert.ReferenceIdeal.Value.run (F := Ideal) m' ρ')

end Cert.Proof

end
-- ==== Proof.lean ====
/- The proof of the certificate's claims: each is a theorem of the modules imported here. -/
module

public import proofs.«01_k».proof.Defs
public import proofs.«01_k».proof.Proof.Frames
public import proofs.«01_k».proof.Proof.Value

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Reference.Gen.facts, Cert.Pre_inputs_ok.Gen.facts,
    frame_kernel, frame_kernel_ideal, frame_reference_ideal, frame_reference_ideal_pre, frame_reference, preserves_kernel, trivial, algebraic⟩

end Cert.Proof

end
